-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_in_range : Cert.Pre_in_range.Facts] (m : (ℓ : Loc Cert.Kernel5.nD Cert.Kernel5.τ Cert.Kernel5.sig) → Buf (Elt Bits) ℓ) : Prop :=
  ∀ c : Dev Cert.Kernel5.nD,
    (Cert.Pre_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7))) = (fun _ => 1#1)

def Pre_Kernel5Ideal [hPre_in_range : Cert.Pre_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_range [hPre_in_range : Cert.Pre_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_is_expert [hPre_is_expert : Cert.Pre_is_expert.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_is_expert.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_is_expert [hPre_is_expert : Cert.Pre_is_expert.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_is_expert.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] [hPre_in_range : Cert.Pre_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] [hPre_in_range : Cert.Pre_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_in_range [hReference5Ideal : Cert.Reference5Ideal.Facts] [hPre_in_range : Cert.Pre_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_is_expert [hKernel6Ideal : Cert.Kernel6Ideal.Facts] [hPre_is_expert : Cert.Pre_is_expert.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_is_expert m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_is_expert [hReference6Ideal : Cert.Reference6Ideal.Facts] [hPre_is_expert : Cert.Pre_is_expert.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_is_expert m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] [hPre_in_range : Cert.Pre_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_is_expert [hKernel6Ideal : Cert.Kernel6Ideal.Facts] [hReference6Ideal : Cert.Reference6Ideal.Facts] [hPre_is_expert : Cert.Pre_is_expert.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_is_expert m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v32_0)) (v1 : (c : Dev Cert.Kernel7Ideal.nD) → Buf (Elt Ideal) ((c.tc : Thread Cert.Kernel7Ideal.nD Cert.Kernel7Ideal.τ).loc Cert.Kernel7Ideal.main_v32_1)) (v2 : (c : Dev Cert.Kernel7Ideal.nD) → Buf (Elt Ideal) ((c.tc : Thread Cert.Kernel7Ideal.nD Cert.Kernel7Ideal.τ).loc Cert.Kernel7Ideal.main_v32_2)) (v3 : (c : Dev Cert.Kernel7Ideal.nD) → Buf (Elt Ideal) ((c.tc : Thread Cert.Kernel7Ideal.nD Cert.Kernel7Ideal.τ).loc Cert.Kernel7Ideal.main_v32_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32_0) = v0 c
          ∧ r.2.mem ((c.tc : Thread Cert.Kernel7Ideal.nD Cert.Kernel7Ideal.τ).loc Cert.Kernel7Ideal.main_v32_1) = v1 c
          ∧ r.2.mem ((c.tc : Thread Cert.Kernel7Ideal.nD Cert.Kernel7Ideal.τ).loc Cert.Kernel7Ideal.main_v32_2) = v2 c
          ∧ r.2.mem ((c.tc : Thread Cert.Kernel7Ideal.nD Cert.Kernel7Ideal.τ).loc Cert.Kernel7Ideal.main_v32_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v44) = v2 c
          ∧ r.2.mem ((c.tc : Thread Cert.Reference7Ideal.nD Cert.Reference7Ideal.τ).loc Cert.Reference7Ideal.main_v45) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)) (v5 : (c : Dev Cert.Kernel8Ideal.nD) → Buf (Elt Ideal) ((c.tc : Thread Cert.Kernel8Ideal.nD Cert.Kernel8Ideal.τ).loc Cert.Kernel8Ideal.main_v5_5)) (v6 : (c : Dev Cert.Kernel8Ideal.nD) → Buf (Elt Ideal) ((c.tc : Thread Cert.Kernel8Ideal.nD Cert.Kernel8Ideal.τ).loc Cert.Kernel8Ideal.main_v5_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_v5_5) = v5 c
          ∧ r.2.mem ((c.tc : Thread Cert.Kernel8Ideal.nD Cert.Kernel8Ideal.τ).loc Cert.Kernel8Ideal.main_v5_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_v81) = v1 c
          ∧ r.2.mem ((c.tc : Thread Cert.Reference8Ideal.nD Cert.Reference8Ideal.τ).loc Cert.Reference8Ideal.main_v83) = v2 c
          ∧ r.2.mem ((c.tc : Thread Cert.Reference8Ideal.nD Cert.Reference8Ideal.τ).loc Cert.Reference8Ideal.main_v86) = v3 c
          ∧ r.2.mem ((c.tc : Thread Cert.Reference8Ideal.nD Cert.Reference8Ideal.τ).loc Cert.Reference8Ideal.main_v88) = v4 c
          ∧ r.2.mem ((c.tc : Thread Cert.Reference8Ideal.nD Cert.Reference8Ideal.τ).loc Cert.Reference8Ideal.main_v90) = v5 c
          ∧ r.2.mem ((c.tc : Thread Cert.Reference8Ideal.nD Cert.Reference8Ideal.τ).loc Cert.Reference8Ideal.main_v94) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_in_range : Cert.Pre_in_range.Facts) (hPre_is_expert : Cert.Pre_is_expert.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_in_range := hPre_in_range)
    ∧ quiescent_Kernel5Ideal (hKernel5Ideal := hKernel5Ideal) (hPre_in_range := hPre_in_range)
    ∧ quiescent_Reference5Ideal (hReference5Ideal := hReference5Ideal)
    ∧ quiescent_Reference5Ideal_pre_in_range (hReference5Ideal := hReference5Ideal) (hPre_in_range := hPre_in_range)
    ∧ quiescent_Kernel6 (hKernel6 := hKernel6)
    ∧ quiescent_Kernel6Ideal (hKernel6Ideal := hKernel6Ideal)
    ∧ quiescent_Kernel6Ideal_pre_is_expert (hKernel6Ideal := hKernel6Ideal) (hPre_is_expert := hPre_is_expert)
    ∧ quiescent_Reference6Ideal (hReference6Ideal := hReference6Ideal)
    ∧ quiescent_Reference6Ideal_pre_is_expert (hReference6Ideal := hReference6Ideal) (hPre_is_expert := hPre_is_expert)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_in_range := hPre_in_range)
    ∧ preserves_Kernel6_Kernel6Ideal
    ∧ algebraic_Kernel6Ideal_Reference6Ideal_pre_is_expert (hKernel6Ideal := hKernel6Ideal) (hReference6Ideal := hReference6Ideal) (hPre_is_expert := hPre_is_expert)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_in_range.lean ====
abbrev S16384x2048 : Shape := ⟨2, ![16384, 2048]⟩
abbrev S16384x512 : Shape := ⟨2, ![16384, 512]⟩
abbrev S512x2048 : Shape := ⟨2, ![512, 2048]⟩
abbrev S8x16384 : Shape := ⟨2, ![8, 16384]⟩
abbrev S16384x8 : Shape := ⟨2, ![16384, 8]⟩
abbrev S1310720x128 : Shape := ⟨2, ![1310720, 128]⟩
abbrev S2048 : Shape := ⟨1, ![2048]⟩
abbrev S_ : Shape := ⟨0, ![]⟩

class Facts : Prop where
  bcast_S_S8x16384 : S_.BroadcastsInDim S8x16384 (![] : Fin 0 → Fin S8x16384.rank)
  reducesTo_S8x16384_S_d0_1 : S8x16384.ReducesTo [0, 1] S_
  h_S_ : 0 < S_.numel

variable [Facts]

def fn {F : FTy → Type} [FloatOps F] (main_arg0 : FVec F S16384x2048 .f32) (main_arg1 : FVec F S16384x512 .bf16) (main_arg2 : FVec F S512x2048 .f32) (main_arg3 : IVec S8x16384 32) (main_arg4 : FVec F S16384x8 .f32) (main_arg5 : IVec S1310720x128 32) (main_arg6 : FVec F S2048 .f32) (main_arg7 : FVec F S2048 .f32) : IVec S_ 1 :=
  let main_c : IVec S_ 32 := constantI S_ 32 0#32
  let main_v0 : IVec S8x16384 32 := broadcastInDim S8x16384 ![] bcast_S_S8x16384 main_c
  let main_v1 : IVec S8x16384 1 := cmpi .sge main_arg3 main_v0
  let main_c_0 : IVec S_ 32 := constantI S_ 32 163840#32
  let main_v2 : IVec S8x16384 32 := broadcastInDim S8x16384 ![] bcast_S_S8x16384 main_c_0
  let main_v3 : IVec S8x16384 1 := cmpi .slt main_arg3 main_v2
  let main_v4 : IVec S8x16384 1 := andi main_v1 main_v3
  let main_c_1 : IVec S_ 1 := constantI S_ 1 1#1
  let main_v5 : IVec S_ 1 := (fun x v => Host.reduce IntOp.andi x v reducesTo_S8x16384_S_d0_1 h_S_) main_v4 main_c_1
  main_v5
-- ==== Pre_is_expert.lean ====
abbrev S64 : Shape := ⟨1, ![64]⟩
abbrev S8x16384 : Shape := ⟨2, ![8, 16384]⟩
abbrev S_ : Shape := ⟨0, ![]⟩

class Facts : Prop where
  bcast_S_S8x16384 : S_.BroadcastsInDim S8x16384 (![] : Fin 0 → Fin S8x16384.rank)
  reducesTo_S8x16384_S_d0_1 : S8x16384.ReducesTo [0, 1] S_
  h_S_ : 0 < S_.numel

variable [Facts]

def fn {F : FTy → Type} [FloatOps F] (main_arg0 : IVec S64 32) (main_arg1 : IVec S8x16384 32) (main_arg2 : IVec S8x16384 32) : IVec S_ 1 :=
  let main_c : IVec S_ 32 := constantI S_ 32 0#32
  let main_v0 : IVec S8x16384 32 := broadcastInDim S8x16384 ![] bcast_S_S8x16384 main_c
  let main_v1 : IVec S8x16384 1 := cmpi .sge main_arg1 main_v0
  let main_c_0 : IVec S_ 32 := constantI S_ 32 64#32
  let main_v2 : IVec S8x16384 32 := broadcastInDim S8x16384 ![] bcast_S_S8x16384 main_c_0
  let main_v3 : IVec S8x16384 1 := cmpi .slt main_arg1 main_v2
  let main_v4 : IVec S8x16384 1 := andi main_v1 main_v3
  let main_c_1 : IVec S_ 1 := constantI S_ 1 1#1
  let main_v5 : IVec S_ 1 := (fun x v => Host.reduce IntOp.andi x v reducesTo_S8x16384_S_d0_1 h_S_) main_v4 main_c_1
  main_v5
-- ==== Kernel.lean ====
abbrev S16384x2048 : Shape := ⟨2, ![16384, 2048]⟩
abbrev S16384x1024 : Shape := ⟨2, ![16384, 1024]⟩
abbrev S2048x2048 : Shape := ⟨2, ![2048, 2048]⟩
abbrev S16384x16384 : Shape := ⟨2, ![16384, 16384]⟩
abbrev S1x128 : Shape := ⟨2, ![1, 128]⟩
abbrev S512x2048 : Shape := ⟨2, ![512, 2048]⟩
abbrev S512x1024 : Shape := ⟨2, ![512, 1024]⟩
abbrev S64x2048 : Shape := ⟨2, ![64, 2048]⟩
abbrev S16x128x128 : Shape := ⟨3, ![16, 128, 128]⟩
abbrev S1x128x128 : Shape := ⟨3, ![1, 128, 128]⟩
abbrev S128x128 : Shape := ⟨2, ![128, 128]⟩
abbrev S64x128 : Shape := ⟨2, ![64, 128]⟩
abbrev S64x64 : Shape := ⟨2, ![64, 64]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x1024, .bf16⟩
  | .hbm, ⟨5, _⟩ => ⟨S2048x2048, .f32⟩
  | .hbm, ⟨6, _⟩ => ⟨S16384x16384, .f32⟩
  | .hbm, ⟨7, _⟩ => ⟨S1x128, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S64x2048, .f32⟩
  | .local _ .vmem, ⟨11, _⟩ => ⟨S64x2048, .f32⟩
  | .local _ .vmem, ⟨12, _⟩ => ⟨S512x2048, .f32⟩
  | .local _ .vmem, ⟨13, _⟩ => ⟨S512x2048, .f32⟩
  | .local _ .vmem, ⟨14, _⟩ => ⟨S1x128, .f32⟩
  | .local _ .vmem, ⟨15, _⟩ => ⟨S512x2048, .bf16⟩
  | .local _ .vmem, ⟨16, _⟩ => ⟨S512x2048, .bf16⟩
  | .local _ .vmem, ⟨17, _⟩ => ⟨S16x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x2048 : Shape := ⟨2, ![16384, 2048]⟩
abbrev S16384x1024 : Shape := ⟨2, ![16384, 1024]⟩
abbrev S2048x2048 : Shape := ⟨2, ![2048, 2048]⟩
abbrev S16384x16384 : Shape := ⟨2, ![16384, 16384]⟩
abbrev S1x128 : Shape := ⟨2, ![1, 128]⟩
abbrev S4x64x8x16x128 : Shape := ⟨5, ![4, 64, 8, 16, 128]⟩
abbrev S4x64x1x16x128 : Shape := ⟨5, ![4, 64, 1, 16, 128]⟩
abbrev S4x64x16x128 : Shape := ⟨4, ![4, 64, 16, 128]⟩
abbrev S64x4x16x128 : Shape := ⟨4, ![64, 4, 16, 128]⟩
abbrev S4x64x64x16x128 : Shape := ⟨5, ![4, 64, 64, 16, 128]⟩
abbrev S64x4x16x64x128 : Shape := ⟨5, ![64, 4, 16, 64, 128]⟩
abbrev S4x64x64x16x64 : Shape := ⟨5, ![4, 64, 64, 16, 64]⟩
abbrev S64x4x16x64x64 : Shape := ⟨5, ![64, 4, 16, 64, 64]⟩
abbrev S_ : Shape := ⟨0, ![]⟩
abbrev S4x16x128x128 : Shape := ⟨4, ![4, 16, 128, 128]⟩
abbrev S1x4x16x64x128 : Shape := ⟨5, ![1, 4, 16, 64, 128]⟩
abbrev S4x16x64x128 : Shape := ⟨4, ![4, 16, 64, 128]⟩
abbrev S1x4x16x64x64 : Shape := ⟨5, ![1, 4, 16, 64, 64]⟩
abbrev S4x16x64x64 : Shape := ⟨4, ![4, 16, 64, 64]⟩
abbrev S1x4x16x128 : Shape := ⟨4, ![1, 4, 16, 128]⟩
abbrev S4x16x128 : Shape := ⟨3, ![4, 16, 128]⟩
abbrev S4x16x1x128 : Shape := ⟨4, ![4, 16, 1, 128]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩
abbrev S128 : Shape := ⟨1, ![128]⟩
abbrev S1x1x1x128 : Shape := ⟨4, ![1, 1, 1, 128]⟩

abbrev nBuf : Space → Nat
  | .hbm => 128
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x1024, .bf16⟩
  | .hbm, ⟨5, _⟩ => ⟨S2048x2048, .f32⟩
  | .hbm, ⟨6, _⟩ => ⟨S16384x16384, .f32⟩
  | .hbm, ⟨7, _⟩ => ⟨S1x128, .f32⟩
  | .hbm, ⟨8, _⟩ => ⟨S4x64x8x16x128, .f32⟩
  | .hbm, ⟨9, _⟩ => ⟨S4x64x1x16x128, .f32⟩
  | .hbm, ⟨10, _⟩ => ⟨S4x64x16x128, .f32⟩
  | .hbm, ⟨11, _⟩ => ⟨S64x4x16x128, .f32⟩
  | .hbm, ⟨12, _⟩ => ⟨S4x64x64x16x128, .f32⟩
  | .hbm, ⟨13, _⟩ => ⟨S64x4x16x64x128, .f32⟩
  | .hbm, ⟨14, _⟩ => ⟨S16384x2048, .f32⟩
  | .hbm, ⟨15, _⟩ => ⟨S4x64x64x16x128, .f32⟩
  | .hbm, ⟨16, _⟩ => ⟨S64x4x16x64x128, .f32⟩
  | .hbm, ⟨17, _⟩ => ⟨S16384x2048, .f32⟩
  | .hbm, ⟨18, _⟩ => ⟨S4x64x64x16x128, .f32⟩
  | .hbm, ⟨19, _⟩ => ⟨S64x4x16x64x128, .f32⟩
  | .hbm, ⟨20, _⟩ => ⟨S16384x2048, .f32⟩
  | .hbm, ⟨21, _⟩ => ⟨S4x64x64x16x128, .f32⟩
  | .hbm, ⟨22, _⟩ => ⟨S64x4x16x64x128, .f32⟩
  | .hbm, ⟨23, _⟩ => ⟨S16384x1024, .f32⟩
  | .hbm, ⟨24, _⟩ => ⟨S4x64x64x16x64, .f32⟩
  | .hbm, ⟨25, _⟩ => ⟨S64x4x16x64x64, .f32⟩
  | .hbm, ⟨26, _⟩ => ⟨S_, .f32⟩
  | .hbm, ⟨27, _⟩ => ⟨S4x16x128x128, .f32⟩
  | .hbm, ⟨28, _⟩ => ⟨S_, .f32⟩
  | .hbm, ⟨29, _⟩ => ⟨S64x4x16x64x128, .f32⟩
  | .hbm, ⟨30, _⟩ => ⟨S_, .i32⟩
  | .hbm, ⟨31, _⟩ => ⟨S64x4x16x64x128, .f32⟩
  | .hbm, ⟨32, _⟩ => ⟨S64x4x16x64x128, .f32⟩
  | .hbm, ⟨33, _⟩ => ⟨S64x4x16x64x128, .f32⟩
  | .hbm, ⟨34, _⟩ => ⟨S64x4x16x64x128, .f32⟩
  | .hbm, ⟨35, _⟩ => ⟨S64x4x16x64x64, .f32⟩
  | .hbm, ⟨36, _⟩ => ⟨S64x4x16x128, .f32⟩
  | .hbm, ⟨37, _⟩ => ⟨S_, .i32⟩
  | .hbm, ⟨38, _⟩ => ⟨S4x16x128x128, .f32⟩
  | .hbm, ⟨39, _⟩ => ⟨S64x4x16x64x128, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x4x16x64x128, .f32⟩
  | .hbm, ⟨47, _⟩ => ⟨S4x16x64x128, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x16x64x128, .f32⟩
  | .hbm, ⟨53, _⟩ => ⟨S4x16x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x4x16x64x128, .f32⟩
  | .hbm, ⟨59, _⟩ => ⟨S4x16x64x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x4x16x64x128, .f32⟩
  | .hbm, ⟨65, _⟩ => ⟨S4x16x64x128, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x4x16x64x64, .f32⟩
  | .hbm, ⟨71, _⟩ => ⟨S4x16x64x64, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x4x16x128, .f32⟩
  | .hbm, ⟨76, _⟩ => ⟨S4x16x128, .f32⟩
  | .hbm, ⟨77, _⟩ => ⟨S4x16x64x128, .f32⟩
  | .hbm, ⟨78, _⟩ => ⟨S4x16x64x128, .f32⟩
  | .hbm, ⟨79, _⟩ => ⟨S4x16x64x128, .f32⟩
  | .hbm, ⟨80, _⟩ => ⟨S4x16x64x128, .f32⟩
  | .hbm, ⟨81, _⟩ => ⟨S4x16x64x128, .f32⟩
  | .hbm, ⟨82, _⟩ => ⟨S4x16x1x128, .f32⟩
  | .hbm, ⟨83, _⟩ => ⟨S4x16x128x128, .f32⟩
  | .hbm, ⟨84, _⟩ => ⟨S4x16x128x128, .f32⟩
  | .hbm, ⟨85, _⟩ => ⟨S4x16x128x128, .f32⟩
  | .hbm, ⟨86, _⟩ => ⟨S4x16x128x128, .f32⟩
  | .hbm, ⟨87, _⟩ => ⟨S1x4x16x64x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S64x4x16x64x128, .f32⟩
  | .hbm, ⟨93, _⟩ => ⟨S_, .i32⟩
  | .hbm, ⟨94, _⟩ => ⟨S_, .i32⟩
  | .hbm, ⟨95, _⟩ => ⟨S4x64x64x16x128, .f32⟩
  | .hbm, ⟨96, _⟩ => ⟨S4x4096x16x128, .f32⟩
  | .hbm, ⟨97, _⟩ => ⟨S16384x2048, .f32⟩
  | .hbm, ⟨98, _⟩ => ⟨S4x4096x16x128, .f32⟩
  | .hbm, ⟨99, _⟩ => ⟨S4x4096x16x128, .f32⟩
  | .hbm, ⟨100, _⟩ => ⟨S_, .f32⟩
  | .hbm, ⟨101, _⟩ => ⟨S4x4096x16, .f32⟩
  | .hbm, ⟨102, _⟩ => ⟨S4x4096x16x1, .f32⟩
  | .hbm, ⟨103, _⟩ => ⟨S_, .f32⟩
  | .hbm, ⟨104, _⟩ => ⟨S4x4096x16x1, .f32⟩
  | .hbm, ⟨105, _⟩ => ⟨S4x4096x16x1, .f32⟩
  | .hbm, ⟨106, _⟩ => ⟨S_, .f32⟩
  | .hbm, ⟨107, _⟩ => ⟨S4x4096x16x1, .f32⟩
  | .hbm, ⟨108, _⟩ => ⟨S4x4096x16x1, .f32⟩
  | .hbm, ⟨109, _⟩ => ⟨S4x4096x16x1, .f32⟩
  | .hbm, ⟨110, _⟩ => ⟨S4x4096x16x128, .f32⟩
  | .hbm, ⟨111, _⟩ => ⟨S4x4096x16x128, .f32⟩
  | .hbm, ⟨112, _⟩ => ⟨S128, .f32⟩
  | .hbm, ⟨113, _⟩ => ⟨S1x1x1x128, .f32⟩
  | .hbm, ⟨114, _⟩ => ⟨S4x4096x16x128, .f32⟩
  | .hbm, ⟨115, _⟩ => ⟨S4x4096x16x128, .f32⟩
  | .hbm, ⟨116, _⟩ => ⟨S4x4096x16x128, .f32⟩
  | .hbm, ⟨117, _⟩ => ⟨S4x4096x16x128, .f32⟩
  | .hbm, ⟨118, _⟩ => ⟨S_, .f32⟩
  | .hbm, ⟨119, _⟩ => ⟨S4x4096x16x128, .f32⟩
  | .hbm, ⟨120, _⟩ => ⟨S4x4096x16x128, .f32⟩
  | .hbm, ⟨121, _⟩ => ⟨S_, .f32⟩
  | .hbm, ⟨122, _⟩ => ⟨S4x4096x16x128, .f32⟩
  | .hbm, ⟨123, _⟩ => ⟨S4x4096x16x128, .f32⟩
  | .hbm, ⟨124, _⟩ => ⟨S4x4096x16x128, .f32⟩
  | .hbm, ⟨125, _⟩ => ⟨S4x4096x16x128, .f32⟩
  | .hbm, ⟨126, _⟩ => ⟨S16384x2048, .f32⟩
  | .hbm, ⟨127, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_c : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_v20_7 : Ref sig .tc := ⟨.hbm, 38, rfl⟩
abbrev main_v20_8 : Ref sig .tc := ⟨.hbm, 39, rfl⟩
abbrev main_while0c_c_12 : Ref sig .tc := ⟨.hbm, 40, rfl⟩
abbrev main_while0c_v43 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_c_1 : Ref sig .tc := ⟨.hbm, 44, rfl⟩
abbrev main_while0b_call0_c_2 : Ref sig .tc := ⟨.hbm, 45, rfl⟩
abbrev main_while0b_call0_v0 : Ref sig .tc := ⟨.hbm, 46, rfl⟩
abbrev main_while0b_v43 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_c_2 : Ref sig .tc := ⟨.hbm, 51, rfl⟩
abbrev main_while0b_call1_v0 : Ref sig .tc := ⟨.hbm, 52, rfl⟩
abbrev main_while0b_v44 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_c_2 : Ref sig .tc := ⟨.hbm, 57, rfl⟩
abbrev main_while0b_call2_v0 : Ref sig .tc := ⟨.hbm, 58, rfl⟩
abbrev main_while0b_v45 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_c_2 : Ref sig .tc := ⟨.hbm, 63, rfl⟩
abbrev main_while0b_call3_v0 : Ref sig .tc := ⟨.hbm, 64, rfl⟩
abbrev main_while0b_v46 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_c_2 : Ref sig .tc := ⟨.hbm, 69, rfl⟩
abbrev main_while0b_call4_v0 : Ref sig .tc := ⟨.hbm, 70, rfl⟩
abbrev main_while0b_v47 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_c_1 : Ref sig .tc := ⟨.hbm, 74, rfl⟩
abbrev main_while0b_call5_v0 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_v58 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_v59 : Ref sig .tc := ⟨.hbm, 92, rfl⟩
abbrev main_while0b_c_12 : Ref sig .tc := ⟨.hbm, 93, rfl⟩
abbrev main_while0b_v60 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_cst_1 : Ref sig .tc := ⟨.hbm, 100, rfl⟩
abbrev main_v26 : Ref sig .tc := ⟨.hbm, 101, rfl⟩
abbrev main_v27 : Ref sig .tc := ⟨.hbm, 102, rfl⟩
abbrev main_cst_2 : Ref sig .tc := ⟨.hbm, 103, rfl⟩
abbrev main_v28 : Ref sig .tc := ⟨.hbm, 104, rfl⟩
abbrev main_v29 : Ref sig .tc := ⟨.hbm, 105, rfl⟩
abbrev main_cst_3 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_call7_v0 : Ref sig .tc := ⟨.hbm, 116, rfl⟩
abbrev main_call7_v1 : Ref sig .tc := ⟨.hbm, 117, rfl⟩
abbrev main_call7_cst : Ref sig .tc := ⟨.hbm, 118, rfl⟩
abbrev main_call7_v2 : Ref sig .tc := ⟨.hbm, 119, rfl⟩
abbrev main_call7_v3 : Ref sig .tc := ⟨.hbm, 120, rfl⟩
abbrev main_call7_cst_0 : Ref sig .tc := ⟨.hbm, 121, rfl⟩
abbrev main_call7_v4 : Ref sig .tc := ⟨.hbm, 122, rfl⟩
abbrev main_call7_v5 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S2048x16384 : Shape := ⟨2, ![2048, 16384]⟩
abbrev S16384x16384 : Shape := ⟨2, ![16384, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x16384, .bf16⟩
  | .hbm, ⟨2, _⟩ => ⟨S16384x16384, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x16384 : Shape := ⟨2, ![2048, 16384]⟩
abbrev S16384x16384 : Shape := ⟨2, ![16384, 16384]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .bf16⟩
  | .hbm, ⟨2, _⟩ => ⟨S2048x16384, .f32⟩
  | .hbm, ⟨3, _⟩ => ⟨S16384x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S16384x2048 : Shape := ⟨2, ![16384, 2048]⟩
abbrev S2048x2048 : Shape := ⟨2, ![2048, 2048]⟩
abbrev S16384x16384 : Shape := ⟨2, ![16384, 16384]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .f32⟩
  | .hbm, ⟨3, _⟩ => ⟨S2048x2048, .f32⟩
  | .hbm, ⟨4, _⟩ => ⟨S16384x16384, .f32⟩
  | .hbm, ⟨5, _⟩ => ⟨S2048x2048, .bf16⟩
  | .hbm, ⟨6, _⟩ => ⟨S2048x2048, .bf16⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S2048x2048 : Shape := ⟨2, ![2048, 2048]⟩
abbrev S16384x16384 : Shape := ⟨2, ![16384, 16384]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .f32⟩
  | .hbm, ⟨3, _⟩ => ⟨S2048x2048, .f32⟩
  | .hbm, ⟨4, _⟩ => ⟨S16384x16384, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S16384x2048 : Shape := ⟨2, ![16384, 2048]⟩
abbrev S2048x512 : Shape := ⟨2, ![2048, 512]⟩
abbrev S2048x1024 : Shape := ⟨2, ![2048, 1024]⟩
abbrev S16384x512 : Shape := ⟨2, ![16384, 512]⟩
abbrev S512x2048 : Shape := ⟨2, ![512, 2048]⟩
abbrev S512x512 : Shape := ⟨2, ![512, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .bf16⟩
  | .hbm, ⟨5, _⟩ => ⟨S16384x512, .bf16⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x512, .bf16⟩
  | .local _ .vmem, ⟨4, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x2048 : Shape := ⟨2, ![16384, 2048]⟩
abbrev S2048x512 : Shape := ⟨2, ![2048, 512]⟩
abbrev S16384x512 : Shape := ⟨2, ![16384, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x512, .f32⟩
  | .hbm, ⟨2, _⟩ => ⟨S2048x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S16384x2048 : Shape := ⟨2, ![16384, 2048]⟩
abbrev S16384x512 : Shape := ⟨2, ![16384, 512]⟩
abbrev S512x2048 : Shape := ⟨2, ![512, 2048]⟩
abbrev S8x16384 : Shape := ⟨2, ![8, 16384]⟩
abbrev S16384x8 : Shape := ⟨2, ![16384, 8]⟩
abbrev S1310720x128 : Shape := ⟨2, ![1310720, 128]⟩
abbrev S2048 : Shape := ⟨1, ![2048]⟩
abbrev S1x2048 : Shape := ⟨2, ![1, 2048]⟩
abbrev S8x256 : Shape := ⟨2, ![8, 256]⟩
abbrev S256x2048 : Shape := ⟨2, ![256, 2048]⟩
abbrev S256x512 : Shape := ⟨2, ![256, 512]⟩
abbrev S256x8 : Shape := ⟨2, ![256, 8]⟩
abbrev S2x16384x128 : Shape := ⟨3, ![2, 16384, 128]⟩
abbrev S2 : Shape := ⟨1, ![2]⟩
abbrev S1x1 : Shape := ⟨2, ![1, 1]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S1x16384x128 : Shape := ⟨3, ![1, 16384, 128]⟩
abbrev S16384x128 : Shape := ⟨2, ![16384, 128]⟩
abbrev S256x1024 : Shape := ⟨2, ![256, 1024]⟩
abbrev S1x256x128 : Shape := ⟨3, ![1, 256, 128]⟩
abbrev S256x128 : Shape := ⟨2, ![256, 128]⟩
abbrev S256x1 : Shape := ⟨2, ![256, 1]⟩
abbrev S256 : Shape := ⟨1, ![256]⟩

abbrev nBuf : Space → Nat
  | .hbm => 12
  | .vmem => 12
  | .smem => 4
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S512x2048, .f32⟩
  | .hbm, ⟨3, _⟩ => ⟨S8x16384, .i32⟩
  | .hbm, ⟨4, _⟩ => ⟨S16384x8, .f32⟩
  | .hbm, ⟨5, _⟩ => ⟨S1310720x128, .i32⟩
  | .hbm, ⟨6, _⟩ => ⟨S2048, .f32⟩
  | .hbm, ⟨7, _⟩ => ⟨S2048, .f32⟩
  | .hbm, ⟨8, _⟩ => ⟨S512x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S512x2048, .bf16⟩
  | .local _ .vmem, ⟨5, _⟩ => ⟨S256x8, .f32⟩
  | .local _ .vmem, ⟨6, _⟩ => ⟨S256x8, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S2x16384x128, .i32⟩
  | .local _ .smem, ⟨0, _⟩ => ⟨S8x256, .i32⟩
  | .local _ .smem, ⟨1, _⟩ => ⟨S8x256, .i32⟩
  | .local _ .smem, ⟨2, _⟩ => ⟨S8x256, .i32⟩
  | .local _ .smem, ⟨3, _⟩ => ⟨S8x256, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_111 : BitVec 32 := 0#32
  let c256_i32 : BitVec 32 := 256#32
  let v364 : BitVec 32 := Scalar.addi c0_i32_111 c256_i32
  let c1_i32_112 : BitVec 32 := 1#32
  ⟨c0_i32_111, v364, c1_i32_112⟩
def k0_off1 (k0_t1 : Fin k0_t1_loop.trips) : Fin 2 → Nat :=
  let c0_114 : Index := 0#32
  let c0_i32_111 : BitVec 32 := 0#32
  let c1_i32_112 : BitVec 32 := 1#32
  let arg13 : BitVec 32 := Scf.iv c0_i32_111 c1_i32_112 k0_t1
  let v365 : Index := Scalar.indexCast arg13
  ![0, v365.toNat]
def k0_mult1 (v366 : BitVec 32) : BitVec 32 :=
  let c8_i32 : BitVec 32 := 8#32
  let v367 : BitVec 32 := Scalar.muli v366 c8_i32
  v367

def k0_mult2 (k0_t1 : Fin k0_t1_loop.trips) : BitVec 32 :=
  let c0_i32_115 : BitVec 32 := 0#32
  let c0_i32_111 : BitVec 32 := 0#32
  let c1_i32_112 : BitVec 32 := 1#32
  let arg13 : BitVec 32 := Scf.iv c0_i32_111 c1_i32_112 k0_t1
  let v369 : BitVec 32 := Scalar.addi c0_i32_115 arg13
  let c8_i32_116 : BitVec 32 := 8#32
  let v370 : BitVec 32 := Scalar.muli v369 c8_i32_116
  v370
def k0_off2 (k0_t1 : Fin k0_t1_loop.trips) : Fin 3 → Nat :=
  let c0_i32_117 : BitVec 32 := 0#32
  let c0_i32_115 : BitVec 32 := 0#32
  let c0_i32_111 : BitVec 32 := 0#32
  let c1_i32_112 : BitVec 32 := 1#32
  let arg13 : BitVec 32 := Scf.iv c0_i32_111 c1_i32_112 k0_t1
  let v369 : BitVec 32 := Scalar.addi c0_i32_115 arg13
  let c8_i32_116 : BitVec 32 := 8#32
  let v370 : BitVec 32 := Scalar.muli v369 c8_i32_116
  let v371 : BitVec 32 := v370
  let c0_i32_119 : BitVec 32 := 0#32
  ![0, v371.toNat, 0]
def k0_off3 (v366 : BitVec 32) : Fin 2 → Nat :=
  let c8_i32 : BitVec 32 := 8#32
  let v367 : BitVec 32 := Scalar.muli v366 c8_i32
  let v368 : BitVec 32 := v367
  let c0_i32_120 : BitVec 32 := 0#32
  ![v368.toNat, 0]

def k0_chk1 (i : grid0.Coords) (v366 : BitVec 32) : Prop :=
  (∀ (k0_h1 : k0_cond1 i = 1#1), 8 ∣ (k0_mult1 v366).toNat) ∧
  (∀ (k0_h1 : k0_cond1 i = 1#1), ∀ a, (k0_off3 v366) a + S8x128.size a ≤ S1310720x128.size a)
theorem k0_mult1_dvd : ∀ (i : grid0.Coords) (v366 : BitVec 32) (k0_hw1 : k0_chk1 i v366), ∀ (k0_h1 : k0_cond1 i = 1#1), 8 ∣ (k0_mult1 v366).toNat := fun i v366 k0_hw1 k0_h1 => k0_hw1.1 k0_h1
theorem k0_off3_inb : ∀ (i : grid0.Coords) (v366 : BitVec 32) (k0_hw1 : k0_chk1 i v366), ∀ (k0_h1 : k0_cond1 i = 1#1), ∀ a, (k0_off3 v366) a + S8x128.size a ≤ S1310720x128.size a := fun i v366 k0_hw1 k0_h1 => k0_hw1.2 k0_h1

def k0_off4 (k0_t1 : Fin k0_t1_loop.trips) : Fin 2 → Nat :=
  let c1_121 : Index := 1#32
  let c0_i32_111 : BitVec 32 := 0#32
  let c1_i32_112 : BitVec 32 := 1#32
  let arg13 : BitVec 32 := Scf.iv c0_i32_111 c1_i32_112 k0_t1
  let v377 : Index := Scalar.indexCast arg13
  ![1, v377.toNat]
def k0_mult3 (v378 : BitVec 32) : BitVec 32 :=
  let c8_i32_122 : BitVec 32 := 8#32
  let v379 : BitVec 32 := Scalar.muli v378 c8_i32_122
  v379

def k0_mult4 (k0_t1 : Fin k0_t1_loop.trips) : BitVec 32 :=
  let c256_i32_123 : BitVec 32 := 256#32
  let c0_i32_111 : BitVec 32 := 0#32
  let c1_i32_112 : BitVec 32 := 1#32
  let arg13 : BitVec 32 := Scf.iv c0_i32_111 c1_i32_112 k0_t1
  let v381 : BitVec 32 := Scalar.addi c256_i32_123 arg13
  let c8_i32_124 : BitVec 32 := 8#32
  let v382 : BitVec 32 := Scalar.muli v381 c8_i32_124
  v382
def k0_off5 (k0_t1 : Fin k0_t1_loop.trips) : Fin 3 → Nat :=
  let c0_i32_125 : BitVec 32 := 0#32
  let c256_i32_123 : BitVec 32 := 256#32
  let c0_i32_111 : BitVec 32 := 0#32
  let c1_i32_112 : BitVec 32 := 1#32
  let arg13 : BitVec 32 := Scf.iv c0_i32_111 c1_i32_112 k0_t1
  let v381 : BitVec 32 := Scalar.addi c256_i32_123 arg13
  let c8_i32_124 : BitVec 32 := 8#32
  let v382 : BitVec 32 := Scalar.muli v381 c8_i32_124
  let v383 : BitVec 32 := v382
  let c0_i32_127 : BitVec 32 := 0#32
  ![0, v383.toNat, 0]
def k0_off6 (v378 : BitVec 32) : Fin 2 → Nat :=
  let c8_i32_122 : BitVec 32 := 8#32
  let v379 : BitVec 32 := Scalar.muli v378 c8_i32_122
  let v380 : BitVec 32 := v379
  let c0_i32_128 : BitVec 32 := 0#32
  ![v380.toNat, 0]

def k0_chk2 (i : grid0.Coords) (v378 : BitVec 32) : Prop :=
  (∀ (k0_h1 : k0_cond1 i = 1#1), 8 ∣ (k0_mult3 v378).toNat) ∧
  (∀ (k0_h1 : k0_cond1 i = 1#1), ∀ a, (k0_off6 v378) a + S8x128.size a ≤ S1310720x128.size a)
theorem k0_mult3_dvd : ∀ (i : grid0.Coords) (v378 : BitVec 32) (k0_hw2 : k0_chk2 i v378), ∀ (k0_h1 : k0_cond1 i = 1#1), 8 ∣ (k0_mult3 v378).toNat := fun i v378 k0_hw2 k0_h1 => k0_hw2.1 k0_h1
theorem k0_off6_inb : ∀ (i : grid0.Coords) (v378 : BitVec 32) (k0_hw2 : k0_chk2 i v378), ∀ (k0_h1 : k0_cond1 i = 1#1), ∀ a, (k0_off6 v378) a + S8x128.size a ≤ S1310720x128.size a := fun i v378 k0_hw2 k0_h1 => k0_hw2.2 k0_h1

def k0_off7 (k0_t1 : Fin k0_t1_loop.trips) : Fin 2 → Nat :=
  let c2_129 : Index := 2#32
  let c0_i32_111 : BitVec 32 := 0#32
  let c1_i32_112 : BitVec 32 := 1#32
  let arg13 : BitVec 32 := Scf.iv c0_i32_111 c1_i32_112 k0_t1
  let v389 : Index := Scalar.indexCast arg13
  ![2, v389.toNat]
def k0_mult5 (v390 : BitVec 32) : BitVec 32 :=
  let c8_i32_130 : BitVec 32 := 8#32
  let v391 : BitVec 32 := Scalar.muli v390 c8_i32_130
  v391

def k0_mult6 (k0_t1 : Fin k0_t1_loop.trips) : BitVec 32 :=
  let c512_i32 : BitVec 32 := 512#32
  let c0_i32_111 : BitVec 32 := 0#32
  let c1_i32_112 : BitVec 32 := 1#32
  let arg13 : BitVec 32 := Scf.iv c0_i32_111 c1_i32_112 k0_t1
  let v393 : BitVec 32 := Scalar.addi c512_i32 arg13
  let c8_i32_131 : BitVec 32 := 8#32
  let v394 : BitVec 32 := Scalar.muli v393 c8_i32_131
  v394
def k0_off8 (k0_t1 : Fin k0_t1_loop.trips) : Fin 3 → Nat :=
  let c0_i32_132 : BitVec 32 := 0#32
  let c512_i32 : BitVec 32 := 512#32
  let c0_i32_111 : BitVec 32 := 0#32
  let c1_i32_112 : BitVec 32 := 1#32
  let arg13 : BitVec 32 := Scf.iv c0_i32_111 c1_i32_112 k0_t1
  let v393 : BitVec 32 := Scalar.addi c512_i32 arg13
  let c8_i32_131 : BitVec 32 := 8#32
  let v394 : BitVec 32 := Scalar.muli v393 c8_i32_131
  let v395 : BitVec 32 := v394
  let c0_i32_134 : BitVec 32 := 0#32
  ![0, v395.toNat, 0]
def k0_off9 (v390 : BitVec 32) : Fin 2 → Nat :=
  let c8_i32_130 : BitVec 32 := 8#32
  let v391 : BitVec 32 := Scalar.muli v390 c8_i32_130
  let v392 : BitVec 32 := v391
  let c0_i32_135 : BitVec 32 := 0#32
  ![v392.toNat, 0]

def k0_chk3 (i : grid0.Coords) (v390 : BitVec 32) : Prop :=
  (∀ (k0_h1 : k0_cond1 i = 1#1), 8 ∣ (k0_mult5 v390).toNat) ∧
  (∀ (k0_h1 : k0_cond1 i = 1#1), ∀ a, (k0_off9 v390) a + S8x128.size a ≤ S1310720x128.size a)
theorem k0_mult5_dvd : ∀ (i : grid0.Coords) (v390 : BitVec 32) (k0_hw3 : k0_chk3 i v390), ∀ (k0_h1 : k0_cond1 i = 1#1), 8 ∣ (k0_mult5 v390).toNat := fun i v390 k0_hw3 k0_h1 => k0_hw3.1 k0_h1
theorem k0_off9_inb : ∀ (i : grid0.Coords) (v390 : BitVec 32) (k0_hw3 : k0_chk3 i v390), ∀ (k0_h1 : k0_cond1 i = 1#1), ∀ a, (k0_off9 v390) a + S8x128.size a ≤ S1310720x128.size a := fun i v390 k0_hw3 k0_h1 => k0_hw3.2 k0_h1

def k0_off10 (k0_t1 : Fin k0_t1_loop.trips) : Fin 2 → Nat :=
  let c3_136 : Index := 3#32
  let c0_i32_111 : BitVec 32 := 0#32
  let c1_i32_112 : BitVec 32 := 1#32
  let arg13 : BitVec 32 := Scf.iv c0_i32_111 c1_i32_112 k0_t1
  let v401 : Index := Scalar.indexCast arg13
  ![3, v401.toNat]
def k0_mult7 (v402 : BitVec 32) : BitVec 32 :=
  let c8_i32_137 : BitVec 32 := 8#32
  let v403 : BitVec 32 := Scalar.muli v402 c8_i32_137
  v403

def k0_mult8 (k0_t1 : Fin k0_t1_loop.trips) : BitVec 32 :=
  let c768_i32 : BitVec 32 := 768#32
  let c0_i32_111 : BitVec 32 := 0#32
  let c1_i32_112 : BitVec 32 := 1#32
  let arg13 : BitVec 32 := Scf.iv c0_i32_111 c1_i32_112 k0_t1
  let v405 : BitVec 32 := Scalar.addi c768_i32 arg13
  let c8_i32_138 : BitVec 32 := 8#32
  let v406 : BitVec 32 := Scalar.muli v405 c8_i32_138
  v406
def k0_off11 (k0_t1 : Fin k0_t1_loop.trips) : Fin 3 → Nat :=
  let c0_i32_139 : BitVec 32 := 0#32
  let c768_i32 : BitVec 32 := 768#32
  let c0_i32_111 : BitVec 32 := 0#32
  let c1_i32_112 : BitVec 32 := 1#32
  let arg13 : BitVec 32 := Scf.iv c0_i32_111 c1_i32_112 k0_t1
  let v405 : BitVec 32 := Scalar.addi c768_i32 arg13
  let c8_i32_138 : BitVec 32 := 8#32
  let v406 : BitVec 32 := Scalar.muli v405 c8_i32_138
  let v407 : BitVec 32 := v406
  let c0_i32_141 : BitVec 32 := 0#32
  ![0, v407.toNat, 0]
def k0_off12 (v402 : BitVec 32) : Fin 2 → Nat :=
  let c8_i32_137 : BitVec 32 := 8#32
  let v403 : BitVec 32 := Scalar.muli v402 c8_i32_137
  let v404 : BitVec 32 := v403
  let c0_i32_142 : BitVec 32 := 0#32
  ![v404.toNat, 0]

def k0_chk4 (i : grid0.Coords) (v402 : BitVec 32) : Prop :=
  (∀ (k0_h1 : k0_cond1 i = 1#1), 8 ∣ (k0_mult7 v402).toNat) ∧
  (∀ (k0_h1 : k0_cond1 i = 1#1), ∀ a, (k0_off12 v402) a + S8x128.size a ≤ S1310720x128.size a)
theorem k0_mult7_dvd : ∀ (i : grid0.Coords) (v402 : BitVec 32) (k0_hw4 : k0_chk4 i v402), ∀ (k0_h1 : k0_cond1 i = 1#1), 8 ∣ (k0_mult7 v402).toNat := fun i v402 k0_hw4 k0_h1 => k0_hw4.1 k0_h1
theorem k0_off12_inb : ∀ (i : grid0.Coords) (v402 : BitVec 32) (k0_hw4 : k0_chk4 i v402), ∀ (k0_h1 : k0_cond1 i = 1#1), ∀ a, (k0_off12 v402) a + S8x128.size a ≤ S1310720x128.size a := fun i v402 k0_hw4 k0_h1 => k0_hw4.2 k0_h1

def k0_off13 (k0_t1 : Fin k0_t1_loop.trips) : Fin 2 → Nat :=
  let c4_143 : Index := 4#32
  let c0_i32_111 : BitVec 32 := 0#32
  let c1_i32_112 : BitVec 32 := 1#32
  let arg13 : BitVec 32 := Scf.iv c0_i32_111 c1_i32_112 k0_t1
  let v413 : Index := Scalar.indexCast arg13
  ![4, v413.toNat]
def k0_mult9 (v414 : BitVec 32) : BitVec 32 :=
  let c8_i32_144 : BitVec 32 := 8#32
  let v415 : BitVec 32 := Scalar.muli v414 c8_i32_144
  v415

def k0_mult10 (k0_t1 : Fin k0_t1_loop.trips) : BitVec 32 :=
  let c1024_i32 : BitVec 32 := 1024#32
  let c0_i32_111 : BitVec 32 := 0#32
  let c1_i32_112 : BitVec 32 := 1#32
  let arg13 : BitVec 32 := Scf.iv c0_i32_111 c1_i32_112 k0_t1
  let v417 : BitVec 32 := Scalar.addi c1024_i32 arg13
  let c8_i32_145 : BitVec 32 := 8#32
  let v418 : BitVec 32 := Scalar.muli v417 c8_i32_145
  v418
def k0_off14 (k0_t1 : Fin k0_t1_loop.trips) : Fin 3 → Nat :=
  let c0_i32_146 : BitVec 32 := 0#32
  let c1024_i32 : BitVec 32 := 1024#32
  let c0_i32_111 : BitVec 32 := 0#32
  let c1_i32_112 : BitVec 32 := 1#32
  let arg13 : BitVec 32 := Scf.iv c0_i32_111 c1_i32_112 k0_t1
  let v417 : BitVec 32 := Scalar.addi c1024_i32 arg13
  let c8_i32_145 : BitVec 32 := 8#32
  let v418 : BitVec 32 := Scalar.muli v417 c8_i32_145
  let v419 : BitVec 32 := v418
  let c0_i32_148 : BitVec 32 := 0#32
  ![0, v419.toNat, 0]
def k0_off15 (v414 : BitVec 32) : Fin 2 → Nat :=
  let c8_i32_144 : BitVec 32 := 8#32
  let v415 : BitVec 32 := Scalar.muli v414 c8_i32_144
  let v416 : BitVec 32 := v415
  let c0_i32_149 : BitVec 32 := 0#32
  ![v416.toNat, 0]

def k0_chk5 (i : grid0.Coords) (v414 : BitVec 32) : Prop :=
  (∀ (k0_h1 : k0_cond1 i = 1#1), 8 ∣ (k0_mult9 v414).toNat) ∧
  (∀ (k0_h1 : k0_cond1 i = 1#1), ∀ a, (k0_off15 v414) a + S8x128.size a ≤ S1310720x128.size a)
theorem k0_mult9_dvd : ∀ (i : grid0.Coords) (v414 : BitVec 32) (k0_hw5 : k0_chk5 i v414), ∀ (k0_h1 : k0_cond1 i = 1#1), 8 ∣ (k0_mult9 v414).toNat := fun i v414 k0_hw5 k0_h1 => k0_hw5.1 k0_h1
theorem k0_off15_inb : ∀ (i : grid0.Coords) (v414 : BitVec 32) (k0_hw5 : k0_chk5 i v414), ∀ (k0_h1 : k0_cond1 i = 1#1), ∀ a, (k0_off15 v414) a + S8x128.size a ≤ S1310720x128.size a := fun i v414 k0_hw5 k0_h1 => k0_hw5.2 k0_h1

def k0_off16 (k0_t1 : Fin k0_t1_loop.trips) : Fin 2 → Nat :=
  let c5_150 : Index := 5#32
  let c0_i32_111 : BitVec 32 := 0#32
  let c1_i32_112 : BitVec 32 := 1#32
  let arg13 : BitVec 32 := Scf.iv c0_i32_111 c1_i32_112 k0_t1
  let v425 : Index := Scalar.indexCast arg13
  ![5, v425.toNat]
def k0_mult11 (v426 : BitVec 32) : BitVec 32 :=
  let c8_i32_151 : BitVec 32 := 8#32
  let v427 : BitVec 32 := Scalar.muli v426 c8_i32_151
  v427

def k0_mult12 (k0_t1 : Fin k0_t1_loop.trips) : BitVec 32 :=
  let c1280_i32 : BitVec 32 := 1280#32
  let c0_i32_111 : BitVec 32 := 0#32
  let c1_i32_112 : BitVec 32 := 1#32
  let arg13 : BitVec 32 := Scf.iv c0_i32_111 c1_i32_112 k0_t1
  let v429 : BitVec 32 := Scalar.addi c1280_i32 arg13
  let c8_i32_152 : BitVec 32 := 8#32
  let v430 : BitVec 32 := Scalar.muli v429 c8_i32_152
  v430
def k0_off17 (k0_t1 : Fin k0_t1_loop.trips) : Fin 3 → Nat :=
  let c0_i32_153 : BitVec 32 := 0#32
  let c1280_i32 : BitVec 32 := 1280#32
  let c0_i32_111 : BitVec 32 := 0#32
  let c1_i32_112 : BitVec 32 := 1#32
  let arg13 : BitVec 32 := Scf.iv c0_i32_111 c1_i32_112 k0_t1
  let v429 : BitVec 32 := Scalar.addi c1280_i32 arg13
  let c8_i32_152 : BitVec 32 := 8#32
  let v430 : BitVec 32 := Scalar.muli v429 c8_i32_152
  let v431 : BitVec 32 := v430
  let c0_i32_155 : BitVec 32 := 0#32
  ![0, v431.toNat, 0]
def k0_off18 (v426 : BitVec 32) : Fin 2 → Nat :=
  let c8_i32_151 : BitVec 32 := 8#32
  let v427 : BitVec 32 := Scalar.muli v426 c8_i32_151
  let v428 : BitVec 32 := v427
  let c0_i32_156 : BitVec 32 := 0#32
  ![v428.toNat, 0]

def k0_chk6 (i : grid0.Coords) (v426 : BitVec 32) : Prop :=
  (∀ (k0_h1 : k0_cond1 i = 1#1), 8 ∣ (k0_mult11 v426).toNat) ∧
  (∀ (k0_h1 : k0_cond1 i = 1#1), ∀ a, (k0_off18 v426) a + S8x128.size a ≤ S1310720x128.size a)
theorem k0_mult11_dvd : ∀ (i : grid0.Coords) (v426 : BitVec 32) (k0_hw6 : k0_chk6 i v426), ∀ (k0_h1 : k0_cond1 i = 1#1), 8 ∣ (k0_mult11 v426).toNat := fun i v426 k0_hw6 k0_h1 => k0_hw6.1 k0_h1
theorem k0_off18_inb : ∀ (i : grid0.Coords) (v426 : BitVec 32) (k0_hw6 : k0_chk6 i v426), ∀ (k0_h1 : k0_cond1 i = 1#1), ∀ a, (k0_off18 v426) a + S8x128.size a ≤ S1310720x128.size a := fun i v426 k0_hw6 k0_h1 => k0_hw6.2 k0_h1

def k0_off19 (k0_t1 : Fin k0_t1_loop.trips) : Fin 2 → Nat :=
  let c6_157 : Index := 6#32
  let c0_i32_111 : BitVec 32 := 0#32
  let c1_i32_112 : BitVec 32 := 1#32
  let arg13 : BitVec 32 := Scf.iv c0_i32_111 c1_i32_112 k0_t1
  let v437 : Index := Scalar.indexCast arg13
  ![6, v437.toNat]
def k0_mult13 (v438 : BitVec 32) : BitVec 32 :=
  let c8_i32_158 : BitVec 32 := 8#32
  let v439 : BitVec 32 := Scalar.muli v438 c8_i32_158
  v439

def k0_mult14 (k0_t1 : Fin k0_t1_loop.trips) : BitVec 32 :=
  let c1536_i32 : BitVec 32 := 1536#32
  let c0_i32_111 : BitVec 32 := 0#32
  let c1_i32_112 : BitVec 32 := 1#32
  let arg13 : BitVec 32 := Scf.iv c0_i32_111 c1_i32_112 k0_t1
  let v441 : BitVec 32 := Scalar.addi c1536_i32 arg13
  let c8_i32_159 : BitVec 32 := 8#32
  let v442 : BitVec 32 := Scalar.muli v441 c8_i32_159
  v442
def k0_off20 (k0_t1 : Fin k0_t1_loop.trips) : Fin 3 → Nat :=
  let c0_i32_160 : BitVec 32 := 0#32
  let c1536_i32 : BitVec 32 := 1536#32
  let c0_i32_111 : BitVec 32 := 0#32
  let c1_i32_112 : BitVec 32 := 1#32
  let arg13 : BitVec 32 := Scf.iv c0_i32_111 c1_i32_112 k0_t1
  let v441 : BitVec 32 := Scalar.addi c1536_i32 arg13
  let c8_i32_159 : BitVec 32 := 8#32
  let v442 : BitVec 32 := Scalar.muli v441 c8_i32_159
  let v443 : BitVec 32 := v442
  let c0_i32_162 : BitVec 32 := 0#32
  ![0, v443.toNat, 0]
def k0_off21 (v438 : BitVec 32) : Fin 2 → Nat :=
  let c8_i32_158 : BitVec 32 := 8#32
  let v439 : BitVec 32 := Scalar.muli v438 c8_i32_158
  let v440 : BitVec 32 := v439
  let c0_i32_163 : BitVec 32 := 0#32
  ![v440.toNat, 0]

def k0_chk7 (i : grid0.Coords) (v438 : BitVec 32) : Prop :=
  (∀ (k0_h1 : k0_cond1 i = 1#1), 8 ∣ (k0_mult13 v438).toNat) ∧
  (∀ (k0_h1 : k0_cond1 i = 1#1), ∀ a, (k0_off21 v438) a + S8x128.size a ≤ S1310720x128.size a)
theorem k0_mult13_dvd : ∀ (i : grid0.Coords) (v438 : BitVec 32) (k0_hw7 : k0_chk7 i v438), ∀ (k0_h1 : k0_cond1 i = 1#1), 8 ∣ (k0_mult13 v438).toNat := fun i v438 k0_hw7 k0_h1 => k0_hw7.1 k0_h1
theorem k0_off21_inb : ∀ (i : grid0.Coords) (v438 : BitVec 32) (k0_hw7 : k0_chk7 i v438), ∀ (k0_h1 : k0_cond1 i = 1#1), ∀ a, (k0_off21 v438) a + S8x128.size a ≤ S1310720x128.size a := fun i v438 k0_hw7 k0_h1 => k0_hw7.2 k0_h1

def k0_off22 (k0_t1 : Fin k0_t1_loop.trips) : Fin 2 → Nat :=
  let c7_164 : Index := 7#32
  let c0_i32_111 : BitVec 32 := 0#32
  let c1_i32_112 : BitVec 32 := 1#32
  let arg13 : BitVec 32 := Scf.iv c0_i32_111 c1_i32_112 k0_t1
  let v449 : Index := Scalar.indexCast arg13
  ![7, v449.toNat]
def k0_mult15 (v450 : BitVec 32) : BitVec 32 :=
  let c8_i32_165 : BitVec 32 := 8#32
  let v451 : BitVec 32 := Scalar.muli v450 c8_i32_165
  v451

def k0_mult16 (k0_t1 : Fin k0_t1_loop.trips) : BitVec 32 :=
  let c1792_i32 : BitVec 32 := 1792#32
  let c0_i32_111 : BitVec 32 := 0#32
  let c1_i32_112 : BitVec 32 := 1#32
  let arg13 : BitVec 32 := Scf.iv c0_i32_111 c1_i32_112 k0_t1
  let v453 : BitVec 32 := Scalar.addi c1792_i32 arg13
  let c8_i32_166 : BitVec 32 := 8#32
  let v454 : BitVec 32 := Scalar.muli v453 c8_i32_166
  v454
def k0_off23 (k0_t1 : Fin k0_t1_loop.trips) : Fin 3 → Nat :=
  let c0_i32_167 : BitVec 32 := 0#32
  let c1792_i32 : BitVec 32 := 1792#32
  let c0_i32_111 : BitVec 32 := 0#32
  let c1_i32_112 : BitVec 32 := 1#32
  let arg13 : BitVec 32 := Scf.iv c0_i32_111 c1_i32_112 k0_t1
  let v453 : BitVec 32 := Scalar.addi c1792_i32 arg13
  let c8_i32_166 : BitVec 32 := 8#32
  let v454 : BitVec 32 := Scalar.muli v453 c8_i32_166
  let v455 : BitVec 32 := v454
  let c0_i32_169 : BitVec 32 := 0#32
  ![0, v455.toNat, 0]
def k0_off24 (v450 : BitVec 32) : Fin 2 → Nat :=
  let c8_i32_165 : BitVec 32 := 8#32
  let v451 : BitVec 32 := Scalar.muli v450 c8_i32_165
  let v452 : BitVec 32 := v451
  let c0_i32_170 : BitVec 32 := 0#32
  ![v452.toNat, 0]

def k0_chk8 (i : grid0.Coords) (v450 : BitVec 32) : Prop :=
  (∀ (k0_h1 : k0_cond1 i = 1#1), 8 ∣ (k0_mult15 v450).toNat) ∧
  (∀ (k0_h1 : k0_cond1 i = 1#1), ∀ a, (k0_off24 v450) a + S8x128.size a ≤ S1310720x128.size a)
theorem k0_mult15_dvd : ∀ (i : grid0.Coords) (v450 : BitVec 32) (k0_hw8 : k0_chk8 i v450), ∀ (k0_h1 : k0_cond1 i = 1#1), 8 ∣ (k0_mult15 v450).toNat := fun i v450 k0_hw8 k0_h1 => k0_hw8.1 k0_h1
theorem k0_off24_inb : ∀ (i : grid0.Coords) (v450 : BitVec 32) (k0_hw8 : k0_chk8 i v450), ∀ (k0_h1 : k0_cond1 i = 1#1), ∀ a, (k0_off24 v450) a + S8x128.size a ≤ S1310720x128.size a := fun i v450 k0_hw8 k0_h1 => k0_hw8.2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c64_i32 : BitVec 32 := 64#32
  let v14 : BitVec 1 := Scalar.cmpi .slt v13 c64_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_112 : BitVec 32 := 0#32
  let c256_i32 : BitVec 32 := 256#32
  let v365 : BitVec 32 := Scalar.addi c0_i32_112 c256_i32
  let c1_i32_113 : BitVec 32 := 1#32
  ⟨c0_i32_112, v365, c1_i32_113⟩
def k0_off25 (k0_t2 : Fin k0_t2_loop.trips) : Fin 2 → Nat :=
  let c0_115 : Index := 0#32
  let c0_i32_112 : BitVec 32 := 0#32
  let c1_i32_113 : BitVec 32 := 1#32
  let arg13 : BitVec 32 := Scf.iv c0_i32_112 c1_i32_113 k0_t2
  let v366 : Index := Scalar.indexCast arg13
  ![0, v366.toNat]
def k0_mult17 (v367 : BitVec 32) : BitVec 32 :=
  let c8_i32 : BitVec 32 := 8#32
  let v368 : BitVec 32 := Scalar.muli v367 c8_i32
  v368

def k0_mult18 (k0_t2 : Fin k0_t2_loop.trips) : BitVec 32 :=
  let c0_i32_116 : BitVec 32 := 0#32
  let c0_i32_112 : BitVec 32 := 0#32
  let c1_i32_113 : BitVec 32 := 1#32
  let arg13 : BitVec 32 := Scf.iv c0_i32_112 c1_i32_113 k0_t2
  let v370 : BitVec 32 := Scalar.addi c0_i32_116 arg13
  let c8_i32_117 : BitVec 32 := 8#32
  let v371 : BitVec 32 := Scalar.muli v370 c8_i32_117
  v371
def k0_off26 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off27 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c0_i32_116 : BitVec 32 := 0#32
  let c0_i32_112 : BitVec 32 := 0#32
  let c1_i32_113 : BitVec 32 := 1#32
  let arg13 : BitVec 32 := Scf.iv c0_i32_112 c1_i32_113 k0_t2
  let v370 : BitVec 32 := Scalar.addi c0_i32_116 arg13
  let c8_i32_117 : BitVec 32 := 8#32
  let v371 : BitVec 32 := Scalar.muli v370 c8_i32_117
  let v372 : BitVec 32 := v371
  let c0_i32_118 : BitVec 32 := 0#32
  ![v364.toNat, v372.toNat, 0]
def k0_off28 (v367 : BitVec 32) : Fin 2 → Nat :=
  let c8_i32 : BitVec 32 := 8#32
  let v368 : BitVec 32 := Scalar.muli v367 c8_i32
  let v369 : BitVec 32 := v368
  let c0_i32_119 : BitVec 32 := 0#32
  ![v369.toNat, 0]

def k0_chk9 (i : grid0.Coords) (v367 : BitVec 32) : Prop :=
  (∀ (k0_h2 : k0_cond2 i = 1#1), 8 ∣ (k0_mult17 v367).toNat) ∧
  (∀ (k0_h2 : k0_cond2 i = 1#1), ∀ a, (k0_off28 v367) a + S8x128.size a ≤ S1310720x128.size a)
theorem k0_mult17_dvd : ∀ (i : grid0.Coords) (v367 : BitVec 32) (k0_hw9 : k0_chk9 i v367), ∀ (k0_h2 : k0_cond2 i = 1#1), 8 ∣ (k0_mult17 v367).toNat := fun i v367 k0_hw9 k0_h2 => k0_hw9.1 k0_h2
theorem k0_off28_inb : ∀ (i : grid0.Coords) (v367 : BitVec 32) (k0_hw9 : k0_chk9 i v367), ∀ (k0_h2 : k0_cond2 i = 1#1), ∀ a, (k0_off28 v367) a + S8x128.size a ≤ S1310720x128.size a := fun i v367 k0_hw9 k0_h2 => k0_hw9.2 k0_h2

def k0_off29 (k0_t2 : Fin k0_t2_loop.trips) : Fin 2 → Nat :=
  let c1_120 : Index := 1#32
  let c0_i32_112 : BitVec 32 := 0#32
  let c1_i32_113 : BitVec 32 := 1#32
  let arg13 : BitVec 32 := Scf.iv c0_i32_112 c1_i32_113 k0_t2
  let v378 : Index := Scalar.indexCast arg13
  ![1, v378.toNat]
def k0_mult19 (v379 : BitVec 32) : BitVec 32 :=
  let c8_i32_121 : BitVec 32 := 8#32
  let v380 : BitVec 32 := Scalar.muli v379 c8_i32_121
  v380

def k0_mult20 (k0_t2 : Fin k0_t2_loop.trips) : BitVec 32 :=
  let c256_i32_122 : BitVec 32 := 256#32
  let c0_i32_112 : BitVec 32 := 0#32
  let c1_i32_113 : BitVec 32 := 1#32
  let arg13 : BitVec 32 := Scf.iv c0_i32_112 c1_i32_113 k0_t2
  let v382 : BitVec 32 := Scalar.addi c256_i32_122 arg13
  let c8_i32_123 : BitVec 32 := 8#32
  let v383 : BitVec 32 := Scalar.muli v382 c8_i32_123
  v383
def k0_off30 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off31 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c256_i32_122 : BitVec 32 := 256#32
  let c0_i32_112 : BitVec 32 := 0#32
  let c1_i32_113 : BitVec 32 := 1#32
  let arg13 : BitVec 32 := Scf.iv c0_i32_112 c1_i32_113 k0_t2
  let v382 : BitVec 32 := Scalar.addi c256_i32_122 arg13
  let c8_i32_123 : BitVec 32 := 8#32
  let v383 : BitVec 32 := Scalar.muli v382 c8_i32_123
  let v384 : BitVec 32 := v383
  let c0_i32_124 : BitVec 32 := 0#32
  ![v364.toNat, v384.toNat, 0]
def k0_off32 (v379 : BitVec 32) : Fin 2 → Nat :=
  let c8_i32_121 : BitVec 32 := 8#32
  let v380 : BitVec 32 := Scalar.muli v379 c8_i32_121
  let v381 : BitVec 32 := v380
  let c0_i32_125 : BitVec 32 := 0#32
  ![v381.toNat, 0]

def k0_chk10 (i : grid0.Coords) (v379 : BitVec 32) : Prop :=
  (∀ (k0_h2 : k0_cond2 i = 1#1), 8 ∣ (k0_mult19 v379).toNat) ∧
  (∀ (k0_h2 : k0_cond2 i = 1#1), ∀ a, (k0_off32 v379) a + S8x128.size a ≤ S1310720x128.size a)
theorem k0_mult19_dvd : ∀ (i : grid0.Coords) (v379 : BitVec 32) (k0_hw10 : k0_chk10 i v379), ∀ (k0_h2 : k0_cond2 i = 1#1), 8 ∣ (k0_mult19 v379).toNat := fun i v379 k0_hw10 k0_h2 => k0_hw10.1 k0_h2
theorem k0_off32_inb : ∀ (i : grid0.Coords) (v379 : BitVec 32) (k0_hw10 : k0_chk10 i v379), ∀ (k0_h2 : k0_cond2 i = 1#1), ∀ a, (k0_off32 v379) a + S8x128.size a ≤ S1310720x128.size a := fun i v379 k0_hw10 k0_h2 => k0_hw10.2 k0_h2

def k0_off33 (k0_t2 : Fin k0_t2_loop.trips) : Fin 2 → Nat :=
  let c2_126 : Index := 2#32
  let c0_i32_112 : BitVec 32 := 0#32
  let c1_i32_113 : BitVec 32 := 1#32
  let arg13 : BitVec 32 := Scf.iv c0_i32_112 c1_i32_113 k0_t2
  let v390 : Index := Scalar.indexCast arg13
  ![2, v390.toNat]
def k0_mult21 (v391 : BitVec 32) : BitVec 32 :=
  let c8_i32_127 : BitVec 32 := 8#32
  let v392 : BitVec 32 := Scalar.muli v391 c8_i32_127
  v392

def k0_mult22 (k0_t2 : Fin k0_t2_loop.trips) : BitVec 32 :=
  let c512_i32 : BitVec 32 := 512#32
  let c0_i32_112 : BitVec 32 := 0#32
  let c1_i32_113 : BitVec 32 := 1#32
  let arg13 : BitVec 32 := Scf.iv c0_i32_112 c1_i32_113 k0_t2
  let v394 : BitVec 32 := Scalar.addi c512_i32 arg13
  let c8_i32_128 : BitVec 32 := 8#32
  let v395 : BitVec 32 := Scalar.muli v394 c8_i32_128
  v395
def k0_off34 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off35 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c512_i32 : BitVec 32 := 512#32
  let c0_i32_112 : BitVec 32 := 0#32
  let c1_i32_113 : BitVec 32 := 1#32
  let arg13 : BitVec 32 := Scf.iv c0_i32_112 c1_i32_113 k0_t2
  let v394 : BitVec 32 := Scalar.addi c512_i32 arg13
  let c8_i32_128 : BitVec 32 := 8#32
  let v395 : BitVec 32 := Scalar.muli v394 c8_i32_128
  let v396 : BitVec 32 := v395
  let c0_i32_129 : BitVec 32 := 0#32
  ![v364.toNat, v396.toNat, 0]
def k0_off36 (v391 : BitVec 32) : Fin 2 → Nat :=
  let c8_i32_127 : BitVec 32 := 8#32
  let v392 : BitVec 32 := Scalar.muli v391 c8_i32_127
  let v393 : BitVec 32 := v392
  let c0_i32_130 : BitVec 32 := 0#32
  ![v393.toNat, 0]

def k0_chk11 (i : grid0.Coords) (v391 : BitVec 32) : Prop :=
  (∀ (k0_h2 : k0_cond2 i = 1#1), 8 ∣ (k0_mult21 v391).toNat) ∧
  (∀ (k0_h2 : k0_cond2 i = 1#1), ∀ a, (k0_off36 v391) a + S8x128.size a ≤ S1310720x128.size a)
theorem k0_mult21_dvd : ∀ (i : grid0.Coords) (v391 : BitVec 32) (k0_hw11 : k0_chk11 i v391), ∀ (k0_h2 : k0_cond2 i = 1#1), 8 ∣ (k0_mult21 v391).toNat := fun i v391 k0_hw11 k0_h2 => k0_hw11.1 k0_h2
theorem k0_off36_inb : ∀ (i : grid0.Coords) (v391 : BitVec 32) (k0_hw11 : k0_chk11 i v391), ∀ (k0_h2 : k0_cond2 i = 1#1), ∀ a, (k0_off36 v391) a + S8x128.size a ≤ S1310720x128.size a := fun i v391 k0_hw11 k0_h2 => k0_hw11.2 k0_h2

def k0_off37 (k0_t2 : Fin k0_t2_loop.trips) : Fin 2 → Nat :=
  let c3_131 : Index := 3#32
  let c0_i32_112 : BitVec 32 := 0#32
  let c1_i32_113 : BitVec 32 := 1#32
  let arg13 : BitVec 32 := Scf.iv c0_i32_112 c1_i32_113 k0_t2
  let v402 : Index := Scalar.indexCast arg13
  ![3, v402.toNat]
def k0_mult23 (v403 : BitVec 32) : BitVec 32 :=
  let c8_i32_132 : BitVec 32 := 8#32
  let v404 : BitVec 32 := Scalar.muli v403 c8_i32_132
  v404

def k0_mult24 (k0_t2 : Fin k0_t2_loop.trips) : BitVec 32 :=
  let c768_i32 : BitVec 32 := 768#32
  let c0_i32_112 : BitVec 32 := 0#32
  let c1_i32_113 : BitVec 32 := 1#32
  let arg13 : BitVec 32 := Scf.iv c0_i32_112 c1_i32_113 k0_t2
  let v406 : BitVec 32 := Scalar.addi c768_i32 arg13
  let c8_i32_133 : BitVec 32 := 8#32
  let v407 : BitVec 32 := Scalar.muli v406 c8_i32_133
  v407
def k0_off38 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off39 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c768_i32 : BitVec 32 := 768#32
  let c0_i32_112 : BitVec 32 := 0#32
  let c1_i32_113 : BitVec 32 := 1#32
  let arg13 : BitVec 32 := Scf.iv c0_i32_112 c1_i32_113 k0_t2
  let v406 : BitVec 32 := Scalar.addi c768_i32 arg13
  let c8_i32_133 : BitVec 32 := 8#32
  let v407 : BitVec 32 := Scalar.muli v406 c8_i32_133
  let v408 : BitVec 32 := v407
  let c0_i32_134 : BitVec 32 := 0#32
  ![v364.toNat, v408.toNat, 0]
def k0_off40 (v403 : BitVec 32) : Fin 2 → Nat :=
  let c8_i32_132 : BitVec 32 := 8#32
  let v404 : BitVec 32 := Scalar.muli v403 c8_i32_132
  let v405 : BitVec 32 := v404
  let c0_i32_135 : BitVec 32 := 0#32
  ![v405.toNat, 0]

def k0_chk12 (i : grid0.Coords) (v403 : BitVec 32) : Prop :=
  (∀ (k0_h2 : k0_cond2 i = 1#1), 8 ∣ (k0_mult23 v403).toNat) ∧
  (∀ (k0_h2 : k0_cond2 i = 1#1), ∀ a, (k0_off40 v403) a + S8x128.size a ≤ S1310720x128.size a)
theorem k0_mult23_dvd : ∀ (i : grid0.Coords) (v403 : BitVec 32) (k0_hw12 : k0_chk12 i v403), ∀ (k0_h2 : k0_cond2 i = 1#1), 8 ∣ (k0_mult23 v403).toNat := fun i v403 k0_hw12 k0_h2 => k0_hw12.1 k0_h2
theorem k0_off40_inb : ∀ (i : grid0.Coords) (v403 : BitVec 32) (k0_hw12 : k0_chk12 i v403), ∀ (k0_h2 : k0_cond2 i = 1#1), ∀ a, (k0_off40 v403) a + S8x128.size a ≤ S1310720x128.size a := fun i v403 k0_hw12 k0_h2 => k0_hw12.2 k0_h2

def k0_off41 (k0_t2 : Fin k0_t2_loop.trips) : Fin 2 → Nat :=
  let c4_136 : Index := 4#32
  let c0_i32_112 : BitVec 32 := 0#32
  let c1_i32_113 : BitVec 32 := 1#32
  let arg13 : BitVec 32 := Scf.iv c0_i32_112 c1_i32_113 k0_t2
  let v414 : Index := Scalar.indexCast arg13
  ![4, v414.toNat]
def k0_mult25 (v415 : BitVec 32) : BitVec 32 :=
  let c8_i32_137 : BitVec 32 := 8#32
  let v416 : BitVec 32 := Scalar.muli v415 c8_i32_137
  v416

def k0_mult26 (k0_t2 : Fin k0_t2_loop.trips) : BitVec 32 :=
  let c1024_i32 : BitVec 32 := 1024#32
  let c0_i32_112 : BitVec 32 := 0#32
  let c1_i32_113 : BitVec 32 := 1#32
  let arg13 : BitVec 32 := Scf.iv c0_i32_112 c1_i32_113 k0_t2
  let v418 : BitVec 32 := Scalar.addi c1024_i32 arg13
  let c8_i32_138 : BitVec 32 := 8#32
  let v419 : BitVec 32 := Scalar.muli v418 c8_i32_138
  v419
def k0_off42 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off43 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c1024_i32 : BitVec 32 := 1024#32
  let c0_i32_112 : BitVec 32 := 0#32
  let c1_i32_113 : BitVec 32 := 1#32
  let arg13 : BitVec 32 := Scf.iv c0_i32_112 c1_i32_113 k0_t2
  let v418 : BitVec 32 := Scalar.addi c1024_i32 arg13
  let c8_i32_138 : BitVec 32 := 8#32
  let v419 : BitVec 32 := Scalar.muli v418 c8_i32_138
  let v420 : BitVec 32 := v419
  let c0_i32_139 : BitVec 32 := 0#32
  ![v364.toNat, v420.toNat, 0]
def k0_off44 (v415 : BitVec 32) : Fin 2 → Nat :=
  let c8_i32_137 : BitVec 32 := 8#32
  let v416 : BitVec 32 := Scalar.muli v415 c8_i32_137
  let v417 : BitVec 32 := v416
  let c0_i32_140 : BitVec 32 := 0#32
  ![v417.toNat, 0]

def k0_chk13 (i : grid0.Coords) (v415 : BitVec 32) : Prop :=
  (∀ (k0_h2 : k0_cond2 i = 1#1), 8 ∣ (k0_mult25 v415).toNat) ∧
  (∀ (k0_h2 : k0_cond2 i = 1#1), ∀ a, (k0_off44 v415) a + S8x128.size a ≤ S1310720x128.size a)
theorem k0_mult25_dvd : ∀ (i : grid0.Coords) (v415 : BitVec 32) (k0_hw13 : k0_chk13 i v415), ∀ (k0_h2 : k0_cond2 i = 1#1), 8 ∣ (k0_mult25 v415).toNat := fun i v415 k0_hw13 k0_h2 => k0_hw13.1 k0_h2
theorem k0_off44_inb : ∀ (i : grid0.Coords) (v415 : BitVec 32) (k0_hw13 : k0_chk13 i v415), ∀ (k0_h2 : k0_cond2 i = 1#1), ∀ a, (k0_off44 v415) a + S8x128.size a ≤ S1310720x128.size a := fun i v415 k0_hw13 k0_h2 => k0_hw13.2 k0_h2

def k0_off45 (k0_t2 : Fin k0_t2_loop.trips) : Fin 2 → Nat :=
  let c5_141 : Index := 5#32
  let c0_i32_112 : BitVec 32 := 0#32
  let c1_i32_113 : BitVec 32 := 1#32
  let arg13 : BitVec 32 := Scf.iv c0_i32_112 c1_i32_113 k0_t2
  let v426 : Index := Scalar.indexCast arg13
  ![5, v426.toNat]
def k0_mult27 (v427 : BitVec 32) : BitVec 32 :=
  let c8_i32_142 : BitVec 32 := 8#32
  let v428 : BitVec 32 := Scalar.muli v427 c8_i32_142
  v428

def k0_mult28 (k0_t2 : Fin k0_t2_loop.trips) : BitVec 32 :=
  let c1280_i32 : BitVec 32 := 1280#32
  let c0_i32_112 : BitVec 32 := 0#32
  let c1_i32_113 : BitVec 32 := 1#32
  let arg13 : BitVec 32 := Scf.iv c0_i32_112 c1_i32_113 k0_t2
  let v430 : BitVec 32 := Scalar.addi c1280_i32 arg13
  let c8_i32_143 : BitVec 32 := 8#32
  let v431 : BitVec 32 := Scalar.muli v430 c8_i32_143
  v431
def k0_off46 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off47 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c1280_i32 : BitVec 32 := 1280#32
  let c0_i32_112 : BitVec 32 := 0#32
  let c1_i32_113 : BitVec 32 := 1#32
  let arg13 : BitVec 32 := Scf.iv c0_i32_112 c1_i32_113 k0_t2
  let v430 : BitVec 32 := Scalar.addi c1280_i32 arg13
  let c8_i32_143 : BitVec 32 := 8#32
  let v431 : BitVec 32 := Scalar.muli v430 c8_i32_143
  let v432 : BitVec 32 := v431
  let c0_i32_144 : BitVec 32 := 0#32
  ![v364.toNat, v432.toNat, 0]
def k0_off48 (v427 : BitVec 32) : Fin 2 → Nat :=
  let c8_i32_142 : BitVec 32 := 8#32
  let v428 : BitVec 32 := Scalar.muli v427 c8_i32_142
  let v429 : BitVec 32 := v428
  let c0_i32_145 : BitVec 32 := 0#32
  ![v429.toNat, 0]

def k0_chk14 (i : grid0.Coords) (v427 : BitVec 32) : Prop :=
  (∀ (k0_h2 : k0_cond2 i = 1#1), 8 ∣ (k0_mult27 v427).toNat) ∧
  (∀ (k0_h2 : k0_cond2 i = 1#1), ∀ a, (k0_off48 v427) a + S8x128.size a ≤ S1310720x128.size a)
theorem k0_mult27_dvd : ∀ (i : grid0.Coords) (v427 : BitVec 32) (k0_hw14 : k0_chk14 i v427), ∀ (k0_h2 : k0_cond2 i = 1#1), 8 ∣ (k0_mult27 v427).toNat := fun i v427 k0_hw14 k0_h2 => k0_hw14.1 k0_h2
theorem k0_off48_inb : ∀ (i : grid0.Coords) (v427 : BitVec 32) (k0_hw14 : k0_chk14 i v427), ∀ (k0_h2 : k0_cond2 i = 1#1), ∀ a, (k0_off48 v427) a + S8x128.size a ≤ S1310720x128.size a := fun i v427 k0_hw14 k0_h2 => k0_hw14.2 k0_h2

def k0_off49 (k0_t2 : Fin k0_t2_loop.trips) : Fin 2 → Nat :=
  let c6_146 : Index := 6#32
  let c0_i32_112 : BitVec 32 := 0#32
  let c1_i32_113 : BitVec 32 := 1#32
  let arg13 : BitVec 32 := Scf.iv c0_i32_112 c1_i32_113 k0_t2
  let v438 : Index := Scalar.indexCast arg13
  ![6, v438.toNat]
def k0_mult29 (v439 : BitVec 32) : BitVec 32 :=
  let c8_i32_147 : BitVec 32 := 8#32
  let v440 : BitVec 32 := Scalar.muli v439 c8_i32_147
  v440

def k0_mult30 (k0_t2 : Fin k0_t2_loop.trips) : BitVec 32 :=
  let c1536_i32 : BitVec 32 := 1536#32
  let c0_i32_112 : BitVec 32 := 0#32
  let c1_i32_113 : BitVec 32 := 1#32
  let arg13 : BitVec 32 := Scf.iv c0_i32_112 c1_i32_113 k0_t2
  let v442 : BitVec 32 := Scalar.addi c1536_i32 arg13
  let c8_i32_148 : BitVec 32 := 8#32
  let v443 : BitVec 32 := Scalar.muli v442 c8_i32_148
  v443
def k0_off50 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off51 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c1536_i32 : BitVec 32 := 1536#32
  let c0_i32_112 : BitVec 32 := 0#32
  let c1_i32_113 : BitVec 32 := 1#32
  let arg13 : BitVec 32 := Scf.iv c0_i32_112 c1_i32_113 k0_t2
  let v442 : BitVec 32 := Scalar.addi c1536_i32 arg13
  let c8_i32_148 : BitVec 32 := 8#32
  let v443 : BitVec 32 := Scalar.muli v442 c8_i32_148
  let v444 : BitVec 32 := v443
  let c0_i32_149 : BitVec 32 := 0#32
  ![v364.toNat, v444.toNat, 0]
def k0_off52 (v439 : BitVec 32) : Fin 2 → Nat :=
  let c8_i32_147 : BitVec 32 := 8#32
  let v440 : BitVec 32 := Scalar.muli v439 c8_i32_147
  let v441 : BitVec 32 := v440
  let c0_i32_150 : BitVec 32 := 0#32
  ![v441.toNat, 0]

def k0_chk15 (i : grid0.Coords) (v439 : BitVec 32) : Prop :=
  (∀ (k0_h2 : k0_cond2 i = 1#1), 8 ∣ (k0_mult29 v439).toNat) ∧
  (∀ (k0_h2 : k0_cond2 i = 1#1), ∀ a, (k0_off52 v439) a + S8x128.size a ≤ S1310720x128.size a)
theorem k0_mult29_dvd : ∀ (i : grid0.Coords) (v439 : BitVec 32) (k0_hw15 : k0_chk15 i v439), ∀ (k0_h2 : k0_cond2 i = 1#1), 8 ∣ (k0_mult29 v439).toNat := fun i v439 k0_hw15 k0_h2 => k0_hw15.1 k0_h2
theorem k0_off52_inb : ∀ (i : grid0.Coords) (v439 : BitVec 32) (k0_hw15 : k0_chk15 i v439), ∀ (k0_h2 : k0_cond2 i = 1#1), ∀ a, (k0_off52 v439) a + S8x128.size a ≤ S1310720x128.size a := fun i v439 k0_hw15 k0_h2 => k0_hw15.2 k0_h2

def k0_off53 (k0_t2 : Fin k0_t2_loop.trips) : Fin 2 → Nat :=
  let c7_151 : Index := 7#32
  let c0_i32_112 : BitVec 32 := 0#32
  let c1_i32_113 : BitVec 32 := 1#32
  let arg13 : BitVec 32 := Scf.iv c0_i32_112 c1_i32_113 k0_t2
  let v450 : Index := Scalar.indexCast arg13
  ![7, v450.toNat]
def k0_mult31 (v451 : BitVec 32) : BitVec 32 :=
  let c8_i32_152 : BitVec 32 := 8#32
  let v452 : BitVec 32 := Scalar.muli v451 c8_i32_152
  v452

def k0_mult32 (k0_t2 : Fin k0_t2_loop.trips) : BitVec 32 :=
  let c1792_i32 : BitVec 32 := 1792#32
  let c0_i32_112 : BitVec 32 := 0#32
  let c1_i32_113 : BitVec 32 := 1#32
  let arg13 : BitVec 32 := Scf.iv c0_i32_112 c1_i32_113 k0_t2
  let v454 : BitVec 32 := Scalar.addi c1792_i32 arg13
  let c8_i32_153 : BitVec 32 := 8#32
  let v455 : BitVec 32 := Scalar.muli v454 c8_i32_153
  v455
def k0_off54 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  ![v364.toNat]
def k0_off55 (i : grid0.Coords) (k0_t2 : Fin k0_t2_loop.trips) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_111 v9
  let c1792_i32 : BitVec 32 := 1792#32
  let c0_i32_112 : BitVec 32 := 0#32
  let c1_i32_113 : BitVec 32 := 1#32
  let arg13 : BitVec 32 := Scf.iv c0_i32_112 c1_i32_113 k0_t2
  let v454 : BitVec 32 := Scalar.addi c1792_i32 arg13
  let c8_i32_153 : BitVec 32 := 8#32
  let v455 : BitVec 32 := Scalar.muli v454 c8_i32_153
  let v456 : BitVec 32 := v455
  let c0_i32_154 : BitVec 32 := 0#32
  ![v364.toNat, v456.toNat, 0]
def k0_off56 (v451 : BitVec 32) : Fin 2 → Nat :=
  let c8_i32_152 : BitVec 32 := 8#32
  let v452 : BitVec 32 := Scalar.muli v451 c8_i32_152
  let v453 : BitVec 32 := v452
  let c0_i32_155 : BitVec 32 := 0#32
  ![v453.toNat, 0]

def k0_chk16 (i : grid0.Coords) (v451 : BitVec 32) : Prop :=
  (∀ (k0_h2 : k0_cond2 i = 1#1), 8 ∣ (k0_mult31 v451).toNat) ∧
  (∀ (k0_h2 : k0_cond2 i = 1#1), ∀ a, (k0_off56 v451) a + S8x128.size a ≤ S1310720x128.size a)
theorem k0_mult31_dvd : ∀ (i : grid0.Coords) (v451 : BitVec 32) (k0_hw16 : k0_chk16 i v451), ∀ (k0_h2 : k0_cond2 i = 1#1), 8 ∣ (k0_mult31 v451).toNat := fun i v451 k0_hw16 k0_h2 => k0_hw16.1 k0_h2
theorem k0_off56_inb : ∀ (i : grid0.Coords) (v451 : BitVec 32) (k0_hw16 : k0_chk16 i v451), ∀ (k0_h2 : k0_cond2 i = 1#1), ∀ a, (k0_off56 v451) a + S8x128.size a ≤ S1310720x128.size a := fun i v451 k0_hw16 k0_h2 => k0_hw16.2 k0_h2

def k0_off57 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off58 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_13 : BitVec 32 := 0#32
  let c0_i32_14 : BitVec 32 := 0#32
  ![v9.toNat, 0, 0]
def k0_off59 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_21 : Index := 0#32
  let c0_22 : Index := 0#32
  ![v33.toNat, 0, 0]
def k0_off60 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : Index := Scalar.indexCast v9
  let c1 : Index := 1#32
  let c0_23 : Index := 0#32
  ![v36.toNat, 1, 0]
def k0_off61 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c2 : Index := 2#32
  let c0_24 : Index := 0#32
  ![v39.toNat, 2, 0]
def k0_off62 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : Index := Scalar.indexCast v9
  let c3 : Index := 3#32
  let c0_25 : Index := 0#32
  ![v42.toNat, 3, 0]
def k0_off63 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v45 : Index := Scalar.indexCast v9
  let c4 : Index := 4#32
  let c0_26 : Index := 0#32
  ![v45.toNat, 4, 0]
def k0_off64 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c5 : Index := 5#32
  let c0_27 : Index := 0#32
  ![v48.toNat, 5, 0]
def k0_off65 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v51 : Index := Scalar.indexCast v9
  let c6 : Index := 6#32
  let c0_28 : Index := 0#32
  ![v51.toNat, 6, 0]
def k0_off66 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : Index := Scalar.indexCast v9
  let c7 : Index := 7#32
  let c0_29 : Index := 0#32
  ![v54.toNat, 7, 0]
def k0_off67 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v71 : Index := Scalar.indexCast v9
  let c2048 : Index := 2048#32
  let c0_30 : Index := 0#32
  ![v71.toNat, 2048, 0]
def k0_off68 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v74 : Index := Scalar.indexCast v9
  let c2049 : Index := 2049#32
  let c0_31 : Index := 0#32
  ![v74.toNat, 2049, 0]
def k0_off69 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v77 : Index := Scalar.indexCast v9
  let c2050 : Index := 2050#32
  let c0_32 : Index := 0#32
  ![v77.toNat, 2050, 0]
def k0_off70 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : Index := Scalar.indexCast v9
  let c2051 : Index := 2051#32
  let c0_33 : Index := 0#32
  ![v80.toNat, 2051, 0]
def k0_off71 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v83 : Index := Scalar.indexCast v9
  let c2052 : Index := 2052#32
  let c0_34 : Index := 0#32
  ![v83.toNat, 2052, 0]
def k0_off72 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c2053 : Index := 2053#32
  let c0_35 : Index := 0#32
  ![v86.toNat, 2053, 0]
def k0_off73 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v89 : Index := Scalar.indexCast v9
  let c2054 : Index := 2054#32
  let c0_36 : Index := 0#32
  ![v89.toNat, 2054, 0]
def k0_off74 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v92 : Index := Scalar.indexCast v9
  let c2055 : Index := 2055#32
  let c0_37 : Index := 0#32
  ![v92.toNat, 2055, 0]
def k0_off75 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v109 : Index := Scalar.indexCast v9
  let c4096 : Index := 4096#32
  let c0_40 : Index := 0#32
  ![v109.toNat, 4096, 0]
def k0_off76 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v112 : Index := Scalar.indexCast v9
  let c4097 : Index := 4097#32
  let c0_41 : Index := 0#32
  ![v112.toNat, 4097, 0]
def k0_off77 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v115 : Index := Scalar.indexCast v9
  let c4098 : Index := 4098#32
  let c0_42 : Index := 0#32
  ![v115.toNat, 4098, 0]
def k0_off78 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v118 : Index := Scalar.indexCast v9
  let c4099 : Index := 4099#32
  let c0_43 : Index := 0#32
  ![v118.toNat, 4099, 0]
def k0_off79 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v121 : Index := Scalar.indexCast v9
  let c4100 : Index := 4100#32
  let c0_44 : Index := 0#32
  ![v121.toNat, 4100, 0]
def k0_off80 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v124 : Index := Scalar.indexCast v9
  let c4101 : Index := 4101#32
  let c0_45 : Index := 0#32
  ![v124.toNat, 4101, 0]
def k0_off81 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v127 : Index := Scalar.indexCast v9
  let c4102 : Index := 4102#32
  let c0_46 : Index := 0#32
  ![v127.toNat, 4102, 0]
def k0_off82 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v130 : Index := Scalar.indexCast v9
  let c4103 : Index := 4103#32
  let c0_47 : Index := 0#32
  ![v130.toNat, 4103, 0]
def k0_off83 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v147 : Index := Scalar.indexCast v9
  let c6144 : Index := 6144#32
  let c0_50 : Index := 0#32
  ![v147.toNat, 6144, 0]
def k0_off84 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v150 : Index := Scalar.indexCast v9
  let c6145 : Index := 6145#32
  let c0_51 : Index := 0#32
  ![v150.toNat, 6145, 0]
def k0_off85 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v153 : Index := Scalar.indexCast v9
  let c6146 : Index := 6146#32
  let c0_52 : Index := 0#32
  ![v153.toNat, 6146, 0]
def k0_off86 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v156 : Index := Scalar.indexCast v9
  let c6147 : Index := 6147#32
  let c0_53 : Index := 0#32
  ![v156.toNat, 6147, 0]
def k0_off87 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v159 : Index := Scalar.indexCast v9
  let c6148 : Index := 6148#32
  let c0_54 : Index := 0#32
  ![v159.toNat, 6148, 0]
def k0_off88 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v162 : Index := Scalar.indexCast v9
  let c6149 : Index := 6149#32
  let c0_55 : Index := 0#32
  ![v162.toNat, 6149, 0]
def k0_off89 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v165 : Index := Scalar.indexCast v9
  let c6150 : Index := 6150#32
  let c0_56 : Index := 0#32
  ![v165.toNat, 6150, 0]
def k0_off90 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v168 : Index := Scalar.indexCast v9
  let c6151 : Index := 6151#32
  let c0_57 : Index := 0#32
  ![v168.toNat, 6151, 0]
def k0_off91 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v185 : Index := Scalar.indexCast v9
  let c8192 : Index := 8192#32
  let c0_60 : Index := 0#32
  ![v185.toNat, 8192, 0]
def k0_off92 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v188 : Index := Scalar.indexCast v9
  let c8193 : Index := 8193#32
  let c0_61 : Index := 0#32
  ![v188.toNat, 8193, 0]
def k0_off93 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v191 : Index := Scalar.indexCast v9
  let c8194 : Index := 8194#32
  let c0_62 : Index := 0#32
  ![v191.toNat, 8194, 0]
def k0_off94 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v194 : Index := Scalar.indexCast v9
  let c8195 : Index := 8195#32
  let c0_63 : Index := 0#32
  ![v194.toNat, 8195, 0]
def k0_off95 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v197 : Index := Scalar.indexCast v9
  let c8196 : Index := 8196#32
  let c0_64 : Index := 0#32
  ![v197.toNat, 8196, 0]
def k0_off96 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v200 : Index := Scalar.indexCast v9
  let c8197 : Index := 8197#32
  let c0_65 : Index := 0#32
  ![v200.toNat, 8197, 0]
def k0_off97 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v203 : Index := Scalar.indexCast v9
  let c8198 : Index := 8198#32
  let c0_66 : Index := 0#32
  ![v203.toNat, 8198, 0]
def k0_off98 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v206 : Index := Scalar.indexCast v9
  let c8199 : Index := 8199#32
  let c0_67 : Index := 0#32
  ![v206.toNat, 8199, 0]
def k0_off99 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v223 : Index := Scalar.indexCast v9
  let c10240 : Index := 10240#32
  let c0_70 : Index := 0#32
  ![v223.toNat, 10240, 0]
def k0_off100 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v226 : Index := Scalar.indexCast v9
  let c10241 : Index := 10241#32
  let c0_71 : Index := 0#32
  ![v226.toNat, 10241, 0]
def k0_off101 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v229 : Index := Scalar.indexCast v9
  let c10242 : Index := 10242#32
  let c0_72 : Index := 0#32
  ![v229.toNat, 10242, 0]
def k0_off102 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v232 : Index := Scalar.indexCast v9
  let c10243 : Index := 10243#32
  let c0_73 : Index := 0#32
  ![v232.toNat, 10243, 0]
def k0_off103 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v235 : Index := Scalar.indexCast v9
  let c10244 : Index := 10244#32
  let c0_74 : Index := 0#32
  ![v235.toNat, 10244, 0]
def k0_off104 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v238 : Index := Scalar.indexCast v9
  let c10245 : Index := 10245#32
  let c0_75 : Index := 0#32
  ![v238.toNat, 10245, 0]
def k0_off105 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v241 : Index := Scalar.indexCast v9
  let c10246 : Index := 10246#32
  let c0_76 : Index := 0#32
  ![v241.toNat, 10246, 0]
def k0_off106 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v244 : Index := Scalar.indexCast v9
  let c10247 : Index := 10247#32
  let c0_77 : Index := 0#32
  ![v244.toNat, 10247, 0]
def k0_off107 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v261 : Index := Scalar.indexCast v9
  let c12288 : Index := 12288#32
  let c0_80 : Index := 0#32
  ![v261.toNat, 12288, 0]
def k0_off108 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v264 : Index := Scalar.indexCast v9
  let c12289 : Index := 12289#32
  let c0_81 : Index := 0#32
  ![v264.toNat, 12289, 0]
def k0_off109 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v267 : Index := Scalar.indexCast v9
  let c12290 : Index := 12290#32
  let c0_82 : Index := 0#32
  ![v267.toNat, 12290, 0]
def k0_off110 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v270 : Index := Scalar.indexCast v9
  let c12291 : Index := 12291#32
  let c0_83 : Index := 0#32
  ![v270.toNat, 12291, 0]
def k0_off111 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v273 : Index := Scalar.indexCast v9
  let c12292 : Index := 12292#32
  let c0_84 : Index := 0#32
  ![v273.toNat, 12292, 0]
def k0_off112 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v276 : Index := Scalar.indexCast v9
  let c12293 : Index := 12293#32
  let c0_85 : Index := 0#32
  ![v276.toNat, 12293, 0]
def k0_off113 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v279 : Index := Scalar.indexCast v9
  let c12294 : Index := 12294#32
  let c0_86 : Index := 0#32
  ![v279.toNat, 12294, 0]
def k0_off114 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v282 : Index := Scalar.indexCast v9
  let c12295 : Index := 12295#32
  let c0_87 : Index := 0#32
  ![v282.toNat, 12295, 0]
def k0_off115 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v299 : Index := Scalar.indexCast v9
  let c14336 : Index := 14336#32
  let c0_90 : Index := 0#32
  ![v299.toNat, 14336, 0]
def k0_off116 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v302 : Index := Scalar.indexCast v9
  let c14337 : Index := 14337#32
  let c0_91 : Index := 0#32
  ![v302.toNat, 14337, 0]
def k0_off117 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v305 : Index := Scalar.indexCast v9
  let c14338 : Index := 14338#32
  let c0_92 : Index := 0#32
  ![v305.toNat, 14338, 0]
def k0_off118 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v308 : Index := Scalar.indexCast v9
  let c14339 : Index := 14339#32
  let c0_93 : Index := 0#32
  ![v308.toNat, 14339, 0]
def k0_off119 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v311 : Index := Scalar.indexCast v9
  let c14340 : Index := 14340#32
  let c0_94 : Index := 0#32
  ![v311.toNat, 14340, 0]
def k0_off120 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v314 : Index := Scalar.indexCast v9
  let c14341 : Index := 14341#32
  let c0_95 : Index := 0#32
  ![v314.toNat, 14341, 0]
def k0_off121 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v317 : Index := Scalar.indexCast v9
  let c14342 : Index := 14342#32
  let c0_96 : Index := 0#32
  ![v317.toNat, 14342, 0]
def k0_off122 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : Index := Scalar.indexCast v9
  let c14343 : Index := 14343#32
  let c0_97 : Index := 0#32
  ![v320.toNat, 14343, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x2048 : Shape := ⟨2, ![16384, 2048]⟩
abbrev S16384x512 : Shape := ⟨2, ![16384, 512]⟩
abbrev S512x2048 : Shape := ⟨2, ![512, 2048]⟩
abbrev S8x16384 : Shape := ⟨2, ![8, 16384]⟩
abbrev S16384x8 : Shape := ⟨2, ![16384, 8]⟩
abbrev S1310720x128 : Shape := ⟨2, ![1310720, 128]⟩
abbrev S2048 : Shape := ⟨1, ![2048]⟩
abbrev S163840x1024 : Shape := ⟨2, ![163840, 1024]⟩
abbrev S_ : Shape := ⟨0, ![]⟩
abbrev S163840x2048 : Shape := ⟨2, ![163840, 2048]⟩
abbrev S8x16384x1 : Shape := ⟨3, ![8, 16384, 1]⟩
abbrev S8x16384x2048 : Shape := ⟨3, ![8, 16384, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S512x2048, .f32⟩
  | .hbm, ⟨3, _⟩ => ⟨S8x16384, .i32⟩
  | .hbm, ⟨4, _⟩ => ⟨S16384x8, .f32⟩
  | .hbm, ⟨5, _⟩ => ⟨S1310720x128, .i32⟩
  | .hbm, ⟨6, _⟩ => ⟨S2048, .f32⟩
  | .hbm, ⟨7, _⟩ => ⟨S2048, .f32⟩
  | .hbm, ⟨8, _⟩ => ⟨S163840x1024, .i32⟩
  | .hbm, ⟨9, _⟩ => ⟨S_, .i32⟩
  | .hbm, ⟨10, _⟩ => ⟨S163840x1024, .i32⟩
  | .hbm, ⟨11, _⟩ => ⟨S163840x1024, .i32⟩
  | .hbm, ⟨12, _⟩ => ⟨S163840x1024, .f32⟩
  | .hbm, ⟨13, _⟩ => ⟨S_, .i32⟩
  | .hbm, ⟨14, _⟩ => ⟨S163840x1024, .i32⟩
  | .hbm, ⟨15, _⟩ => ⟨S163840x1024, .i32⟩
  | .hbm, ⟨16, _⟩ => ⟨S163840x1024, .f32⟩
  | .hbm, ⟨17, _⟩ => ⟨S163840x2048, .f32⟩
  | .hbm, ⟨18, _⟩ => ⟨S8x16384, .f32⟩
  | .hbm, ⟨19, _⟩ => ⟨S8x16384x1, .f32⟩
  | .hbm, ⟨20, _⟩ => ⟨S_, .i32⟩
  | .hbm, ⟨21, _⟩ => ⟨S8x16384, .i32⟩
  | .hbm, ⟨22, _⟩ => ⟨S8x16384, .i1⟩
  | .hbm, ⟨23, _⟩ => ⟨S_, .i32⟩
  | .hbm, ⟨24, _⟩ => ⟨S8x16384, .i32⟩
  | .hbm, ⟨25, _⟩ => ⟨S8x16384, .i32⟩
  | .hbm, ⟨26, _⟩ => ⟨S8x16384, .i32⟩
  | .hbm, ⟨27, _⟩ => ⟨S8x16384x1, .i32⟩
  | .hbm, ⟨28, _⟩ => ⟨S8x16384x2048, .f32⟩
  | .hbm, ⟨29, _⟩ => ⟨S8x16384x2048, .f32⟩
  | .hbm, ⟨30, _⟩ => ⟨S8x16384x2048, .f32⟩
  | .hbm, ⟨31, _⟩ => ⟨S_, .f32⟩
  | .hbm, ⟨32, _⟩ => ⟨S16384x2048, .f32⟩
  | .hbm, ⟨33, _⟩ => ⟨S16384x512, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S1x2048, .f32⟩
  | .hbm, ⟨67, _⟩ => ⟨S16384x2048, .f32⟩
  | .hbm, ⟨68, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel6.lean ====
abbrev S64 : Shape := ⟨1, ![64]⟩
abbrev S8x16384 : Shape := ⟨2, ![8, 16384]⟩
abbrev S8x2048 : Shape := ⟨2, ![8, 2048]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S8x16384, .i32⟩
  | .hbm, ⟨1, _⟩ => ⟨S8x16384, .i32⟩
  | .hbm, ⟨2, _⟩ => ⟨S8x16384, .i32⟩
  | .local _ .vmem, ⟨0, _⟩ => ⟨S8x2048, .i32⟩
  | .local _ .vmem, ⟨1, _⟩ => ⟨S8x2048, .i32⟩
  | .local _ .vmem, ⟨2, _⟩ => ⟨S8x2048, .i32⟩
  | .local _ .vmem, ⟨3, _⟩ => ⟨S8x2048, .i32⟩
  | .local _ .vmem, ⟨4, _⟩ => ⟨S8x2048, .i32⟩
  | .local _ .vmem, ⟨5, _⟩ => ⟨S8x2048, .i32⟩
  | .local _ .smem, ⟨0, _⟩ => ⟨S64, .i32⟩
  | _, _ => ⟨S8x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S64 : Shape := ⟨1, ![64]⟩
abbrev S8x16384 : Shape := ⟨2, ![8, 16384]⟩
abbrev S_ : Shape := ⟨0, ![]⟩
abbrev S8x16384x1 : Shape := ⟨3, ![8, 16384, 1]⟩

abbrev nBuf : Space → Nat
  | .hbm => 13
  | .vmem => 0
  | .smem => 0
  | _ => 0

abbrev bufTy : (tb : Table) → Fin (tcTables nBuf tb) → BufTy
  | .hbm, ⟨0, _⟩ => ⟨S64, .i32⟩
  | .hbm, ⟨1, _⟩ => ⟨S8x16384, .i32⟩
  | .hbm, ⟨2, _⟩ => ⟨S8x16384, .i32⟩
  | .hbm, ⟨3, _⟩ => ⟨S_, .i32⟩
  | .hbm, ⟨4, _⟩ => ⟨S8x16384, .i32⟩
  | .hbm, ⟨5, _⟩ => ⟨S8x16384, .i1⟩
  | .hbm, ⟨6, _⟩ => ⟨S_, .i32⟩
  | .hbm, ⟨7, _⟩ => ⟨S8x16384, .i32⟩
  | .hbm, ⟨8, _⟩ => ⟨S8x16384, .i32⟩
  | .hbm, ⟨9, _⟩ => ⟨S8x16384, .i32⟩
  | .hbm, ⟨10, _⟩ => ⟨S8x16384x1, .i32⟩
  | .hbm, ⟨11, _⟩ => ⟨S8x16384, .i32⟩
  | .hbm, ⟨12, _⟩ => ⟨S8x16384, .i32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel7.lean ====
abbrev S4x4096 : Shape := ⟨2, ![4, 4096]⟩
abbrev S128 : Shape := ⟨1, ![128]⟩
abbrev S16384x1 : Shape := ⟨2, ![16384, 1]⟩
abbrev S64 : Shape := ⟨1, ![64]⟩
abbrev S_ : Shape := ⟨0, ![]⟩
abbrev S32 : Shape := ⟨1, ![32]⟩
abbrev S1x64 : Shape := ⟨2, ![1, 64]⟩
abbrev S2x64 : Shape := ⟨2, ![2, 64]⟩
abbrev S1x128 : Shape := ⟨2, ![1, 128]⟩
abbrev S1x32 : Shape := ⟨2, ![1, 32]⟩
abbrev S4x32 : Shape := ⟨2, ![4, 32]⟩
abbrev S16384x128 : Shape := ⟨2, ![16384, 128]⟩
abbrev S512x1 : Shape := ⟨2, ![512, 1]⟩
abbrev S512x128 : Shape := ⟨2, ![512, 128]⟩

abbrev nBuf : Space → Nat
  | .hbm => 47
  | .vmem => 14
  | .smem => 0
  | _ => 0

abbrev bufTy : (tb : Table) → Fin (tcTables nBuf tb) → BufTy
  | .hbm, ⟨0, _⟩ => ⟨S4x4096, .i32⟩
  | .hbm, ⟨1, _⟩ => ⟨S128, .f32⟩
  | .hbm, ⟨2, _⟩ => ⟨S128, .f32⟩
  | .hbm, ⟨3, _⟩ => ⟨S16384x1, .i32⟩
  | .hbm, ⟨4, _⟩ => ⟨S16384x1, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1x64, .f32⟩
  | .hbm, ⟨34, _⟩ => ⟨S2x64, .f32⟩
  | .hbm, ⟨35, _⟩ => ⟨S128, .f32⟩
  | .hbm, ⟨36, _⟩ => ⟨S1x128, .f32⟩
  | .hbm, ⟨37, _⟩ => ⟨S1x32, .f32⟩
  | .hbm, ⟨38, _⟩ => ⟨S4x32, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_v14 : Ref sig .tc := ⟨.hbm, 22, rfl⟩
abbrev main_cst_6 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_7 : Ref sig .tc := ⟨.hbm, 27, rfl⟩
abbrev main_v18 : Ref sig .tc := ⟨.hbm, 28, rfl⟩
abbrev main_v19 : Ref sig .tc := ⟨.hbm, 29, rfl⟩
abbrev main_cst_8 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4x4096 : Shape := ⟨2, ![4, 4096]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S32 : Shape := ⟨1, ![32]⟩
abbrev S1x32 : Shape := ⟨2, ![1, 32]⟩
abbrev S16384x32 : Shape := ⟨2, ![16384, 32]⟩

abbrev nBuf : Space → Nat
  | .hbm => 55
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S16384, .i32⟩
  | .hbm, ⟨16, _⟩ => ⟨S16384, .f32⟩
  | .hbm, ⟨17, _⟩ => ⟨S16384x1, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x128, .f32⟩
  | .hbm, ⟨25, _⟩ => ⟨S16384x64, .f32⟩
  | .hbm, ⟨26, _⟩ => ⟨S16384x128, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S16384, .i32⟩
  | .hbm, ⟨42, _⟩ => ⟨S16384, .f32⟩
  | .hbm, ⟨43, _⟩ => ⟨S16384x1, .f32⟩
  | .hbm, ⟨44, _⟩ => ⟨S1x32, .f32⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x64, .f32⟩
  | .hbm, ⟨51, _⟩ => ⟨S16384x32, .f32⟩
  | .hbm, ⟨52, _⟩ => ⟨S16384x64, .f32⟩
  | .hbm, ⟨53, _⟩ => ⟨S16384x128, .f32⟩
  | .hbm, ⟨54, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel8.lean ====
abbrev S16384x16384 : Shape := ⟨2, ![16384, 16384]⟩
abbrev S16384x128 : Shape := ⟨2, ![16384, 128]⟩
abbrev S64 : Shape := ⟨1, ![64]⟩
abbrev S_ : Shape := ⟨0, ![]⟩
abbrev S128 : Shape := ⟨1, ![128]⟩
abbrev S1x128 : Shape := ⟨2, ![1, 128]⟩
abbrev S32x16x512x128 : Shape := ⟨4, ![32, 16, 512, 128]⟩
abbrev S16384x256 : Shape := ⟨2, ![16384, 256]⟩
abbrev S16384x512 : Shape := ⟨2, ![16384, 512]⟩
abbrev S32x4x512x128 : Shape := ⟨4, ![32, 4, 512, 128]⟩
abbrev S512x2048 : Shape := ⟨2, ![512, 2048]⟩
abbrev S512x256 : Shape := ⟨2, ![512, 256]⟩
abbrev S512x512 : Shape := ⟨2, ![512, 512]⟩
abbrev S512x128 : Shape := ⟨2, ![512, 128]⟩
abbrev S1x16x512x128 : Shape := ⟨4, ![1, 16, 512, 128]⟩
abbrev S1x4x512x128 : Shape := ⟨4, ![1, 4, 512, 128]⟩
abbrev S1x1x512x128 : Shape := ⟨4, ![1, 1, 512, 128]⟩
abbrev S512 : Shape := ⟨1, ![512]⟩
abbrev S512x1 : Shape := ⟨2, ![512, 1]⟩

abbrev nBuf : Space → Nat
  | .hbm => 20
  | .vmem => 34
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S32x16x512x128, .bf16⟩
  | .hbm, ⟨14, _⟩ => ⟨S16384x256, .bf16⟩
  | .hbm, ⟨15, _⟩ => ⟨S16384x512, .bf16⟩
  | .hbm, ⟨16, _⟩ => ⟨S32x4x512x128, .bf16⟩
  | .hbm, ⟨17, _⟩ => ⟨S16384x128, .bf16⟩
  | .hbm, ⟨18, _⟩ => ⟨S16384x128, .bf16⟩
  | .hbm, ⟨19, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | .local _ .vmem, ⟨20, _⟩ => ⟨S1x16x512x128, .bf16⟩
  | .local _ .vmem, ⟨21, _⟩ => ⟨S1x16x512x128, .bf16⟩
  | .local _ .vmem, ⟨22, _⟩ => ⟨S512x256, .bf16⟩
  | .local _ .vmem, ⟨23, _⟩ => ⟨S512x256, .bf16⟩
  | .local _ .vmem, ⟨24, _⟩ => ⟨S512x512, .bf16⟩
  | .local _ .vmem, ⟨25, _⟩ => ⟨S512x512, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S512x128, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S512x128, .f32⟩
  | .local _ .vmem, ⟨33, _⟩ => ⟨S512x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c56_i32 : BitVec 32 := 56#32
  let c0_i32 : BitVec 32 := 0#32
  ![arg0.toNat, c56_i32.toNat]

def cc0_transform_2 (i : grid0.Coords) : Fin 2 → Nat :=
  let arg0 : BitVec 32 := BitVec.ofNat 32 (i 0).val
  let c57_i32 : BitVec 32 := 57#32
  let c0_i32 : BitVec 32 := 0#32
  ![arg0.toNat, c57_i32.toNat]

def cc0_transform_3 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_4 (i : grid0.Coords) : Fin 2 → Nat :=
  let arg0 : BitVec 32 := BitVec.ofNat 32 (i 0).val
  let c120_i32 : BitVec 32 := 120#32
  let c0_i32 : BitVec 32 := 0#32
  ![arg0.toNat, c120_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference8Ideal.lean ====
abbrev S16384x16384 : Shape := ⟨2, ![16384, 16384]⟩
abbrev S16384x128 : Shape := ⟨2, ![16384, 128]⟩
abbrev S64 : Shape := ⟨1, ![64]⟩
abbrev S16384x2048 : Shape := ⟨2, ![16384, 2048]⟩
abbrev S16384x16x128 : Shape := ⟨3, ![16384, 16, 128]⟩
abbrev S16384x256 : Shape := ⟨2, ![16384, 256]⟩
abbrev S16384x2x128 : Shape := ⟨3, ![16384, 2, 128]⟩
abbrev S16384x512 : Shape := ⟨2, ![16384, 512]⟩
abbrev S16384x4x2x64 : Shape := ⟨4, ![16384, 4, 2, 64]⟩
abbrev S16384x1x128 : Shape := ⟨3, ![16384, 1, 128]⟩
abbrev S16384x16x64 : Shape := ⟨3, ![16384, 16, 64]⟩
abbrev S_ : Shape := ⟨0, ![]⟩
abbrev S16384x2x64 : Shape := ⟨3, ![16384, 2, 64]⟩
abbrev S16384x2x256 : Shape := ⟨3, ![16384, 2, 256]⟩
abbrev S16384x1x2x64 : Shape := ⟨4, ![16384, 1, 2, 64]⟩
abbrev S16384x4x2x32 : Shape := ⟨4, ![16384, 4, 2, 32]⟩
abbrev S16384x64 : Shape := ⟨2, ![16384, 64]⟩
abbrev S16384 : Shape := ⟨1, ![16384]⟩
abbrev S16384x1 : Shape := ⟨2, ![16384, 1]⟩
abbrev S1x64 : Shape := ⟨2, ![1, 64]⟩
abbrev S16384x32 : Shape := ⟨2, ![16384, 32]⟩
abbrev S32x512x16x128 : Shape := ⟨4, ![32, 512, 16, 128]⟩
abbrev S32x16x512x128 : Shape := ⟨4, ![32, 16, 512, 128]⟩
abbrev S32x512x4x128 : Shape := ⟨4, ![32, 512, 4, 128]⟩
abbrev S32x4x512x128 : Shape := ⟨4, ![32, 4, 512, 128]⟩

abbrev nBuf : Space → Nat
  | .hbm => 112
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S64, .f32⟩
  | .hbm, ⟨6, _⟩ => ⟨S64, .f32⟩
  | .hbm, ⟨7, _⟩ => ⟨S16384x2048, .f32⟩
  | .hbm, ⟨8, _⟩ => ⟨S16384x16x128, .f32⟩
  | .hbm, ⟨9, _⟩ => ⟨S16384x256, .f32⟩
  | .hbm, ⟨10, _⟩ => ⟨S16384x2x128, .f32⟩
  | .hbm, ⟨11, _⟩ => ⟨S16384x256, .f32⟩
  | .hbm, ⟨12, _⟩ => ⟨S16384x2x128, .f32⟩
  | .hbm, ⟨13, _⟩ => ⟨S16384x512, .f32⟩
  | .hbm, ⟨14, _⟩ => ⟨S16384x4x2x64, .f32⟩
  | .hbm, ⟨15, _⟩ => ⟨S16384x128, .f32⟩
  | .hbm, ⟨16, _⟩ => ⟨S16384x1x128, .f32⟩
  | .hbm, ⟨17, _⟩ => ⟨S16384x1x128, .f32⟩
  | .hbm, ⟨18, _⟩ => ⟨S16384x16x64, .f32⟩
  | .hbm, ⟨19, _⟩ => ⟨S16384x16x64, .f32⟩
  | .hbm, ⟨20, _⟩ => ⟨S16384x16x128, .f32⟩
  | .hbm, ⟨21, _⟩ => ⟨S16384x16x128, .f32⟩
  | .hbm, ⟨22, _⟩ => ⟨S16384x16x128, .f32⟩
  | .hbm, ⟨23, _⟩ => ⟨S16384x16x128, .f32⟩
  | .hbm, ⟨24, _⟩ => ⟨S16384x16x128, .f32⟩
  | .hbm, ⟨25, _⟩ => ⟨S16384x16x128, .f32⟩
  | .hbm, ⟨26, _⟩ => ⟨S_, .f32⟩
  | .hbm, ⟨27, _⟩ => ⟨S16384x16x128, .f32⟩
  | .hbm, ⟨28, _⟩ => ⟨S16384x16x128, .f32⟩
  | .hbm, ⟨29, _⟩ => ⟨S16384x1x128, .f32⟩
  | .hbm, ⟨30, _⟩ => ⟨S16384x1x128, .f32⟩
  | .hbm, ⟨31, _⟩ => ⟨S16384x2x64, .f32⟩
  | .hbm, ⟨32, _⟩ => ⟨S16384x2x64, .f32⟩
  | .hbm, ⟨33, _⟩ => ⟨S16384x2x128, .f32⟩
  | .hbm, ⟨34, _⟩ => ⟨S16384x2x128, .f32⟩
  | .hbm, ⟨35, _⟩ => ⟨S16384x2x128, .f32⟩
  | .hbm, ⟨36, _⟩ => ⟨S16384x2x128, .f32⟩
  | .hbm, ⟨37, _⟩ => ⟨S16384x2x128, .f32⟩
  | .hbm, ⟨38, _⟩ => ⟨S16384x2x128, .f32⟩
  | .hbm, ⟨39, _⟩ => ⟨S_, .f32⟩
  | .hbm, ⟨40, _⟩ => ⟨S16384x2x128, .f32⟩
  | .hbm, ⟨41, _⟩ => ⟨S16384x2x256, .f32⟩
  | .hbm, ⟨42, _⟩ => ⟨S16384x1x2x64, .f32⟩
  | .hbm, ⟨43, _⟩ => ⟨S16384x1x2x64, .f32⟩
  | .hbm, ⟨44, _⟩ => ⟨S16384x4x2x32, .f32⟩
  | .hbm, ⟨45, _⟩ => ⟨S16384x4x2x32, .f32⟩
  | .hbm, ⟨46, _⟩ => ⟨S16384x4x2x64, .f32⟩
  | .hbm, ⟨47, _⟩ => ⟨S16384x4x2x64, .f32⟩
  | .hbm, ⟨48, _⟩ => ⟨S16384x4x2x64, .f32⟩
  | .hbm, ⟨49, _⟩ => ⟨S16384x4x2x64, .f32⟩
  | .hbm, ⟨50, _⟩ => ⟨S16384x4x2x64, .f32⟩
  | .hbm, ⟨51, _⟩ => ⟨S16384x4x2x64, .f32⟩
  | .hbm, ⟨52, _⟩ => ⟨S16384x64, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x64, .f32⟩
  | .hbm, ⟨75, _⟩ => ⟨S16384x64, .f32⟩
  | .hbm, ⟨76, _⟩ => ⟨S1x64, .f32⟩
  | .hbm, ⟨77, _⟩ => ⟨S16384x64, .f32⟩
  | .hbm, ⟨78, _⟩ => ⟨S16384x64, .f32⟩
  | .hbm, ⟨79, _⟩ => ⟨S1x64, .f32⟩
  | .hbm, ⟨80, _⟩ => ⟨S16384x64, .f32⟩
  | .hbm, ⟨81, _⟩ => ⟨S16384x64, .f32⟩
  | .hbm, ⟨82, _⟩ => ⟨S16384x64, .f32⟩
  | .hbm, ⟨83, _⟩ => ⟨S16384x64, .f32⟩
  | .hbm, ⟨84, _⟩ => ⟨S16384x32, .f32⟩
  | .hbm, ⟨85, _⟩ => ⟨S16384x32, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S_, .f32⟩
  | .hbm, ⟨91, _⟩ => ⟨S16384x64, .f32⟩
  | .hbm, ⟨92, _⟩ => ⟨S32x512x16x128, .f32⟩
  | .hbm, ⟨93, _⟩ => ⟨S32x16x512x128, .f32⟩
  | .hbm, ⟨94, _⟩ => ⟨S32x16x512x128, .bf16⟩
  | .hbm, ⟨95, _⟩ => ⟨S16384x256, .f32⟩
  | .hbm, ⟨96, _⟩ => ⟨S16384x256, .bf16⟩
  | .hbm, ⟨97, _⟩ => ⟨S16384x512, .f32⟩
  | .hbm, ⟨98, _⟩ => ⟨S16384x512, .bf16⟩
  | .hbm, ⟨99, _⟩ => ⟨S32x512x4x128, .f32⟩
  | .hbm, ⟨100, _⟩ => ⟨S32x4x512x128, .f32⟩
  | .hbm, ⟨101, _⟩ => ⟨S32x4x512x128, .bf16⟩
  | .hbm, ⟨102, _⟩ => ⟨S16384x128, .f32⟩
  | .hbm, ⟨103, _⟩ => ⟨S16384x128, .bf16⟩
  | .hbm, ⟨104, _⟩ => ⟨S16384x128, .f32⟩
  | .hbm, ⟨105, _⟩ => ⟨S16384x128, .bf16⟩
  | .hbm, ⟨106, _⟩ => ⟨S_, .f32⟩
  | .hbm, ⟨107, _⟩ => ⟨S16384x128, .f32⟩
  | .hbm, ⟨108, _⟩ => ⟨S16384x128, .f32⟩
  | .hbm, ⟨109, _⟩ => ⟨S_, .f32⟩
  | .hbm, ⟨110, _⟩ => ⟨S16384x128, .f32⟩
  | .hbm, ⟨111, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_7 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩

abbrev nD : Nat := 1
abbrev τ : Topo := Topo.v7x

variable {F : FTy → Type} [FloatOps F]
-- ==== Proof.GdnBody.lean ====
/- The recurrence kernel's body, uniformly over the eight chunks of a block and the sixteen heads: the vectors of one
   chunk and head as functions of what was loaded for it, the head's state after a number of chunks, and the body's
   stores as one list of such vectors. -/
module

public import proofs.«01_k».proof.Proof.Gen.KernelIdeal.Value

@[expose] public section

noncomputable section

namespace Cert.KernelIdeal.Gdn

open Cert.KernelIdeal Cert.KernelIdeal.Gen Idealize.ShloMosaic Idealize.ShloMosaic.TcCoe Idealize.SL.Sem

variable {F : FTy → Type} [FloatOps F]

/-- The state against the decayed keys (rows 0 to 63) and against the decayed queries (rows 64 to 127). -/
def wsOf (st : FVec F S128x128 .f32) (w q : Vec F S64x128 .bf16) : FVec F S128x128 .f32 :=
  matmul dot_S128x128_S128x128_S128x128_1_0_0_1_n_n none
    (concatenate S128x128 0 [⟨S64x128, w⟩, ⟨S64x128, q⟩] concatenates_S64x128_S64x128_S128x128_d0)
    (truncf .bf16 st bitsLt_bf16_f32) (constant S128x128 .f32 0x00000000#32)

/-- The chunk's new values. -/
def vnOf (ws : FVec F S128x128 .f32) (u : Vec F S64x128 .f32) : FVec F S64x128 .bf16 :=
  truncf .bf16 (subf u (extractStridedSlice S64x128 ![0, 0] ws slices_S128x128_o0_0_S64x128)) bitsLt_bf16_f32

/-- The chunk's result before the gated normalization. -/
def oOf (ws : FVec F S128x128 .f32) (vn : FVec F S64x128 .bf16) (a : Vec F S64x64 .bf16) : FVec F S64x128 .f32 :=
  addf (extractStridedSlice S64x128 ![64, 0] ws slices_S128x128_o64_0_S64x128)
    (matmul dot_S64x64_S64x128_S64x128_1_0_0_1_n_n none a vn (constant S64x128 .f32 0x00000000#32))

/-- The state after the chunk. -/
def stOf (st : FVec F S128x128 .f32) (vn : FVec F S64x128 .bf16) (e : Vec F S1x128 .f32) (k : Vec F S64x128 .bf16) :
    FVec F S128x128 .f32 :=
  addf (mulf st (broadcastTo S128x128 e broadcasts_S1x128_S128x128))
    (matmul dot_S64x128_S64x128_S128x128_0_0_1_1_n_n none k vn (constant S128x128 .f32 0x00000000#32))

/-- The gated normalization of a chunk's result. -/
def outOf (o : FVec F S64x128 .f32) (z : Vec F S64x128 .f32) (nw : Vec F S1x128 .f32) : FVec F S64x128 .bf16 :=
  truncf .bf16
    (mulf
      (mulf
        (mulf o
          (broadcastTo S64x128
            (rsqrt
              (addf
                (divf
                  (shapeCast S64x1 (multiReduction .add [1] S64 (mulf o o) 0x00000000#32 reduces_S64x128_S64 (.inl rfl) rfl)
                    shapeCasts_S64_S64x1)
                  (broadcast S64x1 (Scalar.ofBits .f32 0x43000000#32)))
                (broadcast S64x1 (Scalar.ofBits .f32 0x358637BD#32))))
            broadcasts_S64x1_S64x128))
        (broadcastTo S64x128 nw broadcasts_S1x128_S64x128))
      (mulf z (logistic z)))
    bitsLt_bf16_f32

/-- What the body loads for chunk `s` of the block and head `h`. -/
structure Loads (F : FTy → Type) [FloatOps F] where
  u : ℕ → ℕ → Vec F S64x128 .f32
  w : ℕ → ℕ → Vec F S64x128 .bf16
  q : ℕ → ℕ → Vec F S64x128 .bf16
  k : ℕ → ℕ → Vec F S64x128 .bf16
  a : ℕ → ℕ → Vec F S64x64 .bf16
  e : ℕ → ℕ → Vec F S1x128 .f32
  z : ℕ → ℕ → Vec F S64x128 .f32
  nw : Vec F S1x128 .f32

/-- Head `h`'s state after `s` chunks of the block, from `st0`. -/
def St (L : Loads F) (st0 : ℕ → FVec F S128x128 .f32) (s h : ℕ) : FVec F S128x128 .f32 :=
  Nat.rec (st0 h) (fun s st => stOf st (vnOf (wsOf st (L.w s h) (L.q s h)) (L.u s h)) (L.e s h) (L.k s h)) s

/-- Head `h`'s products of chunk `s`. -/
def Ws (L : Loads F) (st0 : ℕ → FVec F S128x128 .f32) (s h : ℕ) : FVec F S128x128 .f32 :=
  wsOf (St L st0 s h) (L.w s h) (L.q s h)

/-- Head `h`'s new values of chunk `s`. -/
def Vn (L : Loads F) (st0 : ℕ → FVec F S128x128 .f32) (s h : ℕ) : FVec F S64x128 .bf16 :=
  vnOf (Ws L st0 s h) (L.u s h)

/-- Head `h`'s result of chunk `s`. -/
def Out (L : Loads F) (st0 : ℕ → FVec F S128x128 .f32) (s h : ℕ) : FVec F S64x128 .bf16 :=
  outOf (oOf (Ws L st0 s h) (Vn L st0 s h) (L.a s h)) (L.z s h) L.nw

theorem inb64 (s h : ℕ) : ∀ a, (![64 * (s % 8), 128 * (h % 16)] : Fin 2 → ℕ) a + S64x128.size a ≤ S512x2048.size a := by
  intro a; match a with
  | 0 => show 64 * (s % 8) + 64 ≤ 512; omega
  | 1 => show 128 * (h % 16) + 128 ≤ 2048; omega

theorem inbA (s h : ℕ) : ∀ a, (![64 * (s % 8), 64 * (h % 16)] : Fin 2 → ℕ) a + S64x64.size a ≤ S512x1024.size a := by
  intro a; match a with
  | 0 => show 64 * (s % 8) + 64 ≤ 512; omega
  | 1 => show 64 * (h % 16) + 64 ≤ 1024; omega

theorem inbE (s h : ℕ) : ∀ a, (![8 * (s % 8), 128 * (h % 16)] : Fin 2 → ℕ) a + S1x128.size a ≤ S64x2048.size a := by
  intro a; match a with
  | 0 => show 8 * (s % 8) + 1 ≤ 64; omega
  | 1 => show 128 * (h % 16) + 128 ≤ 2048; omega

theorem inbS (h : ℕ) : ∀ a, (![h % 16, 0, 0] : Fin 3 → ℕ) a + S1x128x128.size a ≤ S16x128x128.size a := by
  intro a; match a with
  | 0 => show h % 16 + 1 ≤ 16; omega
  | 1 => exact le_refl 128
  | 2 => exact le_refl 128

/-- The rectangle of chunk `s`, head `h` in a block of 512 rows. -/
abbrev r64 (s h : ℕ) : Rect S512x2048 := Rect.unit ![64 * (s % 8), 128 * (h % 16)] S64x128.size (inb64 s h)

/-- The rectangle of chunk `s`, head `h` among the attention blocks. -/
abbrev rA (s h : ℕ) : Rect S512x1024 := Rect.unit ![64 * (s % 8), 64 * (h % 16)] S64x64.size (inbA s h)

/-- The row of chunk `s`, head `h` among the decays. -/
abbrev rE (s h : ℕ) : Rect S64x2048 := Rect.unit ![8 * (s % 8), 128 * (h % 16)] S1x128.size (inbE s h)

/-- Head `h`'s matrix in the carried scratch. -/
abbrev rS (h : ℕ) : Rect S16x128x128 := Rect.unit ![h % 16, 0, 0] S1x128x128.size (inbS h)

/-- The loads off the point's buffers. -/
def loadsOf (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S64x2048 .f32) (harg7 : arg7.IsWhole) (arg8 : Memref sig .tc .vmem S512x2048 .f32) (harg8 : arg8.IsWhole) (arg9 : Memref sig .tc .vmem S1x128 .f32) (harg9 : arg9.IsWhole) (x0 : Vec F S512x2048 .f32) (x1 : Vec F S512x2048 .bf16) (x2 : Vec F S512x2048 .bf16) (x3 : Vec F S512x2048 .bf16) (x4 : Vec F S512x1024 .bf16) (x5 : Vec F S64x2048 .f32) (x6 : Vec F S512x2048 .f32) (x7 : Vec F S1x128 .f32) : Loads F where
  u s h := View.readAt (Elt F) arg2.view (r64 s h).toLoadRect (harg2.unread x0)
  w s h := View.readAt (Elt F) arg3.view (r64 s h).toLoadRect (harg3.unread x1)
  q s h := View.readAt (Elt F) arg4.view (r64 s h).toLoadRect (harg4.unread x2)
  k s h := View.readAt (Elt F) arg5.view (r64 s h).toLoadRect (harg5.unread x3)
  a s h := View.readAt (Elt F) arg6.view (rA s h).toLoadRect (harg6.unread x4)
  e s h := View.readAt (Elt F) arg7.view (rE s h).toLoadRect (harg7.unread x5)
  z s h := View.readAt (Elt F) arg8.view (r64 s h).toLoadRect (harg8.unread x6)
  nw := View.readAt (Elt F) arg9.view (Rect.unit ![0, 0] S1x128.size inb_S1x128_S1x128_0_0).toLoadRect (harg9.unread x7)

/-- The stores of the results, last first: chunk `n / 16`, head `n % 16`. -/
def outPieces (L : Loads F) (st0 : ℕ → FVec F S128x128 .f32) : List (View.Piece (Elt F) S512x2048 .bf16) :=
  ((List.range 128).map fun n => ⟨r64 (n / 16) (n % 16), Out L st0 (n / 16) (n % 16)⟩).reverse

/-- The stores of the states, last first. -/
def stPieces (L : Loads F) (st0 : ℕ → FVec F S128x128 .f32) : List (View.Piece (Elt F) S16x128x128 .f32) :=
  ((List.range 16).map fun h => ⟨rS h, shapeCast S1x128x128 (St L st0 8 h) shapeCasts_S128x128_S1x128x128⟩).reverse

/-- The carried states as loaded. -/
def stB (arg11 : Memref sig .tc .vmem S16x128x128 .f32) (harg11 : arg11.IsWhole) (xs0 : Vec F S16x128x128 .f32) (h : ℕ) :
    FVec F S128x128 .f32 :=
  shapeCast S128x128 (View.readAt (Elt F) arg11.view (rS h).toLoadRect (harg11.unread xs0)) shapeCasts_S1x128x128_S128x128

/-- The store that clears the scratch. -/
def zeroPieces : List (View.Piece (Elt F) S16x128x128 .f32) :=
  [⟨Rect.unit ![0, 0, 0] S16x128x128.size inb_S16x128x128_S16x128x128_0_0_0, k0_pay1⟩]

/-- The cleared states as loaded. -/
def stA (arg11 : Memref sig .tc .vmem S16x128x128 .f32) (h : ℕ) : FVec F S128x128 .f32 :=
  shapeCast S128x128 (arg11.view.readCov (zeroPieces (F := F)) (rS h).toLoadRect) shapeCasts_S1x128x128_S128x128

theorem outs_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S64x2048 .f32) (harg7 : arg7.IsWhole) (arg8 : Memref sig .tc .vmem S512x2048 .f32) (harg8 : arg8.IsWhole) (arg9 : Memref sig .tc .vmem S1x128 .f32) (harg9 : arg9.IsWhole) (arg10 : Memref sig .tc .vmem S512x2048 .bf16) (harg10 : arg10.IsWhole) (arg11 : Memref sig .tc .vmem S16x128x128 .f32) (harg11 : arg11.IsWhole) (hc0 : ¬cond0_0 i)
    (x0 : Vec F S512x2048 .f32) (x1 : Vec F S512x2048 .bf16) (x2 : Vec F S512x2048 .bf16) (x3 : Vec F S512x2048 .bf16) (x4 : Vec F S512x1024 .bf16) (x5 : Vec F S64x2048 .f32) (x6 : Vec F S512x2048 .f32) (x7 : Vec F S1x128 .f32) (xs0 : Vec F S16x128x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 x7 xs0).1
      = outPieces (loadsOf arg2 harg2 arg3 harg3 arg4 harg4 arg5 harg5 arg6 harg6 arg7 harg7 arg8 harg8 arg9 harg9 x0 x1 x2 x3 x4 x5 x6 x7) (stB arg11 harg11 xs0) := by
  sl_kernel_rfl

theorem states_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S64x2048 .f32) (harg7 : arg7.IsWhole) (arg8 : Memref sig .tc .vmem S512x2048 .f32) (harg8 : arg8.IsWhole) (arg9 : Memref sig .tc .vmem S1x128 .f32) (harg9 : arg9.IsWhole) (arg10 : Memref sig .tc .vmem S512x2048 .bf16) (harg10 : arg10.IsWhole) (arg11 : Memref sig .tc .vmem S16x128x128 .f32) (harg11 : arg11.IsWhole) (hc0 : ¬cond0_0 i)
    (x0 : Vec F S512x2048 .f32) (x1 : Vec F S512x2048 .bf16) (x2 : Vec F S512x2048 .bf16) (x3 : Vec F S512x2048 .bf16) (x4 : Vec F S512x1024 .bf16) (x5 : Vec F S64x2048 .f32) (x6 : Vec F S512x2048 .f32) (x7 : Vec F S1x128 .f32) (xs0 : Vec F S16x128x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1
      = stPieces (loadsOf arg2 harg2 arg3 harg3 arg4 harg4 arg5 harg5 arg6 harg6 arg7 harg7 arg8 harg8 arg9 harg9 x0 x1 x2 x3 x4 x5 x6 x7) (stB arg11 harg11 xs0) := by
  sl_kernel_rfl

theorem outs_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S64x2048 .f32) (harg7 : arg7.IsWhole) (arg8 : Memref sig .tc .vmem S512x2048 .f32) (harg8 : arg8.IsWhole) (arg9 : Memref sig .tc .vmem S1x128 .f32) (harg9 : arg9.IsWhole) (arg10 : Memref sig .tc .vmem S512x2048 .bf16) (harg10 : arg10.IsWhole) (arg11 : Memref sig .tc .vmem S16x128x128 .f32) (harg11 : arg11.IsWhole) (hc0 : cond0_0 i)
    (x0 : Vec F S512x2048 .f32) (x1 : Vec F S512x2048 .bf16) (x2 : Vec F S512x2048 .bf16) (x3 : Vec F S512x2048 .bf16) (x4 : Vec F S512x1024 .bf16) (x5 : Vec F S64x2048 .f32) (x6 : Vec F S512x2048 .f32) (x7 : Vec F S1x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6 x7).1
      = outPieces (loadsOf arg2 harg2 arg3 harg3 arg4 harg4 arg5 harg5 arg6 harg6 arg7 harg7 arg8 harg8 arg9 harg9 x0 x1 x2 x3 x4 x5 x6 x7) (stA arg11) := by
  sl_kernel_rfl

theorem states_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S64x2048 .f32) (harg7 : arg7.IsWhole) (arg8 : Memref sig .tc .vmem S512x2048 .f32) (harg8 : arg8.IsWhole) (arg9 : Memref sig .tc .vmem S1x128 .f32) (harg9 : arg9.IsWhole) (arg10 : Memref sig .tc .vmem S512x2048 .bf16) (harg10 : arg10.IsWhole) (arg11 : Memref sig .tc .vmem S16x128x128 .f32) (harg11 : arg11.IsWhole) (hc0 : cond0_0 i)
    (x0 : Vec F S512x2048 .f32) (x1 : Vec F S512x2048 .bf16) (x2 : Vec F S512x2048 .bf16) (x3 : Vec F S512x2048 .bf16) (x4 : Vec F S512x1024 .bf16) (x5 : Vec F S64x2048 .f32) (x6 : Vec F S512x2048 .f32) (x7 : Vec F S1x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6 x7).2.1
      = stPieces (loadsOf arg2 harg2 arg3 harg3 arg4 harg4 arg5 harg5 arg6 harg6 arg7 harg7 arg8 harg8 arg9 harg9 x0 x1 x2 x3 x4 x5 x6 x7) (stA arg11) ++ zeroPieces := by
  sl_kernel_rfl

end Cert.KernelIdeal.Gdn

end
-- ==== Proof.GdnPoint.lean ====
/- The recurrence's vectors element by element, over the extended reals. -/
module

public import proofs.«01_k».proof.Proof.GdnBody
public import Idealize.ShloMosaic.Lib.Pointwise
public import Idealize.ShloMosaic.Lib.Pipeline.ValueKit
public import Idealize.ShloMosaic.Lib.Pipeline.ReadBack

@[expose] public section

noncomputable section

namespace Cert.KernelIdeal.Gdn

open Cert.KernelIdeal Cert.KernelIdeal.Gen Idealize.ShloMosaic Idealize.ShloMosaic.TcCoe Idealize.SL.Sem

/-- One chunk's inputs for one head, as extended reals. -/
structure Chan where
  u : Fin 64 → Fin 128 → EReal
  w : Fin 64 → Fin 128 → EReal
  q : Fin 64 → Fin 128 → EReal
  k : Fin 64 → Fin 128 → EReal
  a : Fin 64 → Fin 64 → EReal
  e : Fin 128 → EReal

/-- The chunk's new values from the state. -/
def Chan.v (x : Chan) (st : Fin 128 → Fin 128 → EReal) (i : Fin 64) (d : Fin 128) : EReal :=
  x.u i d - ∑ p, x.w i p * st p d

/-- The chunk's result from the state. -/
def Chan.o (x : Chan) (st : Fin 128 → Fin 128 → EReal) (i : Fin 64) (d : Fin 128) : EReal :=
  (∑ p, x.q i p * st p d) + ∑ j, x.a i j * x.v st j d

/-- The state after the chunk. -/
def Chan.s (x : Chan) (st : Fin 128 → Fin 128 → EReal) (p d : Fin 128) : EReal :=
  st p d * x.e d + ∑ i, x.k i p * x.v st i d

/-- The gated normalization of a row. -/
def gate (o z nw : Fin 128 → EReal) (d : Fin 128) : EReal :=
  o d * Ideal.rsqrt (Ideal.div (∑ l, o l * o l) (Ideal.ofBits .f32 0x43000000#32) + Ideal.ofBits .f32 0x358637BD#32) * nw d
    * (z d * Ideal.div 1 (1 + Ideal.exp (-z d)))

/-- The state after a number of chunks, from a given one. -/
def states (x : ℕ → Chan) (s0 : Fin 128 → Fin 128 → EReal) : ℕ → Fin 128 → Fin 128 → EReal
  | 0 => s0
  | n + 1 => (x n).s (states x s0 n)

theorem states_add (x : ℕ → Chan) (s0 : Fin 128 → Fin 128 → EReal) (a : ℕ) :
    ∀ n, states x s0 (a + n) = states (fun k => x (a + k)) (states x s0 a) n
  | 0 => rfl
  | n + 1 => congrArg (x (a + n)).s (states_add x s0 a n)

theorem states_congr (x y : ℕ → Chan) (s0 : Fin 128 → Fin 128 → EReal) : ∀ n, (∀ k, k < n → x k = y k) →
    states x s0 n = states y s0 n
  | 0, _ => rfl
  | n + 1, h => by
    show (x n).s (states x s0 n) = (y n).s (states y s0 n)
    rw [h n (Nat.lt_succ_self n), states_congr x y s0 n fun k hk => h k (Nat.lt_succ_of_lt hk)]

theorem vn_at (st : FVec Ideal S128x128 .f32) (w q : Vec Ideal S64x128 .bf16) (u : Vec Ideal S64x128 .f32) (i : Fin 64) (d : Fin 128) :
    vnOf (wsOf st w q) u (ix2 i d) = u (ix2 i d) - ∑ p : Fin 128, w (ix2 i p) * st (ix2 p d) := by
  pointwise [vnOf, wsOf]

theorem st_at (st : FVec Ideal S128x128 .f32) (vn : FVec Ideal S64x128 .bf16) (e : Vec Ideal S1x128 .f32) (k : Vec Ideal S64x128 .bf16) (p d : Fin 128) :
    stOf st vn e k (ix2 p d) = st (ix2 p d) * e (ix2 0 d) + ∑ i : Fin 64, k (ix2 i p) * vn (ix2 i d) := by
  pointwise [stOf]

theorem o_at (st : FVec Ideal S128x128 .f32) (w q : Vec Ideal S64x128 .bf16) (vn : FVec Ideal S64x128 .bf16) (a : Vec Ideal S64x64 .bf16) (i : Fin 64) (d : Fin 128) :
    oOf (wsOf st w q) vn a (ix2 i d) = (∑ p : Fin 128, q (ix2 i p) * st (ix2 p d)) + ∑ j : Fin 64, a (ix2 i j) * vn (ix2 j d) := by
  pointwise [oOf, wsOf]

theorem out_at (o : FVec Ideal S64x128 .f32) (z : Vec Ideal S64x128 .f32) (nw : Vec Ideal S1x128 .f32) (i : Fin 64) (d : Fin 128) :
    outOf o z nw (ix2 i d) = gate (fun l => o (ix2 i l)) (fun l => z (ix2 i l)) (fun l => nw (ix2 0 l)) d := by
  pointwise [outOf, gate, Ideal.logistic]

/-- An array read at a row and a column. -/
def get {n l : ℕ} [NeZero n] [NeZero l] {φ : FTy} (x : FVec Ideal ⟨2, ![n, l]⟩ φ) (r c : ℕ) : EReal :=
  x (ix2 (Fin.ofNat n r) (Fin.ofNat l c))

theorem get_of {n l : ℕ} [NeZero n] [NeZero l] {φ : FTy} (x : FVec Ideal ⟨2, ![n, l]⟩ φ) (y : (⟨2, ![n, l]⟩ : Shape).Idx) (r c : ℕ)
    (hr : (y 0).val = r) (hc : (y 1).val = c) : x y = get x r c := by
  subst hr hc
  unfold get
  congr 1
  funext a
  match a with
  | ⟨0, _⟩ => exact Fin.ext (Nat.mod_eq_of_lt (y 0).isLt).symm
  | ⟨1, _⟩ => exact Fin.ext (Nat.mod_eq_of_lt (y 1).isLt).symm

/-- The same at a row and a column given with their bounds. -/
theorem get_ix {n l : ℕ} [NeZero n] [NeZero l] {φ : FTy} (x : FVec Ideal ⟨2, ![n, l]⟩ φ) (r c : ℕ) (hr : r < n) (hc : c < l) :
    get x r c = x (ix2 ⟨r, hr⟩ ⟨c, hc⟩) := (get_of x _ r c rfl rfl).symm

/-- Chunk `g` (counted through all sequences) of head `h`, read from the arrays. -/
def chan (U : FVec Ideal S16384x2048 .f32) (W Q K : FVec Ideal S16384x2048 .bf16) (A : FVec Ideal S16384x1024 .bf16)
    (E : FVec Ideal S2048x2048 .f32) (g h : ℕ) : Chan where
  u i d := get U (64 * g + i.val) (128 * h + d.val)
  w i d := get W (64 * g + i.val) (128 * h + d.val)
  q i d := get Q (64 * g + i.val) (128 * h + d.val)
  k i d := get K (64 * g + i.val) (128 * h + d.val)
  a i j := get A (64 * g + i.val) (64 * h + j.val)
  e d := get E (8 * g) (128 * h + d.val)

/-- The recurrence's result at a row and a column. -/
def spec (U : FVec Ideal S16384x2048 .f32) (W Q K : FVec Ideal S16384x2048 .bf16) (A : FVec Ideal S16384x1024 .bf16)
    (E : FVec Ideal S2048x2048 .f32) (Z : FVec Ideal S16384x16384 .f32) (nw : FVec Ideal S1x128 .f32) (r c : ℕ) : EReal :=
  gate (fun l => (chan U W Q K A E (r / 64) (c / 128)).o
      (states (fun k => chan U W Q K A E (64 * (r / 4096) + k) (c / 128)) (fun _ _ => 0) (r / 64 % 64)) (Fin.ofNat 64 r) l)
    (fun l => get Z r (8192 + (128 * (c / 128) + l.val))) (fun l => get nw 0 l.val) (Fin.ofNat 128 c)

end Cert.KernelIdeal.Gdn

end
-- ==== Proof.GdnLoads.lean ====
/- What the recurrence kernel loads at a grid point, as entries of the argument arrays. -/
module

public import proofs.«01_k».proof.Proof.GdnPoint

@[expose] public section

noncomputable section

namespace Cert.KernelIdeal.Gdn

open Cert.KernelIdeal Cert.KernelIdeal.Gen Idealize.ShloMosaic Idealize.ShloMosaic.TcCoe Idealize.SL.Sem

variable (m : (ℓ : Loc nD τ sig) → Buf (Elt Ideal) ℓ)

/-- The blocks of a point: block `t` of the rows everywhere, the gate's columns of the projection, the whole norm weight. -/
theorem idx (t : Fin cfg0.N) :
    win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 4] ∧ win0_7.index t = ![0, 0] :=
  (by decide +kernel : ∀ t : Fin grid0.N,
    win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 4] ∧ win0_7.index t = ![0, 0]) t

/-- The loads of point `t`. -/
abbrev L (c : Dev nD) (t : Fin cfg0.N) : Loads Ideal :=
  loadsOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t)

theorem L_u (c : Dev nD) (t : Fin cfg0.N) (s h : ℕ) (i : Fin 64) (d : Fin 128) :
    (L m c t).u s h (ix2 i d)
      = get (n := 16384) (l := 2048) (φ := .f32) (m ((c : Thread nD τ).loc main_arg0)) (64 * (8 * t.val + s % 8) + i.val) (128 * (h % 16) + d.val) := by
  obtain ⟨e0, e1, e2, e3, e4, e5, e6, e7⟩ := idx t
  have ht : t.val < 32 := lt_of_lt_of_eq t.isLt N_0
  have hi := i.isLt
  have hd := d.isLt
  show View.readAt (Elt Ideal) (ms0_0 t).view (r64 s h).toLoadRect ((hs0_0 t).unread (iblk m c 0 t)) (ix2 i d) = _
  rw [View.readAt_eq_ld, Memref.IsWhole.read_unread, View.ld, get_ix _ _ _ (by omega) (by omega)]
  blk_ext [iblk, e0, r64, Rect.unit, LoadRect.idx]
  · show t.val * 512 + (64 * (s % 8) + 1 * i.val) = _; omega
  · show 128 * (h % 16) + 1 * d.val = _; omega

theorem L_w (c : Dev nD) (t : Fin cfg0.N) (s h : ℕ) (i : Fin 64) (d : Fin 128) :
    (L m c t).w s h (ix2 i d)
      = get (n := 16384) (l := 2048) (φ := .bf16) (m ((c : Thread nD τ).loc main_arg1)) (64 * (8 * t.val + s % 8) + i.val) (128 * (h % 16) + d.val) := by
  obtain ⟨e0, e1, e2, e3, e4, e5, e6, e7⟩ := idx t
  have ht : t.val < 32 := lt_of_lt_of_eq t.isLt N_0
  have hi := i.isLt
  have hd := d.isLt
  show View.readAt (Elt Ideal) (ms0_1 t).view (r64 s h).toLoadRect ((hs0_1 t).unread (iblk m c 1 t)) (ix2 i d) = _
  rw [View.readAt_eq_ld, Memref.IsWhole.read_unread, View.ld, get_ix _ _ _ (by omega) (by omega)]
  blk_ext [iblk, e1, r64, Rect.unit, LoadRect.idx]
  · show t.val * 512 + (64 * (s % 8) + 1 * i.val) = _; omega
  · show 128 * (h % 16) + 1 * d.val = _; omega

theorem L_q (c : Dev nD) (t : Fin cfg0.N) (s h : ℕ) (i : Fin 64) (d : Fin 128) :
    (L m c t).q s h (ix2 i d)
      = get (n := 16384) (l := 2048) (φ := .bf16) (m ((c : Thread nD τ).loc main_arg2)) (64 * (8 * t.val + s % 8) + i.val) (128 * (h % 16) + d.val) := by
  obtain ⟨e0, e1, e2, e3, e4, e5, e6, e7⟩ := idx t
  have ht : t.val < 32 := lt_of_lt_of_eq t.isLt N_0
  have hi := i.isLt
  have hd := d.isLt
  show View.readAt (Elt Ideal) (ms0_2 t).view (r64 s h).toLoadRect ((hs0_2 t).unread (iblk m c 2 t)) (ix2 i d) = _
  rw [View.readAt_eq_ld, Memref.IsWhole.read_unread, View.ld, get_ix _ _ _ (by omega) (by omega)]
  blk_ext [iblk, e2, r64, Rect.unit, LoadRect.idx]
  · show t.val * 512 + (64 * (s % 8) + 1 * i.val) = _; omega
  · show 128 * (h % 16) + 1 * d.val = _; omega

theorem L_k (c : Dev nD) (t : Fin cfg0.N) (s h : ℕ) (i : Fin 64) (d : Fin 128) :
    (L m c t).k s h (ix2 i d)
      = get (n := 16384) (l := 2048) (φ := .bf16) (m ((c : Thread nD τ).loc main_arg3)) (64 * (8 * t.val + s % 8) + i.val) (128 * (h % 16) + d.val) := by
  obtain ⟨e0, e1, e2, e3, e4, e5, e6, e7⟩ := idx t
  have ht : t.val < 32 := lt_of_lt_of_eq t.isLt N_0
  have hi := i.isLt
  have hd := d.isLt
  show View.readAt (Elt Ideal) (ms0_3 t).view (r64 s h).toLoadRect ((hs0_3 t).unread (iblk m c 3 t)) (ix2 i d) = _
  rw [View.readAt_eq_ld, Memref.IsWhole.read_unread, View.ld, get_ix _ _ _ (by omega) (by omega)]
  blk_ext [iblk, e3, r64, Rect.unit, LoadRect.idx]
  · show t.val * 512 + (64 * (s % 8) + 1 * i.val) = _; omega
  · show 128 * (h % 16) + 1 * d.val = _; omega

theorem L_a (c : Dev nD) (t : Fin cfg0.N) (s h : ℕ) (i : Fin 64) (d : Fin 64) :
    (L m c t).a s h (ix2 i d)
      = get (n := 16384) (l := 1024) (φ := .bf16) (m ((c : Thread nD τ).loc main_arg4)) (64 * (8 * t.val + s % 8) + i.val) (64 * (h % 16) + d.val) := by
  obtain ⟨e0, e1, e2, e3, e4, e5, e6, e7⟩ := idx t
  have ht : t.val < 32 := lt_of_lt_of_eq t.isLt N_0
  have hi := i.isLt
  have hd := d.isLt
  show View.readAt (Elt Ideal) (ms0_4 t).view (rA s h).toLoadRect ((hs0_4 t).unread (iblk m c 4 t)) (ix2 i d) = _
  rw [View.readAt_eq_ld, Memref.IsWhole.read_unread, View.ld, get_ix _ _ _ (by omega) (by omega)]
  blk_ext [iblk, e4, rA, Rect.unit, LoadRect.idx]
  · show t.val * 512 + (64 * (s % 8) + 1 * i.val) = _; omega
  · show 64 * (h % 16) + 1 * d.val = _; omega

theorem L_e (c : Dev nD) (t : Fin cfg0.N) (s h : ℕ) (i : Fin 1) (d : Fin 128) :
    (L m c t).e s h (ix2 i d)
      = get (n := 2048) (l := 2048) (φ := .f32) (m ((c : Thread nD τ).loc main_arg5)) (8 * (8 * t.val + s % 8)) (128 * (h % 16) + d.val) := by
  obtain ⟨e0, e1, e2, e3, e4, e5, e6, e7⟩ := idx t
  have ht : t.val < 32 := lt_of_lt_of_eq t.isLt N_0
  have hi := i.isLt
  have hd := d.isLt
  show View.readAt (Elt Ideal) (ms0_5 t).view (rE s h).toLoadRect ((hs0_5 t).unread (iblk m c 5 t)) (ix2 i d) = _
  rw [View.readAt_eq_ld, Memref.IsWhole.read_unread, View.ld, get_ix _ _ _ (by omega) (by omega)]
  blk_ext [iblk, e5, rE, Rect.unit, LoadRect.idx]
  · show t.val * 64 + (8 * (s % 8) + 1 * 0) = _; omega
  · show 128 * (h % 16) + 1 * d.val = _; omega

theorem L_z (c : Dev nD) (t : Fin cfg0.N) (s h : ℕ) (i : Fin 64) (d : Fin 128) :
    (L m c t).z s h (ix2 i d)
      = get (n := 16384) (l := 16384) (φ := .f32) (m ((c : Thread nD τ).loc main_arg6)) (64 * (8 * t.val + s % 8) + i.val) (8192 + (128 * (h % 16) + d.val)) := by
  obtain ⟨e0, e1, e2, e3, e4, e5, e6, e7⟩ := idx t
  have ht : t.val < 32 := lt_of_lt_of_eq t.isLt N_0
  have hi := i.isLt
  have hd := d.isLt
  show View.readAt (Elt Ideal) (ms0_6 t).view (r64 s h).toLoadRect ((hs0_6 t).unread (iblk m c 6 t)) (ix2 i d) = _
  rw [View.readAt_eq_ld, Memref.IsWhole.read_unread, View.ld, get_ix _ _ _ (by omega) (by omega)]
  blk_ext [iblk, e6, r64, Rect.unit, LoadRect.idx]
  · show t.val * 512 + (64 * (s % 8) + 1 * i.val) = _; omega
  · show 4 * 2048 + (128 * (h % 16) + 1 * d.val) = _; omega

theorem L_nw (c : Dev nD) (t : Fin cfg0.N) (d : Fin 128) :
    (L m c t).nw (ix2 0 d) = get (n := 1) (l := 128) (φ := .f32) (m ((c : Thread nD τ).loc main_arg7)) 0 d.val := by
  obtain ⟨e0, e1, e2, e3, e4, e5, e6, e7⟩ := idx t
  have hd := d.isLt
  show View.readAt (Elt Ideal) (ms0_7 t).view (Rect.unit ![0, 0] S1x128.size inb_S1x128_S1x128_0_0).toLoadRect ((hs0_7 t).unread (iblk m c 7 t)) (ix2 0 d) = _
  rw [View.readAt_eq_ld, Memref.IsWhole.read_unread, View.ld, get_ix _ _ _ (by omega) (by omega)]
  blk_ext [iblk, e7, Rect.unit, LoadRect.idx]
  · show 0 + 1 * 0 = _; omega
  · show 0 + 1 * d.val = _; omega

end Cert.KernelIdeal.Gdn

end
-- ==== Proof.GdnScan.lean ====
/- The recurrence kernel over its grid: the carried states and the result's blocks. -/
module

public import proofs.«01_k».proof.Proof.GdnLoads
public import Idealize.ShloMosaic.Lib.Pipeline.CanonAppend

@[expose] public section

noncomputable section

namespace Cert.KernelIdeal.Gdn

open Cert.KernelIdeal Cert.KernelIdeal.Gen Idealize.ShloMosaic Idealize.ShloMosaic.TcCoe Idealize.SL.Sem

variable (m : (ℓ : Loc nD τ sig) → Buf (Elt Ideal) ℓ)

/-- Chunk `g`, head `h`, of the kernel's arguments. -/
abbrev C (c : Dev nD) (g h : ℕ) : Chan :=
  chan (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) g h

theorem St_at (c : Dev nD) (t : Fin cfg0.N) (st0 : ℕ → FVec Ideal S128x128 .f32) (h : ℕ) (hh : h < 16) :
    ∀ s, s ≤ 8 → ∀ p d : Fin 128, St (L m c t) st0 s h (ix2 p d)
      = states (fun k => C m c (8 * t.val + k) h) (fun p d => st0 h (ix2 p d)) s p d := by
  intro s
  induction s with
  | zero => intro _ p d; rfl
  | succ s ih =>
    intro hs p d
    show stOf (St (L m c t) st0 s h) (vnOf (wsOf (St (L m c t) st0 s h) ((L m c t).w s h) ((L m c t).q s h)) ((L m c t).u s h))
      ((L m c t).e s h) ((L m c t).k s h) (ix2 p d) = _
    rw [st_at]
    simp only [vn_at, L_u, L_w, L_k, L_e, ih (Nat.le_of_succ_le hs), Nat.mod_eq_of_lt hh, Nat.mod_eq_of_lt (Nat.lt_of_succ_le hs)]
    rfl

theorem Out_at (c : Dev nD) (t : Fin cfg0.N) (st0 : ℕ → FVec Ideal S128x128 .f32) (s h : ℕ) (hs : s < 8) (hh : h < 16)
    (i : Fin 64) (d : Fin 128) :
    Out (L m c t) st0 s h (ix2 i d)
      = gate (fun l => (C m c (8 * t.val + s) h).o
            (states (fun k => C m c (8 * t.val + k) h) (fun p d => st0 h (ix2 p d)) s) i l)
          (fun l => get (n := 16384) (l := 16384) (φ := .f32) (m ((c : Thread nD τ).loc main_arg6)) (64 * (8 * t.val + s) + i.val) (8192 + (128 * h + l.val)))
          (fun l => get (n := 1) (l := 128) (φ := .f32) (m ((c : Thread nD τ).loc main_arg7)) 0 l.val) d := by
  show outOf (oOf (wsOf (St (L m c t) st0 s h) ((L m c t).w s h) ((L m c t).q s h))
      (vnOf (wsOf (St (L m c t) st0 s h) ((L m c t).w s h) ((L m c t).q s h)) ((L m c t).u s h)) ((L m c t).a s h))
      ((L m c t).z s h) (L m c t).nw (ix2 i d) = _
  rw [out_at]
  simp only [o_at, vn_at, L_u, L_w, L_q, L_a, L_z, L_nw, St_at m c t st0 h hh s hs.le, Nat.mod_eq_of_lt hh, Nat.mod_eq_of_lt hs]
  rfl

/-- A store's place among the results. -/
def outAt (L : Loads Ideal) (st0 : ℕ → FVec Ideal S128x128 .f32) (y : S512x2048.Idx) : EReal :=
  Out L st0 ((y 0).val / 64) ((y 1).val / 128) (ix2 (Fin.ofNat 64 (y 0).val) (Fin.ofNat 128 (y 1).val))

theorem outAt_of (L : Loads Ideal) (st0 : ℕ → FVec Ideal S128x128 .f32) (y : S512x2048.Idx) (s h : ℕ) (x : S64x128.Idx)
    (h0 : (y 0).val = 64 * s + (x 0).val) (h1 : (y 1).val = 128 * h + (x 1).val) : Out L st0 s h x = outAt L st0 y := by
  have b0 : (x 0).val < 64 := (x 0).isLt
  have b1 : (x 1).val < 128 := (x 1).isLt
  unfold outAt
  rw [show (y 0).val / 64 = s by omega, show (y 1).val / 128 = h by omega]
  congr 1
  funext a
  match a with
  | ⟨0, _⟩ => exact Fin.ext (show (x 0).val = (y 0).val % 64 by omega)
  | ⟨1, _⟩ => exact Fin.ext (show (x 1).val = (y 1).val % 128 by omega)

theorem canon_out (L : Loads Ideal) (st0 : ℕ → FVec Ideal S128x128 .f32) (y : S512x2048.Idx) :
    View.canon (outPieces L st0) y = outAt L st0 y := by
  have y0 : (y 0).val < 512 := (y 0).isLt
  have y1 : (y 1).val < 2048 := (y 1).isLt
  refine View.canon_apply_of_pieces (Val := Elt Ideal) (e := .bf16) (outAt L st0) _ ?_ y ?_
  · intro p hp x
    simp only [outPieces, List.mem_reverse, List.mem_map, List.mem_range] at hp
    obtain ⟨n, hn, rfl⟩ := hp
    refine outAt_of L st0 _ (n / 16) (n % 16) x ?_ ?_
    · show 64 * (n / 16 % 8) + 1 * (x 0).val = _
      omega
    · show 128 * (n % 16 % 16) + 1 * (x 1).val = _
      omega
  · refine ⟨⟨r64 ((16 * ((y 0).val / 64) + (y 1).val / 128) / 16) ((16 * ((y 0).val / 64) + (y 1).val / 128) % 16),
      Out L st0 ((16 * ((y 0).val / 64) + (y 1).val / 128) / 16) ((16 * ((y 0).val / 64) + (y 1).val / 128) % 16)⟩, ?_, ?_⟩
    · simp only [outPieces, List.mem_reverse, List.mem_map, List.mem_range]
      exact ⟨16 * ((y 0).val / 64) + (y 1).val / 128, by omega, rfl⟩
    · rw [Rect.mem_set_unit]
      intro a
      match a with
      | ⟨0, _⟩ =>
        show 64 * ((16 * ((y 0).val / 64) + (y 1).val / 128) / 16 % 8) ≤ (y 0).val ∧ (y 0).val < 64 * ((16 * ((y 0).val / 64) + (y 1).val / 128) / 16 % 8) + 64
        omega
      | ⟨1, _⟩ =>
        show 128 * ((16 * ((y 0).val / 64) + (y 1).val / 128) % 16 % 16) ≤ (y 1).val ∧ (y 1).val < 128 * ((16 * ((y 0).val / 64) + (y 1).val / 128) % 16 % 16) + 128
        omega

/-- A store's place among the states. -/
def stAt (L : Loads Ideal) (st0 : ℕ → FVec Ideal S128x128 .f32) (y : S16x128x128.Idx) : EReal :=
  St L st0 8 (y 0).val (ix2 (y 1) (y 2))

theorem canon_st (L : Loads Ideal) (st0 : ℕ → FVec Ideal S128x128 .f32) (L' : List (View.Piece (Elt Ideal) S16x128x128 .f32))
    (y : S16x128x128.Idx) : View.canon (stPieces L st0 ++ L') y = stAt L st0 y := by
  have y0 : (y 0).val < 16 := (y 0).isLt
  have y1 : (y 1).val < 128 := (y 1).isLt
  have y2 : (y 2).val < 128 := (y 2).isLt
  refine View.canon_append_of_pieces (Val := Elt Ideal) (e := .f32) (stAt L st0) _ _ ?_ y ?_
  · intro p hp x
    simp only [stPieces, List.mem_reverse, List.mem_map, List.mem_range] at hp
    obtain ⟨h, hh, rfl⟩ := hp
    have x0 : (x 0).val < 1 := (x 0).isLt
    have e0 : ((rS h).emb x 0).val = h := by
      show h % 16 + 1 * (x 0).val = h
      omega
    unfold stAt
    rw [e0]
    show shapeCast S1x128x128 (St L st0 8 h) shapeCasts_S128x128_S1x128x128 x = _
    pointwise []
    congr 1
    funext a
    match a with
    | ⟨0, _⟩ => exact Fin.ext (show (x 1).val = 0 + 1 * (x 1).val by omega)
    | ⟨1, _⟩ => exact Fin.ext (show (x 2).val = 0 + 1 * (x 2).val by omega)
  · refine ⟨⟨rS (y 0).val, shapeCast S1x128x128 (St L st0 8 (y 0).val) shapeCasts_S128x128_S1x128x128⟩, ?_, ?_⟩
    · simp only [stPieces, List.mem_reverse, List.mem_map, List.mem_range]
      exact ⟨(y 0).val, y0, rfl⟩
    · rw [Rect.mem_set_unit]
      intro a
      match a with
      | ⟨0, _⟩ => show (y 0).val % 16 ≤ (y 0).val ∧ (y 0).val < (y 0).val % 16 + 1; omega
      | ⟨1, _⟩ => show 0 ≤ (y 1).val ∧ (y 1).val < 0 + 128; omega
      | ⟨2, _⟩ => show 0 ≤ (y 2).val ∧ (y 2).val < 0 + 128; omega

theorem cast_at (v : Vec Ideal S1x128x128 .f32) (p d : Fin 128) :
    shapeCast S128x128 v shapeCasts_S1x128x128_S128x128 (ix2 p d) = v (ix3 0 p d) := by
  pointwise []

theorem canon_zero (y : S16x128x128.Idx) : View.canon (zeroPieces (F := Ideal)) y = (0 : EReal) := by
  have y0 : (y 0).val < 16 := (y 0).isLt
  have y1 : (y 1).val < 128 := (y 1).isLt
  have y2 : (y 2).val < 128 := (y 2).isLt
  refine View.canon_apply_of_pieces (Val := Elt Ideal) (e := .f32) (fun _ => (0 : EReal)) _ ?_ y ?_
  · intro p hp x
    simp only [zeroPieces, List.mem_singleton] at hp
    subst hp
    show k0_pay1 (F := Ideal) x = (0 : EReal)
    pointwise [k0_pay1]
  · refine ⟨_, List.mem_singleton.mpr rfl, ?_⟩
    rw [Rect.mem_set_unit]
    intro a
    match a with
    | ⟨0, _⟩ => show 0 ≤ (y 0).val ∧ (y 0).val < 0 + 16; omega
    | ⟨1, _⟩ => show 0 ≤ (y 1).val ∧ (y 1).val < 0 + 128; omega
    | ⟨2, _⟩ => show 0 ≤ (y 2).val ∧ (y 2).val < 0 + 128; omega

theorem stA_at (arg11 : Memref sig .tc .vmem S16x128x128 .f32) (h : ℕ) (p d : Fin 128) : stA (F := Ideal) arg11 h (ix2 p d) = (0 : EReal) := by
  unfold stA
  rw [View.readCov_eq_canon']
  exact (cast_at _ p d).trans (canon_zero _)

theorem stB_at (arg11 : Memref sig .tc .vmem S16x128x128 .f32) (harg11 : arg11.IsWhole) (x : Vec Ideal S16x128x128 .f32) (h : ℕ) (hh : h < 16) (p d : Fin 128) :
    stB (F := Ideal) arg11 harg11 x h (ix2 p d) = x (ix3 ⟨h, hh⟩ p d) := by
  unfold stB
  rw [View.readAt_eq_ld, Memref.IsWhole.read_unread]
  refine (cast_at _ p d).trans ?_
  refine congrArg x (funext fun a => Fin.ext ?_)
  match a with
  | ⟨0, _⟩ => show h % 16 + 1 * 0 = h; omega
  | ⟨1, _⟩ => show 0 + 1 * p.val = p.val; omega
  | ⟨2, _⟩ => show 0 + 1 * d.val = d.val; omega

/-- The carried scratch after point `t`: every head's state after the chunks of its sequence up to the block's last. -/
theorem carried (c : Dev nD) : ∀ (n : ℕ) (hn : n < cfg0.N) (y : S16x128x128.Idx),
    (outsAt0 m c n hn).2 y
      = states (fun k => C m c (64 * (n / 8) + k) (y 0).val) (fun _ _ => 0) (8 * (n % 8) + 8) (y 1) (y 2) := by
  intro n
  induction n using Nat.strong_induction_on with
  | _ n ih =>
    intro hn y
    have y0 : (y 0).val < 16 := (y 0).isLt
    by_cases h0 : n % 8 = 0
    · rw [outsAt0_A m c ⟨n, hn⟩ h0]
      dsimp only
      unfold sout0_A_0
      rw [View.read_writes_junk_eq_canon, states_A, canon_st]
      refine (St_at m c ⟨n, hn⟩ _ _ y0 8 le_rfl (y 1) (y 2)).trans ?_
      simp only [stA_at]
      rw [h0, show 8 * n = 64 * (n / 8) by omega]
    · rw [outsAt0_B m c ⟨n, hn⟩ h0]
      dsimp only
      unfold sout0_B_0
      rw [View.read_writes_junk_eq_canon, states_B, ← List.append_nil (stPieces _ _), canon_st]
      refine (St_at m c ⟨n, hn⟩ _ _ y0 8 le_rfl (y 1) (y 2)).trans ?_
      have e : ∀ p d : Fin 128, stB (F := Ideal) scM0_0 (Memref.isWhole_whole _) (outsAt0 m c (n - 1) (Nat.lt_of_le_of_lt (Nat.sub_le _ _) hn)).2 (y 0).val (ix2 p d)
          = states (fun k => C m c (64 * (n / 8) + k) (y 0).val) (fun _ _ => 0) (8 * (n % 8)) p d := by
        intro p d
        rw [stB_at _ _ _ _ y0, ih (n - 1) (by omega)]
        show states (fun k => C m c (64 * ((n - 1) / 8) + k) (y 0).val) _ _ p d = _
        rw [show (n - 1) / 8 = n / 8 by omega, show 8 * ((n - 1) % 8) + 8 = 8 * (n % 8) by omega]
      simp only [e]
      rw [states_add]
      refine congrFun (congrFun (states_congr _ _ _ 8 fun k _ => ?_) _) _
      show C m c (8 * n + k) _ = C m c (64 * (n / 8) + (8 * (n % 8) + k)) _
      rw [show 8 * n + k = 64 * (n / 8) + (8 * (n % 8) + k) by omega]

/-- The kernel's result of its arguments. -/
abbrev result (c : Dev nD) (r k : ℕ) : EReal :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r k

theorem outAt_spec (c : Dev nD) (t : Fin cfg0.N) (st0 : ℕ → FVec Ideal S128x128 .f32) (y : S512x2048.Idx)
    (h : ∀ p d : Fin 128, st0 ((y 1).val / 128) (ix2 p d)
      = states (fun k => C m c (64 * (t.val / 8) + k) ((y 1).val / 128)) (fun _ _ => 0) (8 * (t.val % 8)) p d) :
    outAt (L m c t) st0 y = result m c (512 * t.val + (y 0).val) (y 1).val := by
  have y0 : (y 0).val < 512 := (y 0).isLt
  have y1 : (y 1).val < 2048 := (y 1).isLt
  have ht : t.val < 32 := lt_of_lt_of_eq t.isLt N_0
  refine (Out_at m c t st0 _ _ (by omega) (by omega) _ _).trans ?_
  simp only [h]
  have e := states_add (fun k => C m c (64 * (t.val / 8) + k) ((y 1).val / 128)) (fun _ _ => 0) (8 * (t.val % 8)) ((y 0).val / 64)
  have e' : states (fun k => C m c (8 * t.val + k) ((y 1).val / 128))
      (fun p d => states (fun k => C m c (64 * (t.val / 8) + k) ((y 1).val / 128)) (fun _ _ => 0) (8 * (t.val % 8)) p d) ((y 0).val / 64)
      = states (fun k => C m c (64 * (t.val / 8) + k) ((y 1).val / 128)) (fun _ _ => 0) (8 * (t.val % 8) + (y 0).val / 64) := by
    rw [e]
    refine states_congr _ _ _ _ fun k _ => ?_
    show C m c (8 * t.val + k) _ = C m c (64 * (t.val / 8) + (8 * (t.val % 8) + k)) _
    rw [show 8 * t.val + k = 64 * (t.val / 8) + (8 * (t.val % 8) + k) by omega]
  rw [e']
  unfold result spec
  have f : (Fin.ofNat 64 (512 * t.val + (y 0).val)) = Fin.ofNat 64 (y 0).val := Fin.ext (show (512 * t.val + (y 0).val) % 64 = (y 0).val % 64 by omega)
  rw [f, show (512 * t.val + (y 0).val) / 64 = 8 * t.val + (y 0).val / 64 by omega, show (512 * t.val + (y 0).val) / 4096 = t.val / 8 by omega,
    show (8 * t.val + (y 0).val / 64) % 64 = 8 * (t.val % 8) + (y 0).val / 64 by omega]
  rw [show 512 * t.val + (y 0).val = 64 * (8 * t.val + (y 0).val / 64) + (Fin.ofNat 64 (y 0).val).val from by
    show _ = _ + (y 0).val % 64
    omega]

theorem block (c : Dev nD) (n : ℕ) (hn : n < cfg0.N) (y : S512x2048.Idx) :
    (outsAt0 m c n hn).1 y = result m c (512 * n + (y 0).val) (y 1).val := by
  have y1 : (y 1).val < 2048 := (y 1).isLt
  by_cases h0 : n % 8 = 0
  · rw [outsAt0_A m c ⟨n, hn⟩ h0]
    dsimp only
    unfold out0_A_8
    rw [View.read_writes_junk_eq_canon, outs_A, canon_out]
    refine outAt_spec m c ⟨n, hn⟩ _ y fun p d => ?_
    rw [stA_at]
    show _ = states _ _ (8 * (n % 8)) p d
    rw [h0]
    rfl
  · rw [outsAt0_B m c ⟨n, hn⟩ h0]
    dsimp only
    unfold out0_B_8
    rw [View.read_writes_junk_eq_canon, outs_B, canon_out]
    refine outAt_spec m c ⟨n, hn⟩ _ y fun p d => ?_
    rw [stB_at _ _ _ _ (show (y 1).val / 128 < 16 by omega), carried]
    show states (fun k => C m c (64 * ((n - 1) / 8) + k) ((y 1).val / 128)) _ (8 * ((n - 1) % 8) + 8) p d = states (fun k => C m c (64 * (n / 8) + k) _) _ (8 * (n % 8)) p d
    rw [show (n - 1) / 8 = n / 8 by omega, show 8 * ((n - 1) % 8) + 8 = 8 * (n % 8) by omega]

theorem final (c : Dev nD) : (dats m 0 c).arrAt 8 cfg0.N = fun i : S16384x2048.Idx => result m c (i 0).val (i 1).val := by
  rw [Value.final8]
  funext i
  have i0 : (i 0).val < 16384 := (i 0).isLt
  have i1 : (i 1).val < 2048 := (i 1).isLt
  have hp : Value.pt8Of i = (i 0).val / 512 := by
    show 1 * ((i 0).val / 512 - 0) + 1 * ((i 1).val / 2048 - 0) = _
    omega
  have hb : Value.pt8Of i < cfg0.N := by
    rw [hp]
    exact lt_of_lt_of_eq (show (i 0).val / 512 < 32 by omega) N_0.symm
  unfold Value.G8
  rw [dif_pos hb, ← Value.outsAt0_sweep m c (Value.pt8Of i) hb, block]
  show result m c (512 * Value.pt8Of i + (i 0).val % 512) ((i 1).val % 2048) = _
  rw [hp, show 512 * ((i 0).val / 512) + (i 0).val % 512 = (i 0).val by omega, Nat.mod_eq_of_lt i1]

end Cert.KernelIdeal.Gdn

end
-- ==== Proof.GdnRefRun.lean ====
/- The recurrence's reference, run: after `n` trips of its loop the carried buffers hold the state `n` steps make of the
   first, and the result is what the operations after the loop make of state 64. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation of the buffers carries. -/
def carried (V : Valuation τ sig (Elt F)) : State F where
  main_v20_7 := V (Proc.devRef .tc main_v20_7)
  main_v20_8 := V (Proc.devRef .tc main_v20_8)
  main_v20_0 := V (Proc.devRef .tc main_v20_0)
  main_v20_1 := V (Proc.devRef .tc main_v20_1)
  main_v20_2 := V (Proc.devRef .tc main_v20_2)
  main_v20_3 := V (Proc.devRef .tc main_v20_3)
  main_v20_4 := V (Proc.devRef .tc main_v20_4)
  main_v20_5 := V (Proc.devRef .tc main_v20_5)

/-- The trip's number at the counter. -/
def Counts (V : Valuation τ sig (Elt F)) (j : ℕ) : Prop :=
  V (Proc.devRef .tc main_v20_6) = constantI S_ 32 (BitVec.ofNat 32 j)

theorem trip_state (V : Valuation τ sig (Elt F)) (j : ℕ) (h : Counts V j) : step_main_v20_7 V = Step.b44 j (carried V) := by
  simp only [step_main_v20_7, res_main_while0b_v50]
  rw [h]
  rfl

theorem trip_out (V : Valuation τ sig (Elt F)) (j : ℕ) (h : Counts V j) : step_main_v20_8 V = Step.b50 j (carried V) := by
  simp only [step_main_v20_8, res_main_while0b_v50]
  rw [h]
  rfl

theorem trip_count (V : Valuation τ sig (Elt F)) (j : ℕ) (h : Counts V j) : Counts (STEP V) (j + 1) := by
  refine (STEP_main_v20_6 V).trans ?_
  unfold step_main_v20_6
  rw [h]
  funext i
  show BitVec.ofNat 32 j + 1#32 = BitVec.ofNat 32 (j + 1)
  simp only [BitVec.ofNat_add]

theorem trip (V : Valuation τ sig (Elt F)) (j : ℕ) (h : Counts V j) : carried (STEP V) = step j (carried V) := by
  have e7 := (STEP_main_v20_7 V).trans (trip_state V j h)
  have e8 := (STEP_main_v20_8 V).trans (trip_out V j h)
  unfold carried step
  rw [e7, e8, STEP_main_v20_0 V, STEP_main_v20_1 V, STEP_main_v20_2 V, STEP_main_v20_3 V, STEP_main_v20_4 V, STEP_main_v20_5 V]
  rfl

variable (m : (ℓ : Loc nD τ sig) → Buf (Elt F) ℓ) (c : Dev nD)

/-- The first state, of the arguments. -/
abbrev first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

set_option maxRecDepth 65536 in
set_option maxHeartbeats 400000 in
theorem enter : carried (entryContents preI m c) = first m c ∧ Counts (entryContents preI m c) 0 := by
  unfold carried first init Counts
  constructor
  · congr 1 <;> (simp only [entryContents, afterL_cons, afterL_nil]; after_reads_simp) <;> rfl
  · (simp only [entryContents, afterL_cons, afterL_nil]; after_reads_simp) <;> rfl

/-- The states, trip by trip. -/
def iter (s : State F) : ℕ → State F
  | 0 => s
  | n + 1 => step n (iter s n)

theorem after_trips : ∀ k, carried (STEP^[k] (entryContents preI m c)) = iter (first m c) k ∧
    Counts (STEP^[k] (entryContents preI m c)) k
  | 0 => enter m c
  | k + 1 => by
    obtain ⟨h1, h2⟩ := after_trips k
    rw [Function.iterate_succ_apply']
    exact ⟨(trip _ k h2).trans (congrArg (step k) h1), trip_count _ k h2⟩

set_option maxRecDepth 8192 in
theorem out_eq (V : Valuation τ sig (Elt F)) : out_main_v42 V
    = Step.R_main_v42 (carried V) (V (Proc.devRef .tc main_arg6)) (V (Proc.devRef .tc main_arg7)) := rfl

/-- The reference's result of its arguments. -/
def result (m : (ℓ : Loc nD τ sig) → Buf (Elt F) ℓ) (c : Dev nD) : (⟨S16384x2048, .bf16⟩ : BufTy).Contents (Elt F) :=
  Step.R_main_v42 (iter (first m c) 64) (m ((c.tc : Thread nD τ).loc main_arg6)) (m ((c.tc : Thread nD τ).loc main_arg7))

theorem result_eq : out_main_v42 (STEP^[64] (entryContents preI m c)) = result m c := by
  rw [out_eq, (after_trips m c 64).1, iter_main_arg6, iter_main_arg7]
  rfl

end Cert.ReferenceIdeal.Trips

end
-- ==== Proof.GdnRef.lean ====
/- The recurrence's reference, element by element. -/
module

public import proofs.«01_k».proof.Proof.GdnPoint
public import proofs.«01_k».proof.Proof.GdnRefRun
public import Idealize.ShloMosaic.Lib.DynamicIndex
public import Idealize.ShloMosaic.Lib.WordCmp

@[expose] public section

noncomputable section

namespace Cert.ReferenceIdeal.Trips

open Cert.ReferenceIdeal Cert.ReferenceIdeal.Gen Idealize.ShloMosaic Idealize.ShloMosaic.TcCoe Idealize.SL.Sem
open Cert.ReferenceIdeal.Step (State step init)
open Cert.KernelIdeal.Gdn (get_of get_ix chan states gate spec Chan)

theorem dyn5 (x : S64x4x16x64x128.Idx → EReal) (n : ℕ) (hn : n < 64) (start : Fin 5 → Int)
    (hs : ∀ a, start a = ((![n, 0, 0, 0, 0] : Fin 5 → ℕ) a : Int)) (b : Fin 4) (h : Fin 16) (i : Fin 64) (d : Fin 128) :
    shapeCast S4x16x64x128 (Host.dynamicSlice S1x4x16x64x128 x start sliceFits_S64x4x16x64x128_S1x4x16x64x128)
      shapeCasts_S1x4x16x64x128_S4x16x64x128 (ix4 b h i d) = x (ix5 ⟨n, hn⟩ b h i d) := by
  have e := Host.dynamicSlice_eq_extractStridedSlice S1x4x16x64x128 x start ![n, 0, 0, 0, 0]
    sliceFits_S64x4x16x64x128_S1x4x16x64x128 ⟨rfl, fun a => by
    match a with
    | ⟨0, _⟩ => show n + 1 ≤ 64; omega
    | ⟨1, _⟩ => show 0 + 4 ≤ 4; omega
    | ⟨2, _⟩ => show 0 + 16 ≤ 16; omega
    | ⟨3, _⟩ => show 0 + 64 ≤ 64; omega
    | ⟨4, _⟩ => show 0 + 128 ≤ 128; omega⟩ hs
  rw [e]
  pointwise []

theorem dyn5a (x : S64x4x16x64x64.Idx → EReal) (n : ℕ) (hn : n < 64) (start : Fin 5 → Int)
    (hs : ∀ a, start a = ((![n, 0, 0, 0, 0] : Fin 5 → ℕ) a : Int)) (b : Fin 4) (h : Fin 16) (i : Fin 64) (d : Fin 64) :
    shapeCast S4x16x64x64 (Host.dynamicSlice S1x4x16x64x64 x start sliceFits_S64x4x16x64x64_S1x4x16x64x64)
      shapeCasts_S1x4x16x64x64_S4x16x64x64 (ix4 b h i d) = x (ix5 ⟨n, hn⟩ b h i d) := by
  have e := Host.dynamicSlice_eq_extractStridedSlice S1x4x16x64x64 x start ![n, 0, 0, 0, 0]
    sliceFits_S64x4x16x64x64_S1x4x16x64x64 ⟨rfl, fun a => by
    match a with
    | ⟨0, _⟩ => show n + 1 ≤ 64; omega
    | ⟨1, _⟩ => show 0 + 4 ≤ 4; omega
    | ⟨2, _⟩ => show 0 + 16 ≤ 16; omega
    | ⟨3, _⟩ => show 0 + 64 ≤ 64; omega
    | ⟨4, _⟩ => show 0 + 64 ≤ 64; omega⟩ hs
  rw [e]
  pointwise []

theorem dyn4 (x : S64x4x16x128.Idx → EReal) (n : ℕ) (hn : n < 64) (start : Fin 4 → Int)
    (hs : ∀ a, start a = ((![n, 0, 0, 0] : Fin 4 → ℕ) a : Int)) (b : Fin 4) (h : Fin 16) (d : Fin 128) :
    shapeCast S4x16x128 (Host.dynamicSlice S1x4x16x128 x start sliceFits_S64x4x16x128_S1x4x16x128)
      shapeCasts_S1x4x16x128_S4x16x128 (ix3 b h d) = x (ix4 ⟨n, hn⟩ b h d) := by
  have e := Host.dynamicSlice_eq_extractStridedSlice S1x4x16x128 x start ![n, 0, 0, 0]
    sliceFits_S64x4x16x128_S1x4x16x128 ⟨rfl, fun a => by
    match a with
    | ⟨0, _⟩ => show n + 1 ≤ 64; omega
    | ⟨1, _⟩ => show 0 + 4 ≤ 4; omega
    | ⟨2, _⟩ => show 0 + 16 ≤ 16; omega
    | ⟨3, _⟩ => show 0 + 128 ≤ 128; omega⟩ hs
  rw [e]
  pointwise []

theorem dus5 (x : S64x4x16x64x128.Idx → EReal) (y : S1x4x16x64x128.Idx → EReal) (n : ℕ) (hn : n < 64) (start : Fin 5 → Int)
    (hs : ∀ a, start a = ((![n, 0, 0, 0, 0] : Fin 5 → ℕ) a : Int)) (k : Fin 64) (b : Fin 4) (h : Fin 16) (i : Fin 64) (d : Fin 128) :
    Host.dynamicUpdateSlice x y start updateFits_S64x4x16x64x128_S1x4x16x64x128 (ix5 k b h i d)
      = if k.val = n then y (ix5 0 b h i d) else x (ix5 k b h i d) := by
  have e := WordCmp.dynamicUpdateSlice_eq_update x y start updateFits_S64x4x16x64x128_S1x4x16x64x128 ![n, 0, 0, 0, 0] ⟨rfl, fun a => by
    match a with
    | ⟨0, _⟩ => show n + 1 ≤ 64; omega
    | ⟨1, _⟩ => show 0 + 4 ≤ 4; omega
    | ⟨2, _⟩ => show 0 + 16 ≤ 16; omega
    | ⟨3, _⟩ => show 0 + 64 ≤ 64; omega
    | ⟨4, _⟩ => show 0 + 128 ≤ 128; omega⟩ hs
  rw [e]
  unfold updateSlice
  split
  · rename_i hin
    have h0 := hin 0
    have hk : k.val = n := by
      have h1 : n ≤ k.val ∧ k.val < n + 1 := h0
      omega
    rw [if_pos hk]
    congr 1
    funext a
    apply Fin.ext
    match a with
    | ⟨0, _⟩ => show k.val - n = 0; omega
    | ⟨1, _⟩ => rfl
    | ⟨2, _⟩ => rfl
    | ⟨3, _⟩ => rfl
    | ⟨4, _⟩ => rfl
  · rename_i hin
    rw [if_neg]
    intro hk
    apply hin
    intro a
    match a with
    | ⟨0, _⟩ => show n ≤ k.val ∧ k.val < n + 1; omega
    | ⟨1, _⟩ => exact ⟨Nat.zero_le _, by show b.val < 0 + 4; omega⟩
    | ⟨2, _⟩ => exact ⟨Nat.zero_le _, by show h.val < 0 + 16; omega⟩
    | ⟨3, _⟩ => exact ⟨Nat.zero_le _, by show i.val < 0 + 64; omega⟩
    | ⟨4, _⟩ => exact ⟨Nat.zero_le _, by show d.val < 0 + 128; omega⟩

variable (U : FVec Ideal S16384x2048 .f32) (W Q K : FVec Ideal S16384x2048 .bf16) (A : FVec Ideal S16384x1024 .bf16)
    (E : FVec Ideal S2048x2048 .f32)

theorem A_u (n : Fin 64) (b : Fin 4) (h : Fin 16) (i : Fin 64) (d : Fin 128) :
    (Step.A_main_v5 (F := Ideal) U W Q K A E (ix5 n b h i d) : EReal) = Cert.KernelIdeal.Gdn.get U (64 * (64 * b.val + n.val) + i.val) (128 * h.val + d.val) := by
  pointwise [Step.A_main_v5, Step.A_main_v4]
  exact get_of _ _ _ _ (by show b.val * 4096 + n.val * 64 + i.val = _; omega) (by show h.val * 128 + d.val = _; omega)

theorem A_w (n : Fin 64) (b : Fin 4) (h : Fin 16) (i : Fin 64) (d : Fin 128) :
    (Step.A_main_v8 (F := Ideal) U W Q K A E (ix5 n b h i d) : EReal) = Cert.KernelIdeal.Gdn.get W (64 * (64 * b.val + n.val) + i.val) (128 * h.val + d.val) := by
  pointwise [Step.A_main_v8, Step.A_main_v7, Step.A_main_v6]
  exact get_of _ _ _ _ (by show b.val * 4096 + n.val * 64 + i.val = _; omega) (by show h.val * 128 + d.val = _; omega)

theorem A_q (n : Fin 64) (b : Fin 4) (h : Fin 16) (i : Fin 64) (d : Fin 128) :
    (Step.A_main_v11 (F := Ideal) U W Q K A E (ix5 n b h i d) : EReal) = Cert.KernelIdeal.Gdn.get Q (64 * (64 * b.val + n.val) + i.val) (128 * h.val + d.val) := by
  pointwise [Step.A_main_v11, Step.A_main_v10, Step.A_main_v9]
  exact get_of _ _ _ _ (by show b.val * 4096 + n.val * 64 + i.val = _; omega) (by show h.val * 128 + d.val = _; omega)

theorem A_k (n : Fin 64) (b : Fin 4) (h : Fin 16) (i : Fin 64) (d : Fin 128) :
    (Step.A_main_v14 (F := Ideal) U W Q K A E (ix5 n b h i d) : EReal) = Cert.KernelIdeal.Gdn.get K (64 * (64 * b.val + n.val) + i.val) (128 * h.val + d.val) := by
  pointwise [Step.A_main_v14, Step.A_main_v13, Step.A_main_v12]
  exact get_of _ _ _ _ (by show b.val * 4096 + n.val * 64 + i.val = _; omega) (by show h.val * 128 + d.val = _; omega)

theorem A_a (n : Fin 64) (b : Fin 4) (h : Fin 16) (i : Fin 64) (d : Fin 64) :
    (Step.A_main_v17 (F := Ideal) U W Q K A E (ix5 n b h i d) : EReal) = Cert.KernelIdeal.Gdn.get A (64 * (64 * b.val + n.val) + i.val) (64 * h.val + d.val) := by
  pointwise [Step.A_main_v17, Step.A_main_v16, Step.A_main_v15]
  exact get_of _ _ _ _ (by show b.val * 4096 + n.val * 64 + i.val = _; omega) (by show h.val * 64 + d.val = _; omega)

theorem A_e (n : Fin 64) (b : Fin 4) (h : Fin 16) (d : Fin 128) :
    (Step.A_main_v3 (F := Ideal) U W Q K A E (ix4 n b h d) : EReal) = Cert.KernelIdeal.Gdn.get E (8 * (64 * b.val + n.val)) (128 * h.val + d.val) := by
  pointwise [Step.A_main_v3, Step.A_main_v2, Step.A_main_v1, Step.A_main_v0]
  exact get_of _ _ _ _ (by show b.val * 512 + n.val * 8 = _; omega) (by show h.val * 128 + d.val = _; omega)

variable (n : ℕ) (s : State Ideal) (b : Fin 4) (h : Fin 16)

theorem starts5 (hn : n < 64) (x : Fin 5 → (⟨S_, .i32⟩ : BufTy).Contents (Elt Ideal))
    (h0 : x 0 = constantI S_ 32 (BitVec.ofNat 32 n)) (h1 : x 1 = constantI S_ 32 0#32) (h2 : x 2 = constantI S_ 32 0#32)
    (h3 : x 3 = constantI S_ 32 0#32) (h4 : x 4 = constantI S_ 32 0#32) :
    ∀ a, (x a (Shape.Idx.first h_S_)).toInt = ((![n, 0, 0, 0, 0] : Fin 5 → ℕ) a : Int) := by
  intro a
  match a with
  | ⟨0, _⟩ => exact (congrArg (fun f => (f (Shape.Idx.first h_S_)).toInt) h0).trans (toInt_ofNat_of_lt (k := n) (by omega))
  | ⟨1, _⟩ => exact congrArg (fun f => (f (Shape.Idx.first h_S_)).toInt) h1
  | ⟨2, _⟩ => exact congrArg (fun f => (f (Shape.Idx.first h_S_)).toInt) h2
  | ⟨3, _⟩ => exact congrArg (fun f => (f (Shape.Idx.first h_S_)).toInt) h3
  | ⟨4, _⟩ => exact congrArg (fun f => (f (Shape.Idx.first h_S_)).toInt) h4

theorem starts4 (hn : n < 64) (x : Fin 4 → (⟨S_, .i32⟩ : BufTy).Contents (Elt Ideal))
    (h0 : x 0 = constantI S_ 32 (BitVec.ofNat 32 n)) (h1 : x 1 = constantI S_ 32 0#32) (h2 : x 2 = constantI S_ 32 0#32)
    (h3 : x 3 = constantI S_ 32 0#32) :
    ∀ a, (x a (Shape.Idx.first h_S_)).toInt = ((![n, 0, 0, 0] : Fin 4 → ℕ) a : Int) := by
  intro a
  match a with
  | ⟨0, _⟩ => exact (congrArg (fun f => (f (Shape.Idx.first h_S_)).toInt) h0).trans (toInt_ofNat_of_lt (k := n) (by omega))
  | ⟨1, _⟩ => exact congrArg (fun f => (f (Shape.Idx.first h_S_)).toInt) h1
  | ⟨2, _⟩ => exact congrArg (fun f => (f (Shape.Idx.first h_S_)).toInt) h2
  | ⟨3, _⟩ => exact congrArg (fun f => (f (Shape.Idx.first h_S_)).toInt) h3

theorem b5_at (hn : n < 64) (i : Fin 64) (d : Fin 128) : Step.b5 n s (ix4 b h i d) = s.main_v20_0 (ix5 ⟨n, hn⟩ b h i d) :=
  dyn5 s.main_v20_0 n hn _ (starts5 n hn _ rfl rfl rfl rfl rfl) b h i d

theorem b11_at (hn : n < 64) (i : Fin 64) (d : Fin 128) : Step.b11 n s (ix4 b h i d) = s.main_v20_1 (ix5 ⟨n, hn⟩ b h i d) :=
  dyn5 s.main_v20_1 n hn _ (starts5 n hn _ rfl rfl rfl rfl rfl) b h i d

theorem b17_at (hn : n < 64) (i : Fin 64) (d : Fin 128) : Step.b17 n s (ix4 b h i d) = s.main_v20_2 (ix5 ⟨n, hn⟩ b h i d) :=
  dyn5 s.main_v20_2 n hn _ (starts5 n hn _ rfl rfl rfl rfl rfl) b h i d

theorem b23_at (hn : n < 64) (i : Fin 64) (d : Fin 128) : Step.b23 n s (ix4 b h i d) = s.main_v20_3 (ix5 ⟨n, hn⟩ b h i d) :=
  dyn5 s.main_v20_3 n hn _ (starts5 n hn _ rfl rfl rfl rfl rfl) b h i d

theorem b29_at (hn : n < 64) (i j : Fin 64) : Step.b29 n s (ix4 b h i j) = s.main_v20_4 (ix5 ⟨n, hn⟩ b h i j) :=
  dyn5a s.main_v20_4 n hn _ (starts5 n hn _ rfl rfl rfl rfl rfl) b h i j

theorem b34_at (hn : n < 64) (d : Fin 128) : Step.b34 n s (ix3 b h d) = s.main_v20_5 (ix4 ⟨n, hn⟩ b h d) :=
  dyn4 s.main_v20_5 n hn _ (starts4 n hn _ rfl rfl rfl rfl) b h d

theorem b50_at (hn : n < 64) (k i : Fin 64) (d : Fin 128) : Step.b50 n s (ix5 k b h i d)
    = if k.val = n then Step.b45 n s (ix5 0 b h i d) else s.main_v20_8 (ix5 k b h i d) :=
  dus5 s.main_v20_8 (Step.b45 n s) n hn _ (starts5 n hn _ rfl rfl rfl rfl rfl) k b h i d

theorem b36_at (i : Fin 64) (d : Fin 128) : Step.b36 n s (ix4 b h i d)
    = Step.b5 n s (ix4 b h i d) - ∑ p : Fin 128, Step.b11 n s (ix4 b h i p) * s.main_v20_7 (ix4 b h p d) := by
  pointwise [Step.b36, Step.b35]

theorem b39_at (i : Fin 64) (d : Fin 128) : Step.b39 n s (ix4 b h i d)
    = (∑ p : Fin 128, Step.b17 n s (ix4 b h i p) * s.main_v20_7 (ix4 b h p d)) + ∑ j : Fin 64, Step.b29 n s (ix4 b h i j) * Step.b36 n s (ix4 b h j d) := by
  pointwise [Step.b39, Step.b38, Step.b37]

theorem b44_at (p d : Fin 128) : Step.b44 n s (ix4 b h p d)
    = s.main_v20_7 (ix4 b h p d) * Step.b34 n s (ix3 b h d) + ∑ i : Fin 64, Step.b23 n s (ix4 b h i p) * Step.b36 n s (ix4 b h i d) := by
  pointwise [Step.b44, Step.b43, Step.b42, Step.b41, Step.b40]

theorem b45_at (i : Fin 64) (d : Fin 128) : Step.b45 n s (ix5 0 b h i d) = Step.b39 n s (ix4 b h i d) := by
  pointwise [Step.b45]

theorem zero_at (b : Fin 4) (h : Fin 16) (p d : Fin 128) : (Step.K_main_v18 (F := Ideal) (ix4 b h p d) : EReal) = 0 := by
  pointwise [Step.K_main_v18, Step.K_main_cst]

theorem R_at (Z : FVec Ideal S16384x16384 .f32) (nw : FVec Ideal S1x128 .f32) (r : Fin 16384) (k : Fin 2048) (o z w : Fin 128 → EReal)
    (ho : ∀ l, s.main_v20_8 (ix5 ⟨r.val / 64 % 64, by omega⟩ ⟨r.val / 4096, by omega⟩ ⟨k.val / 128, by omega⟩ ⟨r.val % 64, by omega⟩ l) = o l)
    (hz : ∀ l : Fin 128, z l = Z (ix2 r ⟨8192 + (128 * (k.val / 128) + l.val), by omega⟩)) (hw : ∀ l : Fin 128, w l = nw (ix2 0 l)) :
    Step.R_main_v42 s Z nw (ix2 r k) = gate o z w ⟨k.val % 128, by omega⟩ := by
  pointwise [Step.R_main_v42, gate]
  have e1 : r.val % 4096 / 64 = r.val / 64 % 64 := by omega
  have e2 : r.val % 4096 % 64 = r.val % 64 := by omega
  have e3 : 8192 + (128 * (k.val / 128) + k.val % 128) = 8192 + k.val := by omega
  simp only [e1, e2, ho, hz, hw, e3]

/-- The trips' first state. -/
abbrev s0 : State Ideal := init (F := Ideal) U W Q K A E

/-- What the trips do not change. -/
theorem kept : ∀ n, (iter (s0 U W Q K A E) n).main_v20_0 = Step.A_main_v5 (F := Ideal) U W Q K A E
    ∧ (iter (s0 U W Q K A E) n).main_v20_1 = Step.A_main_v8 (F := Ideal) U W Q K A E
    ∧ (iter (s0 U W Q K A E) n).main_v20_2 = Step.A_main_v11 (F := Ideal) U W Q K A E
    ∧ (iter (s0 U W Q K A E) n).main_v20_3 = Step.A_main_v14 (F := Ideal) U W Q K A E
    ∧ (iter (s0 U W Q K A E) n).main_v20_4 = Step.A_main_v17 (F := Ideal) U W Q K A E
    ∧ (iter (s0 U W Q K A E) n).main_v20_5 = Step.A_main_v3 (F := Ideal) U W Q K A E
  | 0 => ⟨rfl, rfl, rfl, rfl, rfl, rfl⟩
  | n + 1 => kept n

/-- Chunk `n` of sequence `b`, head `h`. -/
abbrev ch (b h n : ℕ) : Chan := chan U W Q K A E (64 * b + n) h

/-- The state before trip `n` and the outputs of the trips made. -/
theorem trips : ∀ n, n ≤ 64 → (∀ (b : Fin 4) (h : Fin 16) (p d : Fin 128), (iter (s0 U W Q K A E) n).main_v20_7 (ix4 b h p d)
      = states (ch U W Q K A E b.val h.val) (fun _ _ => 0) n p d)
    ∧ ∀ (k : Fin 64), k.val < n → ∀ (b : Fin 4) (h : Fin 16) (i : Fin 64) (d : Fin 128), (iter (s0 U W Q K A E) n).main_v20_8 (ix5 k b h i d)
      = (ch U W Q K A E b.val h.val k.val).o (states (ch U W Q K A E b.val h.val) (fun _ _ => 0) k.val) i d
  | 0, _ => ⟨fun b h p d => zero_at b h p d, fun k hk => absurd hk (Nat.not_lt_zero _)⟩
  | n + 1, hn => by
    obtain ⟨ih, io⟩ := trips n (by omega)
    obtain ⟨k0, k1, k2, k3, k4, k5⟩ := kept U W Q K A E n
    have hn' : n < 64 := by omega
    generalize hs : iter (s0 U W Q K A E) n = s at ih io k0 k1 k2 k3 k4 k5
    have hstep : iter (s0 U W Q K A E) (n + 1) = step n s := congrArg (step n) hs
    rw [hstep]
    have ev : ∀ (b : Fin 4) (h : Fin 16) (i : Fin 64) (d : Fin 128), Step.b36 n s (ix4 b h i d)
        = (ch U W Q K A E b.val h.val n).v (states (ch U W Q K A E b.val h.val) (fun _ _ => 0) n) i d := by
      intro b h i d
      rw [b36_at, b5_at n s b h hn', k0]
      simp only [b11_at n s b h hn', k1, ih]
      unfold Chan.v
      exact congrArg₂ (· - ·) (A_u U W Q K A E ⟨n, hn'⟩ b h i d)
        (Finset.sum_congr rfl fun p _ => congrArg (· * _) (A_w U W Q K A E ⟨n, hn'⟩ b h i p))
    refine ⟨fun b h p d => ?_, fun k hk b h i d => ?_⟩
    · rw [Step.step_main_v20_7, b44_at, b34_at n s b h hn', k5, ih]
      simp only [b23_at n s b h hn', k3, ev]
      show _ = (ch U W Q K A E b.val h.val n).s _ p d
      unfold Chan.s
      exact congrArg₂ (· + ·) (congrArg (_ * ·) (A_e U W Q K A E ⟨n, hn'⟩ b h d))
        (Finset.sum_congr rfl fun i _ => congrArg (· * _) (A_k U W Q K A E ⟨n, hn'⟩ b h i p))
    · rw [Step.step_main_v20_8, b50_at n s b h hn']
      by_cases hkn : k.val = n
      · rw [if_pos hkn, b45_at, b39_at, hkn]
        simp only [b17_at n s b h hn', b29_at n s b h hn', k2, k4, ih, ev]
        unfold Chan.o
        exact congrArg₂ (· + ·) (Finset.sum_congr rfl fun p _ => congrArg (· * _) (A_q U W Q K A E ⟨n, hn'⟩ b h i p))
          (Finset.sum_congr rfl fun j _ => congrArg (· * _) (A_a U W Q K A E ⟨n, hn'⟩ b h i j))
      · rw [if_neg hkn]
        exact io k (by omega) b h i d

/-- The reference's result, element by element. -/
theorem result_at (Z : FVec Ideal S16384x16384 .f32) (nw : FVec Ideal S1x128 .f32) (r : Fin 16384) (k : Fin 2048) :
    Step.R_main_v42 (iter (s0 U W Q K A E) 64) Z nw (ix2 r k) = spec U W Q K A E Z nw r.val k.val := by
  have hg : 64 * (r.val / 4096) + r.val / 64 % 64 = r.val / 64 := by omega
  refine R_at _ Z nw r k _ _ _ (fun l => ?_) (fun l => get_ix Z r.val (8192 + (128 * (k.val / 128) + l.val)) r.isLt (by omega))
    (fun l => get_ix nw 0 l.val (by omega) l.isLt)
  have ho := (trips U W Q K A E 64 (Nat.le_refl _)).2 ⟨r.val / 64 % 64, by omega⟩ (by show r.val / 64 % 64 < 64; omega)
    ⟨r.val / 4096, by omega⟩ ⟨k.val / 128, by omega⟩ ⟨r.val % 64, by omega⟩ l
  simp only [ch, hg] at ho
  exact ho

end Cert.ReferenceIdeal.Trips

end
-- ==== Proof.ProjValue.lean ====
/- The input projection: the kernel's array and the reference's, element by element. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ReadBack

@[expose] public section

noncomputable section

namespace Cert.Kernel2Ideal.RefValue

open Cert.Kernel2Ideal Cert.Kernel2Ideal.Gen Idealize.ShloMosaic Idealize.ShloMosaic.TcCoe Idealize.SL.Sem

variable (m : (ℓ : Loc nD τ sig) → Buf (Elt Ideal) ℓ)

/-- The reference's array of the kernel's arguments. -/
abbrev G (c : Dev nD) : Buf (Elt Ideal) ((c : Thread nD τ).loc main_v0) :=
  Cert.Reference2Ideal.Read.val_main_v1 (F := Ideal) (m ((c : Thread nD τ).loc main_arg0))
    (m ((c : Thread nD τ).loc main_arg1))

/-- Row block `t / 16` of the activations, column block `t % 16` of the weights and of the result. -/
theorem idx (t : Fin cfg0.N) : win0_0.index t = ![t.val / 16, 0] ∧ win0_1.index t = ![0, t.val % 16] ∧ win0_2.index t = ![t.val / 16, t.val % 16] :=
  (by decide +kernel : ∀ t : Fin grid0.N, win0_0.index t = ![t.val / 16, 0] ∧ win0_1.index t = ![0, t.val % 16] ∧ win0_2.index t = ![t.val / 16, t.val % 16]) t

/-- The carried scratch holds the row block's activations, cast, from the row's first point on. -/
theorem scratch (c : Dev nD) : ∀ (n : ℕ) (h : n < cfg0.N) (y : S1024x2048.Idx) (j : S16384x2048.Idx),
    (j 0).val = n / 16 * 1024 + (y 0).val → (j 1).val = (y 1).val →
    (outsAt0 m c n h).2 y = m ((c : Thread nD τ).loc main_arg0) j := by
  have caseA : ∀ (n : ℕ) (h : n < cfg0.N) (h0 : n % 16 = 0) (y : S1024x2048.Idx) (j : S16384x2048.Idx),
      (j 0).val = n / 16 * 1024 + (y 0).val → (j 1).val = (y 1).val →
      (outsAt0 m c n h).2 y = m ((c : Thread nD τ).loc main_arg0) j := by
    intro n h h0 y j hj0 hj1
    obtain ⟨e0, -, -⟩ := idx ⟨n, h⟩
    rw [outsAt0_A m c ⟨n, h⟩ h0]
    frame_out
    pointwise [k0_pay1]
    blk_ext [iblk, e0]
  intro n
  induction n with
  | zero => intro h; exact caseA 0 h rfl
  | succ n ih =>
    intro h y j hj0 hj1
    by_cases h0 : (n + 1) % 16 = 0
    · exact caseA _ h h0 y j hj0 hj1
    · rw [outsAt0_B m c ⟨n + 1, h⟩ h0]
      frame_out
      exact ih _ y j (by rw [hj0]; congr 2; omega) hj1

set_option maxRecDepth 16384 in
theorem final (c : Dev nD) : (dats m 0 c).arrAt 2 cfg0.N = G m c := by
  refine (dats m 0 c).arrAt_eq_of_covers 2 _ (by decide +kernel) fun t hf y => ?_
  obtain ⟨e0, e1, e2⟩ := idx t
  blk_simp
  rw [after0_2]
  by_cases h0 : t.val % 16 = 0
  · rw [outsAt0_A m c t h0]
    frame_out
    pointwise [k0_pay1, k0_pay2, G, Cert.Reference2Ideal.Read.val_main_v1, Cert.Reference2Ideal.Read.val_main_v0]
    blk_point [iblk, e0, e1, e2]
  · rw [outsAt0_B m c t h0]
    frame_out
    pointwise [k0_pay2, G, Cert.Reference2Ideal.Read.val_main_v1, Cert.Reference2Ideal.Read.val_main_v0]
    refine Finset.sum_congr (M := EReal) rfl fun k _ => congrArg₂ (fun a b : EReal => a * b) ?_ ?_
    · rw [read_unread_whole]
      exact scratch m c _ _ _ _ (by blk_simp [e2]; omega) (by blk_simp [e2])
    · blk_point [iblk, e0, e1, e2]

end Cert.Kernel2Ideal.RefValue

end
-- ==== Proof.MergeValue.lean ====
/- The merge of the two mixers: the kernel's array and the reference's, element by element. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

noncomputable section

namespace Cert.Kernel3Ideal.RefValue

open Cert.Kernel3Ideal Cert.Kernel3Ideal.Gen Idealize.ShloMosaic Idealize.ShloMosaic.TcCoe Idealize.SL.Sem

variable (m : (ℓ : Loc nD τ sig) → Buf (Elt Ideal) ℓ)

/-- The reference's array of the kernel's arguments. -/
abbrev G (c : Dev nD) : Buf (Elt Ideal) ((c : Thread nD τ).loc main_v2) :=
  Cert.Reference3Ideal.Read.val_main_v21 (F := Ideal) (m ((c : Thread nD τ).loc main_arg0))
    (m ((c : Thread nD τ).loc main_arg1)) (m ((c : Thread nD τ).loc main_arg2)) (m ((c : Thread nD τ).loc main_arg3))
    (m ((c : Thread nD τ).loc main_arg4))

/-- The blocks of a point, by the block of the result: same rows, same columns of the weights, and the two gates' columns
of the projection. -/
theorem idx (t : Fin cfg0.N) :
    win0_0.index t = ![win0_6.index t 0, 0] ∧ win0_1.index t = ![win0_6.index t 0, 0] ∧
    win0_2.index t = ![0, win0_6.index t 1] ∧ win0_3.index t = ![0, win0_6.index t 1] ∧
    win0_4.index t = ![win0_6.index t 0, 10 + win0_6.index t 1] ∧
    win0_5.index t = ![win0_6.index t 0, 12 + win0_6.index t 1] :=
  (by decide +kernel : ∀ t : Fin grid0.N,
    win0_0.index t = ![win0_6.index t 0, 0] ∧ win0_1.index t = ![win0_6.index t 0, 0] ∧
    win0_2.index t = ![0, win0_6.index t 1] ∧ win0_3.index t = ![0, win0_6.index t 1] ∧
    win0_4.index t = ![win0_6.index t 0, 10 + win0_6.index t 1] ∧
    win0_5.index t = ![win0_6.index t 0, 12 + win0_6.index t 1]) t

set_option maxRecDepth 16384 in
theorem final (c : Dev nD) : (dats m 0 c).arrAt 6 cfg0.N = G m c := by
  refine (dats m 0 c).arrAt_eq_of_covers 6 _ (by decide +kernel) fun t hf y => ?_
  blk_simp
  rw [after0_6]
  frame_out
  pointwise [k0_pay1, G, Ideal.logistic, Cert.Reference3Ideal.Read.val_main_v21, Cert.Reference3Ideal.Read.val_main_v20, Cert.Reference3Ideal.Read.val_main_v19, Cert.Reference3Ideal.Read.val_main_v18, Cert.Reference3Ideal.Read.val_main_v17, Cert.Reference3Ideal.Read.val_main_v16, Cert.Reference3Ideal.Read.val_main_v15, Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1, Cert.Reference3Ideal.Read.val_main_cst_2]
  obtain ⟨e0, e1, e2, e3, e4, e5⟩ := idx t
  blk_point [iblk, e0, e1, e2, e3, e4, e5]

end Cert.Kernel3Ideal.RefValue

end
-- ==== Proof.SharedValue.lean ====
/- The shared expert's two up projections: the kernel's array and the reference's, element by element. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit

@[expose] public section

noncomputable section

namespace Cert.Kernel4Ideal.RefValue

open Cert.Kernel4Ideal Cert.Kernel4Ideal.Gen Idealize.ShloMosaic Idealize.ShloMosaic.TcCoe Idealize.SL.Sem

variable (m : (ℓ : Loc nD τ sig) → Buf (Elt Ideal) ℓ)

/-- The reference's array of the kernel's arguments. -/
abbrev G (c : Dev nD) : Buf (Elt Ideal) ((c : Thread nD τ).loc main_v2) :=
  Cert.Reference4Ideal.Read.val_main_v4 (F := Ideal) (m ((c : Thread nD τ).loc main_arg0))
    (m ((c : Thread nD τ).loc main_arg1)) (m ((c : Thread nD τ).loc main_arg2))

/-- The block indices of the three windows: the rows go with the grid point, the weights stay. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The left half of the joined weights is the first weight … -/
theorem w_left (c : Dev nD) (i : S2048x1024.Idx) (j : S2048x512.Idx) (h0 : (i 0).val = (j 0).val) (h1 : (i 1).val = (j 1).val) :
    V m c main_v1 i = m ((c : Thread nD τ).loc main_arg1) j := by
  idx_vars i
  idx_vars j
  have hj : j1.val < 512 := j1.isLt
  replace h0 : i0.val = j0.val := h0
  replace h1 : i1.val = j1.val := h1
  obtain rfl := Fin.ext h0
  entry_read
  pointwise
  rw [dif_pos (by omega)]
  exact congrArg (m ((c : Thread nD τ).loc main_arg1)) (congrArg (ix2 i0) (Fin.ext h1))

/-- … and the right half the second. -/
theorem w_right (c : Dev nD) (i : S2048x1024.Idx) (j : S2048x512.Idx) (h0 : (i 0).val = (j 0).val) (h1 : (i 1).val = 512 + (j 1).val) :
    V m c main_v1 i = m ((c : Thread nD τ).loc main_arg2) j := by
  idx_vars i
  idx_vars j
  have hj : j1.val < 512 := j1.isLt
  replace h0 : i0.val = j0.val := h0
  replace h1 : i1.val = 512 + j1.val := h1
  obtain rfl := Fin.ext h0
  entry_read
  pointwise
  rw [dif_neg (by omega)]
  exact congrArg (m ((c : Thread nD τ).loc main_arg2)) (congrArg (ix2 i0) (Fin.ext (by show i1.val - 512 = _; omega)))

set_option maxRecDepth 16384 in
theorem final (c : Dev nD) : (dats m 0 c).arrAt 2 cfg0.N = G m c := by
  refine (dats m 0 c).arrAt_eq_of_covers 2 _ (by decide +kernel) fun t hf y => ?_
  blk_simp
  rw [after0_2]
  frame_out
  pointwise [k0_pay1, G, Cert.Reference4Ideal.Read.val_main_v4, Cert.Reference4Ideal.Read.val_main_v3, Cert.Reference4Ideal.Read.val_main_v2, Cert.Reference4Ideal.Read.val_main_v1, Cert.Reference4Ideal.Read.val_main_v0, Cert.Reference4Ideal.Read.val_main_call0_v5, Cert.Reference4Ideal.Read.val_main_call0_v4, Cert.Reference4Ideal.Read.val_main_call0_v3, Cert.Reference4Ideal.Read.val_main_call0_v2, Cert.Reference4Ideal.Read.val_main_call0_v1, Cert.Reference4Ideal.Read.val_main_call0_v0, Cert.Reference4Ideal.Read.val_main_call0_cst, Cert.Reference4Ideal.Read.val_main_call0_cst_0, Ideal.logistic]
  obtain ⟨e0, e1, e2⟩ := idx t
  blk_point [iblk, e0, e1, e2]
  · exact w_left m c _ _ (by blk_simp [e1, e2]) (by blk_simp [e1, e2])
  · exact w_right m c _ _ (by blk_simp [e1, e2]) (by blk_simp [e1, e2])

end Cert.Kernel4Ideal.RefValue

end
-- ==== Proof.Gather.lean ====
module

public import proofs.«01_k».proof.Proof.GdnScan
public import proofs.«01_k».proof.Proof.GdnRef
public import proofs.«01_k».proof.Proof.ProjValue
public import proofs.«01_k».proof.Proof.MergeValue
public import proofs.«01_k».proof.Proof.SharedValue
public import proofs.«01_k».proof.Proof.Gen.ReferenceIdeal.Step
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference2Ideal.Read
public import proofs.«01_k».proof.Proof.Gen.Reference3Ideal.Read
public import proofs.«01_k».proof.Proof.Gen.Reference4Ideal.Read

@[expose] public section

end
-- ==== Proof.CombPre.lean ====
/- What the precondition of the layer's last call says of the row numbers. -/
module

public import proofs.«01_k».proof.Proof.Gen.Pre_in_range
public import Idealize.ShloMosaic.Lib.ReduceAll
public import Idealize.ShloMosaic.Lib.Affine

@[expose] public section

noncomputable section

namespace Cert.Pre_in_range

open Idealize.ShloMosaic

instance : Subsingleton S_.Idx := ⟨fun a b => funext fun k => k.elim0⟩

theorem below [Facts] {F : FTy → Type} [FloatOps F] (x0 : FVec F S16384x2048 .f32) (x1 : FVec F S16384x512 .bf16) (x2 : FVec F S512x2048 .f32) (x3 : IVec S8x16384 32) (x4 : FVec F S16384x8 .f32)
    (x5 : IVec S1310720x128 32) (x6 x7 : FVec F S2048 .f32) (h : fn x0 x1 x2 x3 x4 x5 x6 x7 = fun _ => 1#1) (i : S8x16384.Idx) : BitVec.toNat (x3 i) < 163840 := by
  simp only [fn] at h
  have h1 := Host.reduce_andi_all _ _ _ _ _ (congrFun h (fun k => k.elim0)) i
  obtain ⟨h2, h3⟩ := IntOp.andi_eq_one.1 h1
  have h4 := IntOp.cmpi_sge.1 h2
  have h5 := IntOp.cmpi_slt.1 h3
  replace h4 : (0#32 : BitVec 32).toInt ≤ (x3 i).toInt := h4
  replace h5 : (x3 i).toInt < (163840#32 : BitVec 32).toInt := h5
  have e0 : (0#32 : BitVec 32).toInt = 0 := by decide
  have e1 : (163840#32 : BitVec 32).toInt = 163840 := by decide
  rw [e0] at h4
  rw [e1] at h5
  have hw := (x3 i).isLt
  rw [BitVec.toInt_eq_toNat_cond] at h4 h5
  split_ifs at h4 h5 <;> omega

end Cert.Pre_in_range

end
-- ==== Proof.CombIssue.lean ====
/- The copies of one row of the last call: what starting one takes and gives. -/
module

public import proofs.«01_k».proof.Proof.Gen.Kernel5Ideal.Frame
public import proofs.«01_k».proof.Proof.Gen.Kernel5Ideal.Loops
public import proofs.«01_k».proof.Proof.Gen.Kernel5Ideal.Points
public import Idealize.ShloMosaic.Lib.Ring
public import Idealize.ShloMosaic.Lib.Batch
public import Idealize.ShloMosaic.Lib.Tactic
public import Idealize.ShloMosaic.Lib.ValueLayout

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (Batch shareTok shareDrop)

variable {F : FTy → Type} [FloatOps F]

local notation "𝕄" => MT nD τ sig Unit (Elt F) ℕ (Pipeline.UD sig nD τ) ℕ

/-- The scratch buffer of two slots and the table of rows the kernel gathers. -/
abbrev scM : Memref sig .tc .vmem S2x16384x128 .i32 := Memref.whole cc0_scratch0
abbrev hbM : Memref sig .tc .hbm S1310720x128 .i32 := Memref.whole main_arg5

abbrev ScBuf (c : Dev nD) : Type := Buf (Elt F) (scM.view.loc (c : Thread nD τ))
abbrev HbBuf (c : Dev nD) : Type := Buf (Elt F) (hbM.view.loc (c : Thread nD τ))

/-- The block of eight rows that the copy numbered `j` fills: copy `8 t + k` fills block `256 k + t`. -/
def blk (j : ℕ) : ℕ := (j % 8) * 256 + j / 8
/-- The copy that fills block `b`. -/
def job (b : ℕ) : ℕ := (b % 256) * 8 + b / 256

theorem job_blk {j : ℕ} (h : j < 2048) : job (blk j) = j := by unfold job blk; omega
theorem blk_job {b : ℕ} (h : b < 2048) : blk (job b) = b := by unfold job blk; omega
theorem blk_lt {j : ℕ} (h : j < 2048) : blk j < 2048 := by unfold blk; omega
theorem job_lt {b : ℕ} (h : b < 2048) : job b < 2048 := by unfold job; omega

/-- Slot `s` of the scratch, and its part that copy `j` fills. -/
def slotSet (s : ℕ) : Finset S2x16384x128.Idx := Finset.univ.filter fun i => (i 0).val = s
def piece (s j : ℕ) : Finset S2x16384x128.Idx := Finset.univ.filter fun i => (i 0).val = s ∧ (i 1).val / 8 = blk j
/-- The eight rows numbered `w` of the table. -/
def rows (w : ℕ) : Finset S1310720x128.Idx := Finset.univ.filter fun i => (i 0).val / 8 = w

/-- What a slot holds once every copy has landed. -/
def landed {α : Type} (w : ℕ → ℕ) (Y : S1310720x128.Idx → α) : S2x16384x128.Idx → α := fun i =>
  Y (ix2 (⟨(w (job ((i 1).val / 8)) * 8 + (i 1).val % 8) % 1310720, Nat.mod_lt _ (by decide)⟩ : Fin 1310720) (⟨(i 2).val, (i 2).isLt⟩ : Fin 128))

theorem mem_piece (s j : ℕ) (i : S2x16384x128.Idx) : i ∈ piece s j ↔ (i 0).val = s ∧ (i 1).val / 8 = blk j := by
  unfold piece; simp only [Finset.mem_filter, Finset.mem_univ, true_and]
theorem mem_slotSet (s : ℕ) (i : S2x16384x128.Idx) : i ∈ slotSet s ↔ (i 0).val = s := by
  unfold slotSet; simp only [Finset.mem_filter, Finset.mem_univ, true_and]
theorem mem_rows (w : ℕ) (i : S1310720x128.Idx) : i ∈ rows w ↔ (i 0).val / 8 = w := by
  unfold rows; simp only [Finset.mem_filter, Finset.mem_univ, true_and]

theorem dst_set {s j : ℕ} (off : Fin 3 → ℕ) (inb) (ho : off = ![s, 8 * blk j, 0]) :
    ((scM.slice (Rect.unit (s := S2x16384x128) off S1x8x128.size inb) (fun _ => rfl)).squeeze S8x128 squeezes_S1x8x128_S8x128).view.set = piece s j := by
  subst ho
  refine (View.set_reshape _ _).trans ((View.set_slice_whole _ _).trans ?_)
  ext i
  rw [mem_piece]
  refine (Rect.mem_set_unit (s := S2x16384x128)).trans ?_
  have h2 : (i 2).val < 128 := (i 2).isLt
  constructor
  · intro h
    have h0 := h 0; have h1 := h 1
    simp [S1x8x128] at h0 h1
    omega
  · rintro ⟨h0, h1⟩ a
    fin_cases a <;> simp [S1x8x128] <;> omega

theorem src_set {w : ℕ} (off : Fin 2 → ℕ) (inb) (ho : off = ![8 * w, 0]) :
    (hbM.slice (Rect.unit (s := S1310720x128) off S8x128.size inb) (fun _ => rfl)).view.set = rows w := by
  subst ho
  refine (View.set_slice_whole _ _).trans ?_
  ext i
  rw [mem_rows]
  refine (Rect.mem_set_unit (s := S1310720x128)).trans ?_
  have h2 : (i 1).val < 128 := (i 1).isLt
  constructor
  · intro h
    have h0 := h 0
    simp [S8x128] at h0
    omega
  · intro h0 a
    fin_cases a <;> simp [S8x128] <;> omega

theorem uemb {s : Shape} (off size : Fin s.rank → ℕ) (inb) (j : (Rect.unit (s := s) off size inb).shape.Idx) (a : Fin s.rank) :
    ((Rect.unit (s := s) off size inb).emb j a).val = off a + (j a).val :=
  (Rect.emb_apply _ _ _).trans (congrArg (off a + ·) (Nat.one_mul _))

/-- The scratch after the copy numbered `j`, on the part it fills. -/
theorem copied {c : Dev nD} {s j : ℕ} (w : ℕ → ℕ) (hj : j < 2048) (hw : w j < 163840) (off : Fin 3 → ℕ) (inb) (ho : off = ![s, 8 * blk j, 0])
    (off' : Fin 2 → ℕ) (inb') (ho' : off' = ![8 * w j, 0]) (Y : HbBuf (F := F) c) (f : ScBuf (F := F) c) :
    ∀ i ∈ piece s j, ((scM.slice (Rect.unit (s := S2x16384x128) off S1x8x128.size inb) (fun _ => rfl)).squeeze S8x128 squeezes_S1x8x128_S8x128).view.write (Elt F) f
      (ReadAs.same.apply ((hbM.slice (Rect.unit (s := S1310720x128) off' S8x128.size inb') (fun _ => rfl)).view.read (Elt F) Y)) Finset.univ i
      = landed w Y i := by
  intro i hi
  rw [← dst_set off inb ho] at hi
  subst ho; subst ho'
  obtain ⟨x, -, rfl⟩ := Finset.mem_map.mp hi
  rw [View.write_emb_of_mem _ _ (Finset.mem_univ x)]
  have hx := eq_ix2 x
  generalize x 0 = a at hx
  generalize x 1 = b at hx
  subst hx
  have ha : a.val < 8 := a.isLt
  have hb : b.val < 128 := b.isLt
  have e := reshapeEquiv_ix2_1ab (a := 8) (b := 128) squeezes_S1x8x128_S8x128.numel_eq a b
  have hbl : (8 * blk j + a.val) / 8 = blk j := by omega
  have hbm : (8 * blk j + a.val) % 8 = a.val := by omega
  have key : ∀ (E : S2x16384x128.Idx), E = (Rect.unit (s := S2x16384x128) ![s, 8 * blk j, 0] S1x8x128.size inb).emb (ix3 (⟨0, Nat.one_pos⟩ : Fin 1) a b) →
      Y ((Rect.unit (s := S1310720x128) ![8 * w j, 0] S8x128.size inb').emb (ix2 a b)) = landed w Y E := by
    intro E hE
    have h1 : (E 1).val = 8 * blk j + a.val := by
      rw [hE]; exact uemb _ _ _ _ _
    have h2 : (E 2).val = b.val := by
      rw [hE]; exact (uemb _ _ _ _ _).trans (Nat.zero_add _)
    unfold landed
    congr 1
    funext q
    apply Fin.ext
    rw [uemb]
    fin_cases q
    · show 8 * w j + a.val = (w (job ((E 1).val / 8)) * 8 + (E 1).val % 8) % 1310720
      rw [h1, hbl, hbm, job_blk hj]; omega
    · show 0 + b.val = (E 2).val
      rw [h2, Nat.zero_add]
  exact key _ (congrArg (Rect.unit (s := S2x16384x128) ![s, 8 * blk j, 0] S1x8x128.size inb).emb e)

/-- What the copies of one slot deliver, what each leaves of its share of the table, what it takes. -/
def deliv (c : Dev nD) (w : ℕ → ℕ) (Y : HbBuf (F := F) c) (q : PosShare TreeShare) (s : ℕ) (j : Fin 2048) : sProp 𝕄 :=
  iprop((scM.view.loc (c : Thread nD τ) ↦[piece s j.val]{fullShare} (landed w Y : ScBuf (F := F) c))
    ∗ (hbM.view.loc (c : Thread nD τ) ↦[rows (w j.val)]{shareTok q 2048 j} Y))
def kept (c : Dev nD) (w : ℕ → ℕ) (Y : HbBuf (F := F) c) (q : PosShare TreeShare) (j : Fin 2048) : sProp 𝕄 :=
  hbM.view.loc (c : Thread nD τ) ↦[Finset.univ \ rows (w j.val)]{shareTok q 2048 j} Y
def avail (c : Dev nD) (Y : HbBuf (F := F) c) (f : ScBuf (F := F) c) (q : PosShare TreeShare) (s : ℕ) (j : Fin 2048) : sProp 𝕄 :=
  iprop((scM.view.loc (c : Thread nD τ) ↦[piece s j.val]{fullShare} f) ∗ (hbM.view.loc (c : Thread nD τ) ↦{shareTok q 2048 j} Y))

instance (c : Dev nD) (w : ℕ → ℕ) (Y : HbBuf (F := F) c) (q : PosShare TreeShare) (s : ℕ) (j : Fin 2048) :
    Storable (upEmb : UEmb _ 𝕄) (deliv c w Y q s j) := by unfold deliv; infer_instance

/-- The units one copy adds to its cell. -/
def unitN : ℕ := cc0_scratch0.dmaCredit S8x128 .i32

abbrev EC : UEmb Counters 𝕄 := countersEmb

/-- `N` copies of slot `s` started. -/
def started (c : Dev nD) (sm : SemLoc sig) (w : ℕ → ℕ) (Y : HbBuf (F := F) c) (f : ScBuf (F := F) c) (q : PosShare TreeShare) (s N : ℕ) : sProp 𝕄 :=
  iprop(Batch EC (c : Thread nD τ) sm () unitN (deliv c w Y q s) N 0
    ∗ bigSep (Ring.rangeSet 2048 0 N) (kept c w Y q) ∗ bigSep (Ring.rangeSet 2048 N 2048) (avail c Y f q s))

theorem wp_copy {c : Dev nD} {s N : ℕ} {w : ℕ → ℕ} (hN : N < 2048) (hw : w N < 163840) {off : Fin 3 → ℕ} {inb} (ho : off = ![s, 8 * blk N, 0])
    {off' : Fin 2 → ℕ} {inb'} (ho' : off' = ![8 * w N, 0]) {Y : HbBuf (F := F) c} {f : ScBuf (F := F) c} {q : PosShare TreeShare}
    {cell : DmaSem sig} {sm : SemLoc sig} (hc : SemLoc.dma cell = sm) {hx1 hx2 hx3} {α : Type} {k : PUnit → Prog (TpuEff nD τ sig (Elt F) Λ₀ .tc) α} {Q : α → sProp 𝕄} :
    started c sm w Y f q s N ⊢ iprop((started c sm w Y f q s (N + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (hbM.slice (Rect.unit (s := S1310720x128) off' S8x128.size inb') (fun _ => rfl))
          (.here ((scM.slice (Rect.unit (s := S2x16384x128) off S1x8x128.size inb) (fun _ => rfl)).squeeze S8x128 squeezes_S1x8x128_S8x128)) (.dma cell) hx1 hx2 hx3) k) Q) := by
  subst hc
  unfold started
  rw [Ring.bigSep_rangeSet_head hN hN, show bigSep (Ring.rangeSet 2048 0 (N + 1)) (kept c w Y q)
    = iprop(kept c w Y q ⟨N, hN⟩ ∗ bigSep (Ring.rangeSet 2048 0 N) (kept c w Y q)) from
    Ring.bigSep_rangeSet_last (Nat.succ_pos N) (show N + 1 ≤ 2048 by omega)]
  iintro ⟨HB, HK, HA, HR⟩ Hk
  ihave HA' := (show avail c Y f q s ⟨N, hN⟩ ⊢ iprop((scM.view.loc (c : Thread nD τ) ↦[piece s N]{fullShare} f) ∗ (hbM.view.loc (c : Thread nD τ) ↦{shareTok q 2048 ⟨N, hN⟩} Y)) from .rfl) $$ HA
  icases HA' with ⟨Hd, Ht⟩
  ihave Ht' := (pointsTo_split_subset (Finset.subset_univ (rows (w N)))).1 $$ Ht
  icases Ht' with ⟨Hs, Hr⟩
  iapply (Transfers.wp_dmaBatch EC Variants.none (c : Thread nD τ) none
    (src := hbM.slice (Rect.unit (s := S1310720x128) off' S8x128.size inb') (fun _ => rfl))
    (dst := (scM.slice (Rect.unit (s := S2x16384x128) off S1x8x128.size inb) (fun _ => rfl)).squeeze S8x128 squeezes_S1x8x128_S8x128)
    (Sd := piece s N) (fd := f) (fs := Y) (q := shareTok q 2048 ⟨N, hN⟩)
    () unitN rfl (dst_set off inb ho).subset (D := deliv c w Y q s) (j := N) (u := 0) hN (Nat.zero_le _) ?_) $$ [Hs Hd HB]
  · have h1 := dst_set off inb ho
    have h2 := src_set off' inb' ho'
    have h3 := copied (c := c) w hN hw off inb ho off' inb' ho' Y f
    unfold deliv
    iintro ⟨H1, H2⟩
    isplitl [H1]
    · iapply (Entails.of_eq (pointsTo_congr (Ix := Unit) (Name := ℕ) (U := Pipeline.UD sig nD τ) (Lvl := ℕ) (q := fullShare) (ℓ := scM.view.loc (c : Thread nD τ)) (g := landed w Y) h3)) $$ H1
    · rw [h2]; iexact H2
  · isplitl [Hs]
    · rw [src_set off' inb' ho']; iexact Hs
    isplitl [Hd]; · iexact Hd
    iexact HB
  iintro HB
  iapply Hk
  isplitl [HB]; · iexact HB
  isplitl [HK Hr]
  · isplitl [Hr]; · iapply (show iprop(hbM.view.loc (c : Thread nD τ) ↦[Finset.univ \ rows (w N)]{shareTok q 2048 ⟨N, hN⟩} Y) ⊢ kept c w Y q ⟨N, hN⟩ from .rfl) $$ Hr
    iexact HK
  iexact HR

end Cert.Kernel5Ideal.Gen

end
-- ==== Proof.CombLoop.lean ====
/- The loops that start the copies of a grid point. -/
module

public import proofs.«01_k».proof.Proof.CombIssue

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (Batch shareTok shareDrop)

variable {F : FTy → Type} [FloatOps F]

local notation "𝕄" => MT nD τ sig Unit (Elt F) ℕ (Pipeline.UD sig nD τ) ℕ

/-- The row numbers a table holds, by copy. -/
def tab (x : Vec F S8x256 .i32) (j : ℕ) : ℕ :=
  (show BitVec 32 from x (ix2 (⟨j % 8, Nat.mod_lt _ (by decide)⟩ : Fin 8) (⟨j / 8 % 256, Nat.mod_lt _ (by decide)⟩ : Fin 256))).toNat

/-- One word of a table held whole, at a position given by its coordinates. -/
theorem wp_word {c : Dev nD} {m : Memref sig .tc .smem S8x256 .i32} {f : Buf (Elt F) (m.view.loc (c : Thread nD τ))} {x : Vec F S8x256 .i32}
    (hf : m.view.read (Elt F) f = x) {off : Fin 2 → ℕ} {inb} {a b : ℕ} (ho : off = ![a, b]) (ha : a < 8) (hb : b < 256)
    {Q : Elt F .i32 → sProp 𝕄} :
    (m.view.loc (c : Thread nD τ) ↦{fullShare} f : sProp 𝕄) ⊢ iprop(((m.view.loc (c : Thread nD τ) ↦{fullShare} f) -∗
        Q (x (ix2 (⟨a, ha⟩ : Fin 8) (⟨b, hb⟩ : Fin 256))))
      -∗ wp frame (wpE (defs₀ (F := F)) Variants.none (c : Thread nD τ) none) Set.univ
        (smemLoad m (Rect.unit (s := S8x256) off S1x1.size inb) numel1_S1x1 rfl) Q) := by
  subst ho
  have e : (Rect.unit (s := S8x256) ![a, b] S1x1.size inb).emb (Shape.Idx.first (s := S1x1) (numel1_S1x1.symm ▸ Nat.one_pos)) = ix2 (⟨a, ha⟩ : Fin 8) (⟨b, hb⟩ : Fin 256) := by
    funext q
    apply Fin.ext
    rw [uemb]
    fin_cases q
    · show a + _ = a
      exact Nat.add_zero a
    · show b + _ = b
      exact Nat.add_zero b
  have h := wp_smemLoadElt (defs := defs₀ (F := F)) Variants.none (c : Thread nD τ) none Set.univ (Ix := Unit) (Name := ℕ) (U := Pipeline.UD sig nD τ) (Lvl := ℕ)
    (m := m) (r := Rect.unit (s := S8x256) ![a, b] S1x1.size inb) (hw := View.loads_smem_one rfl numel1_S1x1) (x := Shape.Idx.first (numel1_S1x1.symm ▸ Nat.one_pos))
    (k := Prog.ret) (Q := Q) (q := fullShare) (f := f) (S := Finset.univ) (Γ := .empty) (Finset.subset_univ _)
  have hr : (m.access (Rect.unit (s := S8x256) ![a, b] S1x1.size inb)).read (Elt F) f (Shape.Idx.first (s := S1x1) (numel1_S1x1.symm ▸ Nat.one_pos))
      = x (ix2 (⟨a, ha⟩ : Fin 8) (⟨b, hb⟩ : Fin 256)) := by
    rw [← e, ← hf]; rfl
  rw [hr] at h
  iintro H Hk
  iapply h $$ H
  iintro H
  rw [wp_ret]
  imodintro
  iapply Hk $$ H

theorem wp_assume' {c : Dev nD} {P : Prop} {d : Decidable P} (hP : P) {Q : PLift P → sProp 𝕄} :
    Q ⟨hP⟩ ⊢ wp frame (wpE (defs₀ (F := F)) Variants.none (c : Thread nD τ) none) Set.univ
      (Prog.lift (TpuEff.assume P d)) Q := by
  refine .trans ?_ (wp_assume Variants.none (c : Thread nD τ) none Set.univ (k := Prog.ret) hP)
  rw [wp_ret]
  iintro H
  imodintro
  iexact H

theorem wp_copy' {c : Dev nD} {s N : ℕ} {w : ℕ → ℕ} (hN : N < 2048) (hw : w N < 163840) {off : Fin 3 → ℕ} {inb} (ho : off = ![s, 8 * blk N, 0])
    {off' : Fin 2 → ℕ} {inb'} (ho' : off' = ![8 * w N, 0]) {Y : HbBuf (F := F) c} {f : ScBuf (F := F) c} {q : PosShare TreeShare}
    {cell : DmaSem sig} {sm : SemLoc sig} (hc : SemLoc.dma cell = sm) {hx1 hx2 hx3} {Q : PUnit → sProp 𝕄} :
    started c sm w Y f q s N ⊢ iprop((started c sm w Y f q s (N + 1) -∗ Q ⟨⟩)
      -∗ wp frame (wpE (defs₀ (F := F)) Variants.none (c : Thread nD τ) none) Set.univ
        (Prog.lift (.enqueueDma (hbM.slice (Rect.unit (s := S1310720x128) off' S8x128.size inb') (fun _ => rfl))
          (.here ((scM.slice (Rect.unit (s := S2x16384x128) off S1x8x128.size inb) (fun _ => rfl)).squeeze S8x128 squeezes_S1x8x128_S8x128)) (.dma cell) hx1 hx2 hx3)) Q) := by
  iintro H Hk
  iapply (wp_copy (k := Prog.ret) hN hw ho ho' hc) $$ H
  iintro H
  rw [wp_ret]
  imodintro
  iapply Hk $$ H

theorem wp_pure' {c : Dev nD} {α : Type} {a : α} {Q : α → sProp 𝕄} :
    Q a ⊢ wp frame (wpE (defs₀ (F := F)) Variants.none (c : Thread nD τ) none) Set.univ (Pure.pure a) Q := by
  show Q a ⊢ wp frame (wpE (defs₀ (F := F)) Variants.none (c : Thread nD τ) none) Set.univ (Prog.ret a) Q
  rw [wp_ret]
  iintro H
  imodintro
  iexact H

theorem muli8 {v : BitVec 32} (h : v.toNat < 163840) : (Scalar.muli v 8#32).toNat = 8 * v.toNat := by
  show (v * 8#32).toNat = _
  rw [BitVec.toNat_mul]
  show v.toNat * 8 % 2 ^ 32 = _
  omega

theorem chk_gen {v : BitVec 32} (h : v.toNat < 163840) (P : Prop) :
    (P → 8 ∣ (Scalar.muli v 8#32).toNat) ∧ (P → ∀ a, (![(Scalar.muli v 8#32).toNat, 0] : Fin 2 → ℕ) a + S8x128.size a ≤ S1310720x128.size a) := by
  rw [muli8 h]
  refine ⟨fun _ => ⟨_, rfl⟩, fun _ a => ?_⟩
  fin_cases a <;> simp [S8x128, S1310720x128] <;> omega

section Offsets
omit [FloatOps F]
theorem at1 : ∀ t : Fin k0_t1_loop.trips, k0_off1 t = ![0, t.val] := by decide +kernel
theorem at4 : ∀ t : Fin k0_t1_loop.trips, k0_off4 t = ![1, t.val] := by decide +kernel
theorem at7 : ∀ t : Fin k0_t1_loop.trips, k0_off7 t = ![2, t.val] := by decide +kernel
theorem at10 : ∀ t : Fin k0_t1_loop.trips, k0_off10 t = ![3, t.val] := by decide +kernel
theorem at13 : ∀ t : Fin k0_t1_loop.trips, k0_off13 t = ![4, t.val] := by decide +kernel
theorem at16 : ∀ t : Fin k0_t1_loop.trips, k0_off16 t = ![5, t.val] := by decide +kernel
theorem at19 : ∀ t : Fin k0_t1_loop.trips, k0_off19 t = ![6, t.val] := by decide +kernel
theorem at22 : ∀ t : Fin k0_t1_loop.trips, k0_off22 t = ![7, t.val] := by decide +kernel
theorem at2 : ∀ t : Fin k0_t1_loop.trips, k0_off2 t = ![0, 8 * blk (8 * t.val), 0] := by decide +kernel
theorem at5 : ∀ t : Fin k0_t1_loop.trips, k0_off5 t = ![0, 8 * blk (8 * t.val + 1), 0] := by decide +kernel
theorem at8 : ∀ t : Fin k0_t1_loop.trips, k0_off8 t = ![0, 8 * blk (8 * t.val + 2), 0] := by decide +kernel
theorem at11 : ∀ t : Fin k0_t1_loop.trips, k0_off11 t = ![0, 8 * blk (8 * t.val + 3), 0] := by decide +kernel
theorem at14 : ∀ t : Fin k0_t1_loop.trips, k0_off14 t = ![0, 8 * blk (8 * t.val + 4), 0] := by decide +kernel
theorem at17 : ∀ t : Fin k0_t1_loop.trips, k0_off17 t = ![0, 8 * blk (8 * t.val + 5), 0] := by decide +kernel
theorem at20 : ∀ t : Fin k0_t1_loop.trips, k0_off20 t = ![0, 8 * blk (8 * t.val + 6), 0] := by decide +kernel
theorem at23 : ∀ t : Fin k0_t1_loop.trips, k0_off23 t = ![0, 8 * blk (8 * t.val + 7), 0] := by decide +kernel
theorem trips1 : k0_t1_loop.trips = 256 := by decide +kernel
theorem trips2 : k0_t2_loop.trips = 256 := by decide +kernel
end Offsets

theorem tab_eq (x : Vec F S8x256 .i32) {a b N : ℕ} (ha : a < 8) (hb : b < 256) (hN : N = 8 * b + a) :
    (show BitVec 32 from x (ix2 (⟨a, ha⟩ : Fin 8) (⟨b, hb⟩ : Fin 256))).toNat = tab x N := by
  unfold tab
  have e1 : N % 8 = a := by omega
  have e2 : N / 8 % 256 = b := by omega
  simp only [e1, e2]

theorem srcOff (x : Vec F S8x256 .i32) (hx : ∀ j, tab x j < 163840) {a b N : ℕ} (ha : a < 8) (hb : b < 256) (hN : N = 8 * b + a) :
    (![(Scalar.muli (show BitVec 32 from x (ix2 (⟨a, ha⟩ : Fin 8) (⟨b, hb⟩ : Fin 256))) 8#32).toNat, 0] : Fin 2 → ℕ) = ![8 * tab x N, 0] := by
  rw [muli8 (by rw [tab_eq x ha hb hN]; exact hx N), tab_eq x ha hb hN]

/-- The two slots' cells. -/
def cellS (s : ℕ) : SemLoc sig := if s = 0 then .dma 15 else .dma 16

theorem cell_eq {s : ℕ} (hs : s < 2) (off : Fin 1 → ℕ) (inb) (ho : off = ![s]) :
    SemLoc.dma ((cc0_scratch1.slice (Rect.unit (s := S2) off S1.size inb)).squeeze S_ squeezes_S1_S_).sem = cellS s := by
  subst ho
  rcases (by omega : s = 0 ∨ s = 1) with rfl | rfl
  · refine .trans ?_ (show cellS 0 = .dma 15 from if_pos rfl).symm
    first | (exact congrArg SemLoc.dma (Fin.ext rfl)) | decide +revert +kernel | decide +revert | skip
  · refine .trans ?_ (show cellS 1 = .dma 16 from if_neg (by decide)).symm
    first | (exact congrArg SemLoc.dma (Fin.ext rfl)) | decide +revert +kernel | decide +revert | skip

section Offsets2
omit [FloatOps F]
theorem at26 : ∀ p : Fin grid0.N, k0_off26 (grid0.coords p) = ![(p.val + 1) % 2] := by decide +kernel
theorem at30 : ∀ p : Fin grid0.N, k0_off30 (grid0.coords p) = ![(p.val + 1) % 2] := by decide +kernel
theorem at34 : ∀ p : Fin grid0.N, k0_off34 (grid0.coords p) = ![(p.val + 1) % 2] := by decide +kernel
theorem at38 : ∀ p : Fin grid0.N, k0_off38 (grid0.coords p) = ![(p.val + 1) % 2] := by decide +kernel
theorem at42 : ∀ p : Fin grid0.N, k0_off42 (grid0.coords p) = ![(p.val + 1) % 2] := by decide +kernel
theorem at46 : ∀ p : Fin grid0.N, k0_off46 (grid0.coords p) = ![(p.val + 1) % 2] := by decide +kernel
theorem at50 : ∀ p : Fin grid0.N, k0_off50 (grid0.coords p) = ![(p.val + 1) % 2] := by decide +kernel
theorem at54 : ∀ p : Fin grid0.N, k0_off54 (grid0.coords p) = ![(p.val + 1) % 2] := by decide +kernel
theorem at25 : ∀ t : Fin k0_t2_loop.trips, k0_off25 t = ![0, t.val] := by decide +kernel
theorem at27a : ∀ p : Fin grid0.N, k0_off27 (grid0.coords p) ⟨0, by decide⟩ 0 = (p.val + 1) % 2 := by decide +kernel
theorem at27b : ∀ t : Fin k0_t2_loop.trips, k0_off27 (grid0.coords ⟨0, by decide⟩) t 1 = 8 * blk (8 * t.val + 0) := by decide +kernel
theorem at27 (p : Fin grid0.N) (t : Fin k0_t2_loop.trips) : k0_off27 (grid0.coords p) t = ![(p.val + 1) % 2, 8 * blk (8 * t.val + 0), 0] := by
  rw [← at27a p, ← at27b t]; funext a; fin_cases a <;> rfl
theorem at29 : ∀ t : Fin k0_t2_loop.trips, k0_off29 t = ![1, t.val] := by decide +kernel
theorem at31a : ∀ p : Fin grid0.N, k0_off31 (grid0.coords p) ⟨0, by decide⟩ 0 = (p.val + 1) % 2 := by decide +kernel
theorem at31b : ∀ t : Fin k0_t2_loop.trips, k0_off31 (grid0.coords ⟨0, by decide⟩) t 1 = 8 * blk (8 * t.val + 1) := by decide +kernel
theorem at31 (p : Fin grid0.N) (t : Fin k0_t2_loop.trips) : k0_off31 (grid0.coords p) t = ![(p.val + 1) % 2, 8 * blk (8 * t.val + 1), 0] := by
  rw [← at31a p, ← at31b t]; funext a; fin_cases a <;> rfl
theorem at33 : ∀ t : Fin k0_t2_loop.trips, k0_off33 t = ![2, t.val] := by decide +kernel
theorem at35a : ∀ p : Fin grid0.N, k0_off35 (grid0.coords p) ⟨0, by decide⟩ 0 = (p.val + 1) % 2 := by decide +kernel
theorem at35b : ∀ t : Fin k0_t2_loop.trips, k0_off35 (grid0.coords ⟨0, by decide⟩) t 1 = 8 * blk (8 * t.val + 2) := by decide +kernel
theorem at35 (p : Fin grid0.N) (t : Fin k0_t2_loop.trips) : k0_off35 (grid0.coords p) t = ![(p.val + 1) % 2, 8 * blk (8 * t.val + 2), 0] := by
  rw [← at35a p, ← at35b t]; funext a; fin_cases a <;> rfl
theorem at37 : ∀ t : Fin k0_t2_loop.trips, k0_off37 t = ![3, t.val] := by decide +kernel
theorem at39a : ∀ p : Fin grid0.N, k0_off39 (grid0.coords p) ⟨0, by decide⟩ 0 = (p.val + 1) % 2 := by decide +kernel
theorem at39b : ∀ t : Fin k0_t2_loop.trips, k0_off39 (grid0.coords ⟨0, by decide⟩) t 1 = 8 * blk (8 * t.val + 3) := by decide +kernel
theorem at39 (p : Fin grid0.N) (t : Fin k0_t2_loop.trips) : k0_off39 (grid0.coords p) t = ![(p.val + 1) % 2, 8 * blk (8 * t.val + 3), 0] := by
  rw [← at39a p, ← at39b t]; funext a; fin_cases a <;> rfl
theorem at41 : ∀ t : Fin k0_t2_loop.trips, k0_off41 t = ![4, t.val] := by decide +kernel
theorem at43a : ∀ p : Fin grid0.N, k0_off43 (grid0.coords p) ⟨0, by decide⟩ 0 = (p.val + 1) % 2 := by decide +kernel
theorem at43b : ∀ t : Fin k0_t2_loop.trips, k0_off43 (grid0.coords ⟨0, by decide⟩) t 1 = 8 * blk (8 * t.val + 4) := by decide +kernel
theorem at43 (p : Fin grid0.N) (t : Fin k0_t2_loop.trips) : k0_off43 (grid0.coords p) t = ![(p.val + 1) % 2, 8 * blk (8 * t.val + 4), 0] := by
  rw [← at43a p, ← at43b t]; funext a; fin_cases a <;> rfl
theorem at45 : ∀ t : Fin k0_t2_loop.trips, k0_off45 t = ![5, t.val] := by decide +kernel
theorem at47a : ∀ p : Fin grid0.N, k0_off47 (grid0.coords p) ⟨0, by decide⟩ 0 = (p.val + 1) % 2 := by decide +kernel
theorem at47b : ∀ t : Fin k0_t2_loop.trips, k0_off47 (grid0.coords ⟨0, by decide⟩) t 1 = 8 * blk (8 * t.val + 5) := by decide +kernel
theorem at47 (p : Fin grid0.N) (t : Fin k0_t2_loop.trips) : k0_off47 (grid0.coords p) t = ![(p.val + 1) % 2, 8 * blk (8 * t.val + 5), 0] := by
  rw [← at47a p, ← at47b t]; funext a; fin_cases a <;> rfl
theorem at49 : ∀ t : Fin k0_t2_loop.trips, k0_off49 t = ![6, t.val] := by decide +kernel
theorem at51a : ∀ p : Fin grid0.N, k0_off51 (grid0.coords p) ⟨0, by decide⟩ 0 = (p.val + 1) % 2 := by decide +kernel
theorem at51b : ∀ t : Fin k0_t2_loop.trips, k0_off51 (grid0.coords ⟨0, by decide⟩) t 1 = 8 * blk (8 * t.val + 6) := by decide +kernel
theorem at51 (p : Fin grid0.N) (t : Fin k0_t2_loop.trips) : k0_off51 (grid0.coords p) t = ![(p.val + 1) % 2, 8 * blk (8 * t.val + 6), 0] := by
  rw [← at51a p, ← at51b t]; funext a; fin_cases a <;> rfl
theorem at53 : ∀ t : Fin k0_t2_loop.trips, k0_off53 t = ![7, t.val] := by decide +kernel
theorem at55a : ∀ p : Fin grid0.N, k0_off55 (grid0.coords p) ⟨0, by decide⟩ 0 = (p.val + 1) % 2 := by decide +kernel
theorem at55b : ∀ t : Fin k0_t2_loop.trips, k0_off55 (grid0.coords ⟨0, by decide⟩) t 1 = 8 * blk (8 * t.val + 7) := by decide +kernel
theorem at55 (p : Fin grid0.N) (t : Fin k0_t2_loop.trips) : k0_off55 (grid0.coords p) t = ![(p.val + 1) % 2, 8 * blk (8 * t.val + 7), 0] := by
  rw [← at55a p, ← at55b t]; funext a; fin_cases a <;> rfl
end Offsets2

theorem trip1 (c : Dev nD) (i : grid0.Coords) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole) (h1 : k0_cond1 i = 1#1)
    (t : Fin k0_t1_loop.trips) (x : Vec F S8x256 .i32) (hx : ∀ j, tab x j < 163840) (Y : HbBuf (F := F) c) (fs : ScBuf (F := F) c) (q : PosShare TreeShare)
    {f : Buf (Elt F) (arg1.view.loc (c : Thread nD τ))} (hf : arg1.view.read (Elt F) f = x) (K : Unit → sProp 𝕄) :
    iprop((arg1.view.loc (c : Thread nD τ) ↦{fullShare} f) ∗ started c (cellS 0) (tab x) Y fs q 0 (8 * t.val)
      ∗ (iprop((arg1.view.loc (c : Thread nD τ) ↦{fullShare} f) ∗ started c (cellS 0) (tab x) Y fs q 0 (8 * t.val + 8)) -∗ K ()))
    ⊢ wp frame (wpE (defs₀ (F := F)) Variants.none (c : Thread nD τ) none) Set.univ
        (k0_t1_body i arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h1 t ()) K := by
  have ht : t.val < 256 := lt_of_lt_of_eq t.isLt trips1
  have hc : ∀ (k : Fin 8), (show BitVec 32 from x (ix2 k (⟨t.val, ht⟩ : Fin 256))).toNat < 163840 := fun k => by
    rw [tab_eq x k.isLt ht rfl]; exact hx _
  unfold k0_t1_body
  rw [k0_part1_eq_skeleton, k0_part2_eq_skeleton]
  unfold k0_part1_skel k0_part2_skel
  iintro ⟨H, HS, Hk⟩
  simp only [wp_bind]
  iapply (wp_word hf (at1 t) (by decide : 0 < 8) ht) $$ H
  iintro H
  iapply (wp_assume' (show k0_chk1 i _ from chk_gen (hc 0) _))
  iapply (wp_copy' (N := 8 * t.val + 0) (by omega) (hx _) (at2 t) (show k0_off3 _ = _ from srcOff x hx _ ht rfl) (cell_eq (by decide) _ _ rfl)) $$ HS
  iintro HS
  iapply (wp_word hf (at4 t) (by decide : 1 < 8) ht) $$ H
  iintro H
  iapply (wp_assume' (show k0_chk2 i _ from chk_gen (hc 1) _))
  iapply (wp_copy' (N := 8 * t.val + 1) (by omega) (hx _) (at5 t) (show k0_off6 _ = _ from srcOff x hx _ ht rfl) (cell_eq (by decide) _ _ rfl)) $$ HS
  iintro HS
  iapply (wp_word hf (at7 t) (by decide : 2 < 8) ht) $$ H
  iintro H
  iapply (wp_assume' (show k0_chk3 i _ from chk_gen (hc 2) _))
  iapply wp_pure'
  iapply (wp_copy' (N := 8 * t.val + 2) (by omega) (hx _) (at8 t) (show k0_off9 _ = _ from srcOff x hx _ ht rfl) (cell_eq (by decide) _ _ rfl)) $$ HS
  iintro HS
  iapply (wp_word hf (at10 t) (by decide : 3 < 8) ht) $$ H
  iintro H
  iapply (wp_assume' (show k0_chk4 i _ from chk_gen (hc 3) _))
  iapply (wp_copy' (N := 8 * t.val + 3) (by omega) (hx _) (at11 t) (show k0_off12 _ = _ from srcOff x hx _ ht rfl) (cell_eq (by decide) _ _ rfl)) $$ HS
  iintro HS
  iapply (wp_word hf (at13 t) (by decide : 4 < 8) ht) $$ H
  iintro H
  iapply (wp_assume' (show k0_chk5 i _ from chk_gen (hc 4) _))
  iapply (wp_copy' (N := 8 * t.val + 4) (by omega) (hx _) (at14 t) (show k0_off15 _ = _ from srcOff x hx _ ht rfl) (cell_eq (by decide) _ _ rfl)) $$ HS
  iintro HS
  iapply (wp_word hf (at16 t) (by decide : 5 < 8) ht) $$ H
  iintro H
  iapply (wp_assume' (show k0_chk6 i _ from chk_gen (hc 5) _))
  iapply wp_pure'
  iapply (wp_copy' (N := 8 * t.val + 5) (by omega) (hx _) (at17 t) (show k0_off18 _ = _ from srcOff x hx _ ht rfl) (cell_eq (by decide) _ _ rfl)) $$ HS
  iintro HS
  iapply (wp_word hf (at19 t) (by decide : 6 < 8) ht) $$ H
  iintro H
  iapply (wp_assume' (show k0_chk7 i _ from chk_gen (hc 6) _))
  iapply (wp_copy' (N := 8 * t.val + 6) (by omega) (hx _) (at20 t) (show k0_off21 _ = _ from srcOff x hx _ ht rfl) (cell_eq (by decide) _ _ rfl)) $$ HS
  iintro HS
  iapply (wp_word hf (at22 t) (by decide : 7 < 8) ht) $$ H
  iintro H
  iapply (wp_assume' (show k0_chk8 i _ from chk_gen (hc 7) _))
  iapply (wp_copy' (N := 8 * t.val + 7) (by omega) (hx _) (at23 t) (show k0_off24 _ = _ from srcOff x hx _ ht rfl) (cell_eq (by decide) _ _ rfl)) $$ HS
  iintro HS
  iapply wp_pure'
  iapply Hk $$ [H HS]
  isplitl [H]
  · iexact H
  · iexact HS

theorem trip2 (c : Dev nD) (p : Fin grid0.N) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole) (h1 : k0_cond2 (grid0.coords p) = 1#1)
    (t : Fin k0_t2_loop.trips) (x : Vec F S8x256 .i32) (hx : ∀ j, tab x j < 163840) (Y : HbBuf (F := F) c) (fs : ScBuf (F := F) c) (q : PosShare TreeShare)
    {f : Buf (Elt F) (arg2.view.loc (c : Thread nD τ))} (hf : arg2.view.read (Elt F) f = x) (K : Unit → sProp 𝕄) :
    iprop((arg2.view.loc (c : Thread nD τ) ↦{fullShare} f) ∗ started c (cellS ((p.val + 1) % 2)) (tab x) Y fs q ((p.val + 1) % 2) (8 * t.val)
      ∗ (iprop((arg2.view.loc (c : Thread nD τ) ↦{fullShare} f) ∗ started c (cellS ((p.val + 1) % 2)) (tab x) Y fs q ((p.val + 1) % 2) (8 * t.val + 8)) -∗ K ()))
    ⊢ wp frame (wpE (defs₀ (F := F)) Variants.none (c : Thread nD τ) none) Set.univ
        (k0_t2_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h1 t ()) K := by
  have ht : t.val < 256 := lt_of_lt_of_eq t.isLt trips2
  have hc : ∀ (k : Fin 8), (show BitVec 32 from x (ix2 k (⟨t.val, ht⟩ : Fin 256))).toNat < 163840 := fun k => by
    rw [tab_eq x k.isLt ht rfl]; exact hx _
  unfold k0_t2_body
  rw [k0_part3_eq_skeleton, k0_part4_eq_skeleton]
  unfold k0_part3_skel k0_part4_skel
  iintro ⟨H, HS, Hk⟩
  simp only [wp_bind]
  iapply (wp_word hf (at25 t) (by decide : 0 < 8) ht) $$ H
  iintro H
  iapply (wp_assume' (show k0_chk9 (grid0.coords p) _ from chk_gen (hc 0) _))
  iapply (wp_copy' (N := 8 * t.val + 0) (by omega) (hx _) (at27 p t) (show k0_off28 _ = _ from srcOff x hx _ ht rfl) (cell_eq (Nat.mod_lt _ (by decide)) _ _ (at26 p))) $$ HS
  iintro HS
  iapply (wp_word hf (at29 t) (by decide : 1 < 8) ht) $$ H
  iintro H
  iapply (wp_assume' (show k0_chk10 (grid0.coords p) _ from chk_gen (hc 1) _))
  iapply (wp_copy' (N := 8 * t.val + 1) (by omega) (hx _) (at31 p t) (show k0_off32 _ = _ from srcOff x hx _ ht rfl) (cell_eq (Nat.mod_lt _ (by decide)) _ _ (at30 p))) $$ HS
  iintro HS
  iapply (wp_word hf (at33 t) (by decide : 2 < 8) ht) $$ H
  iintro H
  iapply (wp_assume' (show k0_chk11 (grid0.coords p) _ from chk_gen (hc 2) _))
  iapply wp_pure'
  iapply (wp_copy' (N := 8 * t.val + 2) (by omega) (hx _) (at35 p t) (show k0_off36 _ = _ from srcOff x hx _ ht rfl) (cell_eq (Nat.mod_lt _ (by decide)) _ _ (at34 p))) $$ HS
  iintro HS
  iapply (wp_word hf (at37 t) (by decide : 3 < 8) ht) $$ H
  iintro H
  iapply (wp_assume' (show k0_chk12 (grid0.coords p) _ from chk_gen (hc 3) _))
  iapply (wp_copy' (N := 8 * t.val + 3) (by omega) (hx _) (at39 p t) (show k0_off40 _ = _ from srcOff x hx _ ht rfl) (cell_eq (Nat.mod_lt _ (by decide)) _ _ (at38 p))) $$ HS
  iintro HS
  iapply (wp_word hf (at41 t) (by decide : 4 < 8) ht) $$ H
  iintro H
  iapply (wp_assume' (show k0_chk13 (grid0.coords p) _ from chk_gen (hc 4) _))
  iapply (wp_copy' (N := 8 * t.val + 4) (by omega) (hx _) (at43 p t) (show k0_off44 _ = _ from srcOff x hx _ ht rfl) (cell_eq (Nat.mod_lt _ (by decide)) _ _ (at42 p))) $$ HS
  iintro HS
  iapply (wp_word hf (at45 t) (by decide : 5 < 8) ht) $$ H
  iintro H
  iapply (wp_assume' (show k0_chk14 (grid0.coords p) _ from chk_gen (hc 5) _))
  iapply wp_pure'
  iapply (wp_copy' (N := 8 * t.val + 5) (by omega) (hx _) (at47 p t) (show k0_off48 _ = _ from srcOff x hx _ ht rfl) (cell_eq (Nat.mod_lt _ (by decide)) _ _ (at46 p))) $$ HS
  iintro HS
  iapply (wp_word hf (at49 t) (by decide : 6 < 8) ht) $$ H
  iintro H
  iapply (wp_assume' (show k0_chk15 (grid0.coords p) _ from chk_gen (hc 6) _))
  iapply (wp_copy' (N := 8 * t.val + 6) (by omega) (hx _) (at51 p t) (show k0_off52 _ = _ from srcOff x hx _ ht rfl) (cell_eq (Nat.mod_lt _ (by decide)) _ _ (at50 p))) $$ HS
  iintro HS
  iapply (wp_word hf (at53 t) (by decide : 7 < 8) ht) $$ H
  iintro H
  iapply (wp_assume' (show k0_chk16 (grid0.coords p) _ from chk_gen (hc 7) _))
  iapply (wp_copy' (N := 8 * t.val + 7) (by omega) (hx _) (at55 p t) (show k0_off56 _ = _ from srcOff x hx _ ht rfl) (cell_eq (Nat.mod_lt _ (by decide)) _ _ (at54 p))) $$ HS
  iintro HS
  iapply wp_pure'
  iapply Hk $$ [H HS]
  isplitl [H]
  · iexact H
  · iexact HS

end Cert.Kernel5Ideal.Gen

end
-- ==== Proof.CombSlot.lean ====
/- The two slots of the scratch and the wait for a slot. -/
module

public import proofs.«01_k».proof.Proof.CombLoop

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (Batch shareTok shareDrop)

variable {F : FTy → Type} [FloatOps F]

local notation "𝕄" => MT nD τ sig Unit (Elt F) ℕ (Pipeline.UD sig nD τ) ℕ

/-- The share of the table each slot's copies read with. -/
def shr (s : ℕ) : PosShare TreeShare := if s = 0 then fullShare.left else fullShare.right

/-- A slot no copy is on its way to; -/
def free (c : Dev nD) (Y : HbBuf (F := F) c) (s : ℕ) : sProp 𝕄 :=
  iprop((∃ f : ScBuf (F := F) c, scM.view.loc (c : Thread nD τ) ↦[slotSet s]{fullShare} f) ∗ semVal ((c : Thread nD τ), cellS s) 0
    ∗ (hbM.view.loc (c : Thread nD τ) ↦{shr s} Y))
/-- a slot all of whose copies have started. -/
def flight (c : Dev nD) (w : ℕ → ℕ) (Y : HbBuf (F := F) c) (s : ℕ) : sProp 𝕄 :=
  iprop(∃ f : ScBuf (F := F) c, started c (cellS s) w Y f (shr s) s 2048 ∗ (hbM.view.loc (c : Thread nD τ) ↦{shareDrop (shr s) 2048} Y))

theorem piece_disj (s : ℕ) (b b' : Fin 2048) (h : b ≠ b') : Disjoint (piece s b.val) (piece s b'.val) := by
  rw [Finset.disjoint_left]
  intro i h1 h2
  rw [mem_piece] at h1 h2
  apply h
  apply Fin.ext
  rw [← job_blk b.isLt, ← job_blk b'.isLt, ← h1.2, ← h2.2]
theorem piece_union (s : ℕ) : (Finset.univ : Finset (Fin 2048)).biUnion (fun b => piece s b.val) = slotSet s := by
  ext i
  rw [Finset.mem_biUnion, mem_slotSet]
  have h1 : (i 1).val < 16384 := (i 1).isLt
  constructor
  · rintro ⟨b, -, hb⟩
    exact ((mem_piece s _ i).mp hb).1
  · intro h
    exact ⟨⟨job ((i 1).val / 8), job_lt (by omega)⟩, Finset.mem_univ _, (mem_piece s _ i).mpr ⟨h, (blk_job (by omega)).symm⟩⟩

theorem slot_blocks (c : Dev nD) (s : ℕ) (f : ScBuf (F := F) c) :
    ((scM.view.loc (c : Thread nD τ)) ↦[slotSet s]{fullShare} f : sProp 𝕄) = bigSep Finset.univ fun b : Fin 2048 => (scM.view.loc (c : Thread nD τ)) ↦[piece s b.val]{fullShare} f :=
  Ring.pointsTo_sub_blocks (Ix := Unit) (Name := ℕ) (U := Pipeline.UD sig nD τ) (Lvl := ℕ) (ℓ := scM.view.loc (c : Thread nD τ)) (fun b : Fin 2048 => piece s b.val) (piece_disj s) (slotSet s) (piece_union s) f

theorem bs_sep (Φ Ψ : Fin 2048 → sProp 𝕄) : (bigSep Finset.univ fun j => iprop(Φ j ∗ Ψ j)) = iprop(bigSep Finset.univ Φ ∗ bigSep Finset.univ Ψ) := BI.bigSep_sep _ _ _

theorem slot_start (c : Dev nD) (w : ℕ → ℕ) (Y : HbBuf (F := F) c) (s : ℕ) :
    free c Y s ⊢ iprop(|={Set.univ}=> ∃ f : ScBuf (F := F) c, started c (cellS s) w Y f (shr s) s 0 ∗ (hbM.view.loc (c : Thread nD τ) ↦{shareDrop (shr s) 2048} Y)) := by
  unfold free started
  iintro ⟨⟨%f, H⟩, Hs, HY⟩
  imod (Transfers.batch_alloc' EC (c : Thread nD τ) (sm := cellS s) () unitN (deliv c w Y (shr s) s) (E := Set.univ)) $$ Hs with HB
  ihave HY' := (Transfers.pointsTo_toks_split (shr s) 2048) $$ HY
  icases HY' with ⟨Hd, Ht⟩
  imodintro
  iexists f
  isplitr [Hd]
  · isplitl [HB]; · iexact HB
    rw [Ring.bigSep_rangeSet_empty (Nat.le_refl 0), Ring.rangeSet_univ]
    isplitr; · iempintro
    unfold avail
    iapply (Entails.of_eq (bs_sep _ _).symm)
    isplitl [H]
    · iapply (Entails.of_eq (slot_blocks c s f)); iexact H
    iexact Ht
  · iexact Hd

theorem slot_done (c : Dev nD) (w : ℕ → ℕ) (Y : HbBuf (F := F) c) (s : ℕ) :
    iprop(bigSep Finset.univ (deliv c w Y (shr s) s) ∗ bigSep (Ring.rangeSet 2048 0 2048) (kept c w Y (shr s)) ∗ (hbM.view.loc (c : Thread nD τ) ↦{shareDrop (shr s) 2048} Y))
    ⊢ iprop((scM.view.loc (c : Thread nD τ) ↦[slotSet s]{fullShare} (landed w Y : ScBuf (F := F) c)) ∗ (hbM.view.loc (c : Thread nD τ) ↦{shr s} Y)) := by
  unfold deliv kept
  rw [Ring.rangeSet_univ]
  iintro ⟨HD, Hk, Hd⟩
  ihave HD' := (Entails.of_eq (bs_sep _ _)) $$ HD
  icases HD' with ⟨H, Hr⟩
  isplitl [H]
  · iapply (Entails.of_eq (slot_blocks c s (landed w Y)).symm); iexact H
  iapply (Transfers.pointsTo_toks_join (shr s) 2048)
  isplitl [Hd]; · iexact Hd
  have e : (bigSep Finset.univ fun j : Fin 2048 => iprop((hbM.view.loc (c : Thread nD τ) ↦[rows (w j.val)]{shareTok (shr s) 2048 j} Y) ∗ (hbM.view.loc (c : Thread nD τ) ↦[Finset.univ \ rows (w j.val)]{shareTok (shr s) 2048 j} Y)) : sProp 𝕄)
      ⊢ bigSep Finset.univ fun j : Fin 2048 => (hbM.view.loc (c : Thread nD τ) ↦{shareTok (shr s) 2048 j} Y) :=
    BI.bigSep_mono fun j _ => (pointsTo_split_subset (Finset.subset_univ (rows (w j.val)))).2
  iapply e
  iapply (Entails.of_eq (bs_sep _ _).symm)
  isplitl [Hr]; · iexact Hr
  iexact Hk

theorem credit : cc0_scratch0.dmaCredit S16384x128 .i32 = 2048 * unitN := by decide +kernel

theorem wp_wait {c : Dev nD} {s : ℕ} (hs : s < 2) {off1 : Fin 1 → ℕ} {inb1} (ho1 : off1 = ![s]) {off : Fin 3 → ℕ} {inb} {sw : Memref sig .tc .hbm S16384x128 .i32}
    {w : ℕ → ℕ} {Y : HbBuf (F := F) c} {W : Waits sig Unit} {hx1 hx2} {Q : PUnit → sProp 𝕄} :
    iprop(flight c w Y s ∗ owes (c : Thread nD τ) 0 W) ⊢ iprop((iprop((scM.view.loc (c : Thread nD τ) ↦[slotSet s]{fullShare} (landed w Y : ScBuf (F := F) c)) ∗ semVal ((c : Thread nD τ), cellS s) 0
        ∗ (hbM.view.loc (c : Thread nD τ) ↦{shr s} Y) ∗ (∃ W', owes (c : Thread nD τ) 0 W')) -∗ Q ⟨⟩)
      -∗ wp frame (wpE (defs₀ (F := F)) Variants.none (c : Thread nD τ) none) Set.univ
        (Prog.lift (.waitDma2 ((cc0_scratch1.slice (Rect.unit (s := S2) off1 S1.size inb1)).squeeze S_ squeezes_S1_S_).sem sw
          ((scM.slice (Rect.unit (s := S2x16384x128) off S1x16384x128.size inb) (fun _ => rfl)).squeeze S16384x128 squeezes_S1x16384x128_S16384x128) hx1 hx2)) Q) := by
  have hc := cell_eq hs off1 inb1 ho1
  unfold flight started
  rw [← hc]
  iintro ⟨⟨%f, ⟨HB, HK, -⟩, Hd⟩, HO⟩ Hk
  iapply (Transfers.wp_waitBatchAll EC Variants.none (c : Thread nD τ) none (k := Prog.ret) (srcw := sw) () (J := 2048 * unitN) credit (by decide +kernel : 0 < unitN)
    (D := deliv c w Y (shr s) s) (u := 0) (by omega) (W := W)) $$ [HB HO]
  · isplitl [HB]; · iexact HB
    iexact HO
  iintro ⟨HD, Hs, HO⟩
  rw [wp_ret]
  imodintro
  iapply Hk
  ihave HX := (slot_done c w Y s) $$ [HD HK Hd]
  · isplitl [HD]; · iexact HD
    isplitl [HK]; · iexact HK
    iexact Hd
  icases HX with ⟨H, HY⟩
  isplitl [H]; · iexact H
  isplitl [Hs]; · iexact Hs
  isplitl [HY]; · iexact HY
  iexists _; iexact HO

theorem loop1 (c : Dev nD) (p : Fin grid0.N) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole) (h : k0_cond1 (grid0.coords p) = 1#1)
    (x : Vec F S8x256 .i32) (hx : ∀ j, tab x j < 163840) (Y : HbBuf (F := F) c) {f : Buf (Elt F) (arg1.view.loc (c : Thread nD τ))} (hf : arg1.view.read (Elt F) f = x) {Q : Unit → sProp 𝕄} :
    iprop((arg1.view.loc (c : Thread nD τ) ↦{fullShare} f) ∗ free c Y 0)
    ⊢ iprop((iprop((arg1.view.loc (c : Thread nD τ) ↦{fullShare} f) ∗ flight c (tab x) Y 0) -∗ Q ()) -∗ wp frame (wpE (defs₀ (F := F)) Variants.none (c : Thread nD τ) none) Set.univ
        (Scf.Loop.for k0_t1_loop (k0_t1_ok (grid0.coords p) h) ⟨⟩ (k0_t1_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h)) Q) := by
  iintro ⟨H, HF⟩ Hk
  imod (slot_start c (tab x) Y 0) $$ HF with ⟨%fs, HS, Hd⟩
  iapply (Idealize.ShloMosaic.Scf.wp_for frame (wpE (defs₀ (F := F)) Variants.none (c : Thread nD τ) none) Set.univ k0_t1_loop.lb k0_t1_loop.ub k0_t1_loop.st (k0_t1_ok (grid0.coords p) h) ()
    (k0_t1_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h)
    (fun k _ => iprop((arg1.view.loc (c : Thread nD τ) ↦{fullShare} f) ∗ started c (cellS 0) (tab x) Y fs (shr 0) 0 (8 * k))) ?_)
  · intro k _
    refine .trans ?_ (trip1 c (grid0.coords p) arg1 harg1 arg2 harg2 arg3 harg3 arg4 harg4 arg5 harg5 arg6 harg6 arg7 harg7 arg8 harg8 arg10 harg10 h k x hx Y fs (shr 0) hf _)
    iintro ⟨H, HS⟩
    isplitl [H]; · iexact H
    isplitl [HS]; · iexact HS
    iintro ⟨H, HS⟩
    isplitl [H]; · iexact H
    iexact HS
  · isplitl [H HS]
    · isplitl [H]; · iexact H
      iexact HS
    · iintro %acc ⟨H, HS⟩
      iapply Hk
      isplitl [H]; · iexact H
      unfold flight
      iexists fs
      isplitl [HS]
      · iapply (Entails.of_eq (congrArg (started c (cellS 0) (tab x) Y fs (shr 0) 0) (show 8 * k0_t1_loop.trips = 2048 by rw [trips1])))
        iexact HS
      · iexact Hd

theorem loop2 (c : Dev nD) (p : Fin grid0.N) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole) (h : k0_cond2 (grid0.coords p) = 1#1)
    (x : Vec F S8x256 .i32) (hx : ∀ j, tab x j < 163840) (Y : HbBuf (F := F) c) {f : Buf (Elt F) (arg2.view.loc (c : Thread nD τ))} (hf : arg2.view.read (Elt F) f = x) {Q : Unit → sProp 𝕄} :
    iprop((arg2.view.loc (c : Thread nD τ) ↦{fullShare} f) ∗ free c Y ((p.val + 1) % 2))
    ⊢ iprop((iprop((arg2.view.loc (c : Thread nD τ) ↦{fullShare} f) ∗ flight c (tab x) Y ((p.val + 1) % 2)) -∗ Q ()) -∗ wp frame (wpE (defs₀ (F := F)) Variants.none (c : Thread nD τ) none) Set.univ
        (Scf.Loop.for k0_t2_loop (k0_t2_ok (grid0.coords p) h) ⟨⟩ (k0_t2_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h)) Q) := by
  iintro ⟨H, HF⟩ Hk
  imod (slot_start c (tab x) Y ((p.val + 1) % 2)) $$ HF with ⟨%fs, HS, Hd⟩
  iapply (Idealize.ShloMosaic.Scf.wp_for frame (wpE (defs₀ (F := F)) Variants.none (c : Thread nD τ) none) Set.univ k0_t2_loop.lb k0_t2_loop.ub k0_t2_loop.st (k0_t2_ok (grid0.coords p) h) ()
    (k0_t2_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h)
    (fun k _ => iprop((arg2.view.loc (c : Thread nD τ) ↦{fullShare} f) ∗ started c (cellS ((p.val + 1) % 2)) (tab x) Y fs (shr ((p.val + 1) % 2)) ((p.val + 1) % 2) (8 * k))) ?_)
  · intro k _
    refine .trans ?_ (trip2 c p arg1 harg1 arg2 harg2 arg3 harg3 arg4 harg4 arg5 harg5 arg6 harg6 arg7 harg7 arg8 harg8 arg10 harg10 h k x hx Y fs (shr ((p.val + 1) % 2)) hf _)
    iintro ⟨H, HS⟩
    isplitl [H]; · iexact H
    isplitl [HS]; · iexact HS
    iintro ⟨H, HS⟩
    isplitl [H]; · iexact H
    iexact HS
  · isplitl [H HS]
    · isplitl [H]; · iexact H
      iexact HS
    · iintro %acc ⟨H, HS⟩
      iapply Hk
      isplitl [H]; · iexact H
      unfold flight
      iexists fs
      isplitl [HS]
      · iapply (Entails.of_eq (congrArg (started c (cellS ((p.val + 1) % 2)) (tab x) Y fs (shr ((p.val + 1) % 2)) ((p.val + 1) % 2)) (show 8 * k0_t2_loop.trips = 2048 by rw [trips2])))
        iexact HS
      · iexact Hd

end Cert.Kernel5Ideal.Gen

end
-- ==== Proof.CombStage.lean ====
/- Splitting a slot among its copies, and the loads of a slot that has landed. -/
module

public import proofs.«01_k».proof.Proof.CombSlot
public import Idealize.ShloMosaic.Lib.VecWindow

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (Batch shareTok shareDrop)

variable {F : FTy → Type} [FloatOps F]

local notation "𝕄" => MT nD τ sig Unit (Elt F) ℕ (Pipeline.UD sig nD τ) ℕ

theorem owns_open {c : Dev nD} {sp : Space} {s : Shape} {e : EltTy} {m : Memref sig .tc sp s e} (h : m.IsWhole) (X : Vec F s e) :
    (owns (c : Thread nD τ) m fullShare X : sProp 𝕄) ⊢ iprop(∃ f, ⌜m.view.read (Elt F) f = X⌝ ∗ (m.view.loc (c : Thread nD τ) ↦{fullShare} f)) := by
  unfold owns
  rw [h.set_eq_univ]

theorem owns_close {c : Dev nD} {sp : Space} {s : Shape} {e : EltTy} {m : Memref sig .tc sp s e} (h : m.IsWhole) {X : Vec F s e} {f : Buf (Elt F) (m.view.loc (c : Thread nD τ))}
    (hf : m.view.read (Elt F) f = X) :
    (m.view.loc (c : Thread nD τ) ↦{fullShare} f : sProp 𝕄) ⊢ owns (c : Thread nD τ) m fullShare X := by
  unfold owns
  rw [h.set_eq_univ]
  iintro H
  iexists f
  isplitr
  · ipureintro; exact hf
  · iexact H

/-- A load of a whole block. -/
theorem wp_ld {c : Dev nD} {s : Shape} {e : EltTy} {m : Memref sig .tc .vmem s e} {X : Vec F s e} {off : Fin s.rank → ℕ} {inb} {hl} {Q : Vec F s e → sProp 𝕄} :
    (owns (c : Thread nD τ) m fullShare X : sProp 𝕄) ⊢ iprop((owns (c : Thread nD τ) m fullShare X -∗ Q X)
      -∗ wp frame (wpE (defs₀ (F := F)) Variants.none (c : Thread nD τ) none) Set.univ
        (Prog.lift (.load m (Rect.unit off s.size inb).toLoadRect hl)) Q) := by
  iintro H Hk
  unfold owns
  icases H with ⟨%f, %hf, H⟩
  have h := wp_load (defs := defs₀ (F := F)) Variants.none (c : Thread nD τ) none Set.univ (Ix := Unit) (Name := ℕ) (U := Pipeline.UD sig nD τ) (Lvl := ℕ)
    (m := m) (r := (Rect.unit off s.size inb).toLoadRect) (hl := hl) (k := Prog.ret) (Q := Q) (q := fullShare) (f := f) (S := m.view.set) (Γ := .empty) (View.setOn_subset_set _ _)
  have e1 : m.view.readAt (Elt F) (Rect.unit off s.size inb).toLoadRect f = X := (View.readAt_full m.view f inb).trans hf
  rw [e1] at h
  iapply h $$ H
  iintro H
  rw [wp_ret]
  imodintro
  iapply Hk
  iexists f
  isplitr
  · ipureintro; exact hf
  · iexact H

/-- A store of a whole block. -/
theorem wp_st {c : Dev nD} {s : Shape} {e : EltTy} {m : Memref sig .tc .vmem s e} {X X' : Vec F s e} {off : Fin s.rank → ℕ} {inb} {hl hx} {Q : PUnit → sProp 𝕄} :
    (owns (c : Thread nD τ) m fullShare X : sProp 𝕄) ⊢ iprop((owns (c : Thread nD τ) m fullShare X' -∗ Q ⟨⟩)
      -∗ wp frame (wpE (defs₀ (F := F)) Variants.none (c : Thread nD τ) none) Set.univ
        (Prog.lift (.store m (Rect.unit off s.size inb) X' Finset.univ hl hx)) Q) := by
  iintro H Hk
  unfold owns
  icases H with ⟨%f, %hf, H⟩
  have h := wp_store (defs := defs₀ (F := F)) Variants.none (c : Thread nD τ) none Set.univ (Ix := Unit) (Name := ℕ) (U := Pipeline.UD sig nD τ) (Lvl := ℕ)
    (m := m) (r := Rect.unit off s.size inb) (w := X') (Mk := Finset.univ) (hx := hl) (hm := hx) (k := Prog.ret) (Q := Q) (f := f) (S := m.view.set) (Γ := .empty)
    (by rw [View.setOn_univ]; exact (View.set_slice _ _).trans_subset (View.setOn_subset_set _ _))
  iapply h $$ H
  iintro H
  rw [wp_ret]
  imodintro
  iapply Hk
  iexists ((m.access (Rect.unit off s.size inb)).write (Elt F) f X' Finset.univ)
  isplitr
  · ipureintro
    exact View.read_writes_full m.view f inb X' []
  · iexact H

/-- The eighth `e` of the rows the copies numbered `8 r + k` bring. -/
def slab (w : ℕ → ℕ) (Y : S1310720x128.Idx → Elt F .i32) (k e : ℕ) : Vec F S1x256x128 .i32 := fun x =>
  Y (ix2 (⟨(w (8 * (x 1).val + k) * 8 + e) % 1310720, Nat.mod_lt _ (by decide)⟩ : Fin 1310720) (⟨(x 2).val, (x 2).isLt⟩ : Fin 128))

/-- A strided load of a slot that has landed. -/
theorem wp_slab {c : Dev nD} {s : ℕ} (k e : ℕ) (hk : k < 8) (he : e < 8) {off : Fin 3 → ℕ} {inb} (ho : off = ![s, 2048 * k + e, 0]) {w : ℕ → ℕ} {Y : HbBuf (F := F) c} {hl}
    {Q : Vec F S1x256x128 .i32 → sProp 𝕄} :
    (scM.view.loc (c : Thread nD τ) ↦[slotSet s]{fullShare} (landed w Y : ScBuf (F := F) c) : sProp 𝕄)
    ⊢ iprop(((scM.view.loc (c : Thread nD τ) ↦[slotSet s]{fullShare} (landed w Y : ScBuf (F := F) c)) -∗ Q (slab w Y k e))
      -∗ wp frame (wpE (defs₀ (F := F)) Variants.none (c : Thread nD τ) none) Set.univ
        (Prog.lift (.load scM (⟨off, S1x256x128.size, ![1, 8, 1], inb⟩ : LoadRect S2x16384x128) hl)) Q) := by
  subst ho
  iintro H Hk
  have h := wp_load (defs := defs₀ (F := F)) Variants.none (c : Thread nD τ) none Set.univ (Ix := Unit) (Name := ℕ) (U := Pipeline.UD sig nD τ) (Lvl := ℕ)
    (m := scM) (r := (⟨![s, 2048 * k + e, 0], S1x256x128.size, ![1, 8, 1], inb⟩ : LoadRect S2x16384x128)) (hl := hl) (k := Prog.ret) (Q := Q) (q := fullShare) (f := (landed w Y : ScBuf (F := F) c))
    (S := slotSet s) (Γ := .empty) (by
      intro i hi
      obtain ⟨x, hx, rfl⟩ := Finset.mem_map.mp hi
      obtain ⟨j, rfl⟩ := LoadRect.exists_idx_of_mem _ hx
      refine (mem_slotSet s _).mpr ?_
      show s + 1 * (j 0).val = s
      have : (j 0).val < 1 := (j 0).isLt
      omega)
  have e1 : scM.view.readAt (Elt F) (⟨![s, 2048 * k + e, 0], S1x256x128.size, ![1, 8, 1], inb⟩ : LoadRect S2x16384x128) (landed w Y : ScBuf (F := F) c) = slab w Y k e := by
    funext x
    have h1 : (x 1).val < 256 := (x 1).isLt
    show Y (ix2 (⟨(w (job ((2048 * k + e + 8 * (x 1).val) / 8)) * 8 + (2048 * k + e + 8 * (x 1).val) % 8) % 1310720, _⟩ : Fin 1310720) (⟨0 + 1 * (x 2).val, _⟩ : Fin 128)) = _
    have e2 : (2048 * k + e + 8 * (x 1).val) / 8 = 256 * k + (x 1).val := by omega
    have e3 : (2048 * k + e + 8 * (x 1).val) % 8 = e := by omega
    have e4 : job (256 * k + (x 1).val) = 8 * (x 1).val + k := by unfold job; omega
    unfold slab
    congr 1
    funext q
    apply Fin.ext
    fin_cases q
    · show (w (job ((2048 * k + e + 8 * (x 1).val) / 8)) * 8 + (2048 * k + e + 8 * (x 1).val) % 8) % 1310720 = (w (8 * (x 1).val + k) * 8 + e) % 1310720
      rw [e2, e3, e4]
    · show 0 + 1 * (x 2).val = (x 2).val
      omega
  rw [e1] at h
  iapply h $$ H
  iintro H
  rw [wp_ret]
  imodintro
  iapply Hk $$ H

theorem hc1 : ∀ p : Fin grid0.N, k0_cond1 (grid0.coords p) = 1#1 ↔ p.val = 0 := by decide +kernel
theorem hc2 : ∀ p : Fin grid0.N, k0_cond2 (grid0.coords p) = 1#1 ↔ p.val + 1 < 64 := by decide +kernel
theorem at57 : ∀ p : Fin grid0.N, k0_off57 (grid0.coords p) = ![p.val % 2] := by decide +kernel
theorem at59 : ∀ p : Fin grid0.N, k0_off59 (grid0.coords p) = ![p.val % 2, 2048 * 0 + 0, 0] := by decide +kernel
theorem at60 : ∀ p : Fin grid0.N, k0_off60 (grid0.coords p) = ![p.val % 2, 2048 * 0 + 1, 0] := by decide +kernel
theorem at61 : ∀ p : Fin grid0.N, k0_off61 (grid0.coords p) = ![p.val % 2, 2048 * 0 + 2, 0] := by decide +kernel
theorem at62 : ∀ p : Fin grid0.N, k0_off62 (grid0.coords p) = ![p.val % 2, 2048 * 0 + 3, 0] := by decide +kernel
theorem at63 : ∀ p : Fin grid0.N, k0_off63 (grid0.coords p) = ![p.val % 2, 2048 * 0 + 4, 0] := by decide +kernel
theorem at64 : ∀ p : Fin grid0.N, k0_off64 (grid0.coords p) = ![p.val % 2, 2048 * 0 + 5, 0] := by decide +kernel
theorem at65 : ∀ p : Fin grid0.N, k0_off65 (grid0.coords p) = ![p.val % 2, 2048 * 0 + 6, 0] := by decide +kernel
theorem at66 : ∀ p : Fin grid0.N, k0_off66 (grid0.coords p) = ![p.val % 2, 2048 * 0 + 7, 0] := by decide +kernel
theorem at67 : ∀ p : Fin grid0.N, k0_off67 (grid0.coords p) = ![p.val % 2, 2048 * 1 + 0, 0] := by decide +kernel
theorem at68 : ∀ p : Fin grid0.N, k0_off68 (grid0.coords p) = ![p.val % 2, 2048 * 1 + 1, 0] := by decide +kernel
theorem at69 : ∀ p : Fin grid0.N, k0_off69 (grid0.coords p) = ![p.val % 2, 2048 * 1 + 2, 0] := by decide +kernel
theorem at70 : ∀ p : Fin grid0.N, k0_off70 (grid0.coords p) = ![p.val % 2, 2048 * 1 + 3, 0] := by decide +kernel
theorem at71 : ∀ p : Fin grid0.N, k0_off71 (grid0.coords p) = ![p.val % 2, 2048 * 1 + 4, 0] := by decide +kernel
theorem at72 : ∀ p : Fin grid0.N, k0_off72 (grid0.coords p) = ![p.val % 2, 2048 * 1 + 5, 0] := by decide +kernel
theorem at73 : ∀ p : Fin grid0.N, k0_off73 (grid0.coords p) = ![p.val % 2, 2048 * 1 + 6, 0] := by decide +kernel
theorem at74 : ∀ p : Fin grid0.N, k0_off74 (grid0.coords p) = ![p.val % 2, 2048 * 1 + 7, 0] := by decide +kernel
theorem at75 : ∀ p : Fin grid0.N, k0_off75 (grid0.coords p) = ![p.val % 2, 2048 * 2 + 0, 0] := by decide +kernel
theorem at76 : ∀ p : Fin grid0.N, k0_off76 (grid0.coords p) = ![p.val % 2, 2048 * 2 + 1, 0] := by decide +kernel
theorem at77 : ∀ p : Fin grid0.N, k0_off77 (grid0.coords p) = ![p.val % 2, 2048 * 2 + 2, 0] := by decide +kernel
theorem at78 : ∀ p : Fin grid0.N, k0_off78 (grid0.coords p) = ![p.val % 2, 2048 * 2 + 3, 0] := by decide +kernel
theorem at79 : ∀ p : Fin grid0.N, k0_off79 (grid0.coords p) = ![p.val % 2, 2048 * 2 + 4, 0] := by decide +kernel
theorem at80 : ∀ p : Fin grid0.N, k0_off80 (grid0.coords p) = ![p.val % 2, 2048 * 2 + 5, 0] := by decide +kernel
theorem at81 : ∀ p : Fin grid0.N, k0_off81 (grid0.coords p) = ![p.val % 2, 2048 * 2 + 6, 0] := by decide +kernel
theorem at82 : ∀ p : Fin grid0.N, k0_off82 (grid0.coords p) = ![p.val % 2, 2048 * 2 + 7, 0] := by decide +kernel
theorem at83 : ∀ p : Fin grid0.N, k0_off83 (grid0.coords p) = ![p.val % 2, 2048 * 3 + 0, 0] := by decide +kernel
theorem at84 : ∀ p : Fin grid0.N, k0_off84 (grid0.coords p) = ![p.val % 2, 2048 * 3 + 1, 0] := by decide +kernel
theorem at85 : ∀ p : Fin grid0.N, k0_off85 (grid0.coords p) = ![p.val % 2, 2048 * 3 + 2, 0] := by decide +kernel
theorem at86 : ∀ p : Fin grid0.N, k0_off86 (grid0.coords p) = ![p.val % 2, 2048 * 3 + 3, 0] := by decide +kernel
theorem at87 : ∀ p : Fin grid0.N, k0_off87 (grid0.coords p) = ![p.val % 2, 2048 * 3 + 4, 0] := by decide +kernel
theorem at88 : ∀ p : Fin grid0.N, k0_off88 (grid0.coords p) = ![p.val % 2, 2048 * 3 + 5, 0] := by decide +kernel
theorem at89 : ∀ p : Fin grid0.N, k0_off89 (grid0.coords p) = ![p.val % 2, 2048 * 3 + 6, 0] := by decide +kernel
theorem at90 : ∀ p : Fin grid0.N, k0_off90 (grid0.coords p) = ![p.val % 2, 2048 * 3 + 7, 0] := by decide +kernel
theorem at91 : ∀ p : Fin grid0.N, k0_off91 (grid0.coords p) = ![p.val % 2, 2048 * 4 + 0, 0] := by decide +kernel
theorem at92 : ∀ p : Fin grid0.N, k0_off92 (grid0.coords p) = ![p.val % 2, 2048 * 4 + 1, 0] := by decide +kernel
theorem at93 : ∀ p : Fin grid0.N, k0_off93 (grid0.coords p) = ![p.val % 2, 2048 * 4 + 2, 0] := by decide +kernel
theorem at94 : ∀ p : Fin grid0.N, k0_off94 (grid0.coords p) = ![p.val % 2, 2048 * 4 + 3, 0] := by decide +kernel
theorem at95 : ∀ p : Fin grid0.N, k0_off95 (grid0.coords p) = ![p.val % 2, 2048 * 4 + 4, 0] := by decide +kernel
theorem at96 : ∀ p : Fin grid0.N, k0_off96 (grid0.coords p) = ![p.val % 2, 2048 * 4 + 5, 0] := by decide +kernel
theorem at97 : ∀ p : Fin grid0.N, k0_off97 (grid0.coords p) = ![p.val % 2, 2048 * 4 + 6, 0] := by decide +kernel
theorem at98 : ∀ p : Fin grid0.N, k0_off98 (grid0.coords p) = ![p.val % 2, 2048 * 4 + 7, 0] := by decide +kernel
theorem at99 : ∀ p : Fin grid0.N, k0_off99 (grid0.coords p) = ![p.val % 2, 2048 * 5 + 0, 0] := by decide +kernel
theorem at100 : ∀ p : Fin grid0.N, k0_off100 (grid0.coords p) = ![p.val % 2, 2048 * 5 + 1, 0] := by decide +kernel
theorem at101 : ∀ p : Fin grid0.N, k0_off101 (grid0.coords p) = ![p.val % 2, 2048 * 5 + 2, 0] := by decide +kernel
theorem at102 : ∀ p : Fin grid0.N, k0_off102 (grid0.coords p) = ![p.val % 2, 2048 * 5 + 3, 0] := by decide +kernel
theorem at103 : ∀ p : Fin grid0.N, k0_off103 (grid0.coords p) = ![p.val % 2, 2048 * 5 + 4, 0] := by decide +kernel
theorem at104 : ∀ p : Fin grid0.N, k0_off104 (grid0.coords p) = ![p.val % 2, 2048 * 5 + 5, 0] := by decide +kernel
theorem at105 : ∀ p : Fin grid0.N, k0_off105 (grid0.coords p) = ![p.val % 2, 2048 * 5 + 6, 0] := by decide +kernel
theorem at106 : ∀ p : Fin grid0.N, k0_off106 (grid0.coords p) = ![p.val % 2, 2048 * 5 + 7, 0] := by decide +kernel
theorem at107 : ∀ p : Fin grid0.N, k0_off107 (grid0.coords p) = ![p.val % 2, 2048 * 6 + 0, 0] := by decide +kernel
theorem at108 : ∀ p : Fin grid0.N, k0_off108 (grid0.coords p) = ![p.val % 2, 2048 * 6 + 1, 0] := by decide +kernel
theorem at109 : ∀ p : Fin grid0.N, k0_off109 (grid0.coords p) = ![p.val % 2, 2048 * 6 + 2, 0] := by decide +kernel
theorem at110 : ∀ p : Fin grid0.N, k0_off110 (grid0.coords p) = ![p.val % 2, 2048 * 6 + 3, 0] := by decide +kernel
theorem at111 : ∀ p : Fin grid0.N, k0_off111 (grid0.coords p) = ![p.val % 2, 2048 * 6 + 4, 0] := by decide +kernel
theorem at112 : ∀ p : Fin grid0.N, k0_off112 (grid0.coords p) = ![p.val % 2, 2048 * 6 + 5, 0] := by decide +kernel
theorem at113 : ∀ p : Fin grid0.N, k0_off113 (grid0.coords p) = ![p.val % 2, 2048 * 6 + 6, 0] := by decide +kernel
theorem at114 : ∀ p : Fin grid0.N, k0_off114 (grid0.coords p) = ![p.val % 2, 2048 * 6 + 7, 0] := by decide +kernel
theorem at115 : ∀ p : Fin grid0.N, k0_off115 (grid0.coords p) = ![p.val % 2, 2048 * 7 + 0, 0] := by decide +kernel
theorem at116 : ∀ p : Fin grid0.N, k0_off116 (grid0.coords p) = ![p.val % 2, 2048 * 7 + 1, 0] := by decide +kernel
theorem at117 : ∀ p : Fin grid0.N, k0_off117 (grid0.coords p) = ![p.val % 2, 2048 * 7 + 2, 0] := by decide +kernel
theorem at118 : ∀ p : Fin grid0.N, k0_off118 (grid0.coords p) = ![p.val % 2, 2048 * 7 + 3, 0] := by decide +kernel
theorem at119 : ∀ p : Fin grid0.N, k0_off119 (grid0.coords p) = ![p.val % 2, 2048 * 7 + 4, 0] := by decide +kernel
theorem at120 : ∀ p : Fin grid0.N, k0_off120 (grid0.coords p) = ![p.val % 2, 2048 * 7 + 5, 0] := by decide +kernel
theorem at121 : ∀ p : Fin grid0.N, k0_off121 (grid0.coords p) = ![p.val % 2, 2048 * 7 + 6, 0] := by decide +kernel
theorem at122 : ∀ p : Fin grid0.N, k0_off122 (grid0.coords p) = ![p.val % 2, 2048 * 7 + 7, 0] := by decide +kernel

/-- The slots before point `k`. -/
def St (c : Dev nD) (w : ℕ → ℕ → ℕ) (Y : HbBuf (F := F) c) (k : ℕ) : sProp 𝕄 :=
  if k = 0 ∨ 64 ≤ k then iprop(free c Y 0 ∗ free c Y 1) else iprop(flight c (w k) Y (k % 2) ∗ free c Y ((k + 1) % 2))
/-- The other slot after point `k` has started its copies. -/
def Nx (c : Dev nD) (w : ℕ → ℕ → ℕ) (Y : HbBuf (F := F) c) (k : ℕ) : sProp 𝕄 :=
  if k + 1 < 64 then flight c (w (k + 1)) Y ((k + 1) % 2) else free c Y ((k + 1) % 2)

theorem St_end (c : Dev nD) (w : ℕ → ℕ → ℕ) (Y : HbBuf (F := F) c) {k : ℕ} (hk : k < 64) : iprop(free c Y (k % 2) ∗ Nx c w Y k) ⊢ St c w Y (k + 1) := by
  unfold Nx St
  by_cases h : k + 1 < 64
  · rw [if_pos h, if_neg (by omega), show (k + 1 + 1) % 2 = k % 2 by omega]
    iintro ⟨H1, H2⟩
    isplitl [H2]; · iexact H2
    iexact H1
  · rw [if_neg h, if_pos (by omega), show k % 2 = 1 by omega, show (k + 1) % 2 = 0 by omega]
    iintro ⟨H1, H2⟩
    isplitl [H2]; · iexact H2
    iexact H1

theorem stage1 (c : Dev nD) (p : Fin grid0.N) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole)
    (w : ℕ → ℕ → ℕ) (hw : ∀ k j, w k j < 163840) (x : Vec F S8x256 .i32) (hx : tab x = w p.val) (Y : HbBuf (F := F) c) {α : Type} {K : Prog (TpuEff nD τ sig (Elt F) Λ₀ .tc) α} {Q : α → sProp 𝕄} :
    iprop(owns (c : Thread nD τ) arg1 fullShare x ∗ St c w Y p.val)
    ⊢ iprop((iprop(owns (c : Thread nD τ) arg1 fullShare x ∗ flight c (w p.val) Y (p.val % 2) ∗ free c Y ((p.val + 1) % 2)) -∗ wp frame (wpE (defs₀ (F := F)) Variants.none (c : Thread nD τ) none) Set.univ K Q) -∗ wp frame (wpE (defs₀ (F := F)) Variants.none (c : Thread nD τ) none) Set.univ
        (if h : k0_cond1 (grid0.coords p) = 1#1 then do
            Scf.Loop.for k0_t1_loop (k0_t1_ok (grid0.coords p) h) ⟨⟩ (k0_t1_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h)
            K
          else K) Q) := by
  have hp : p.val < 64 := p.isLt
  unfold St
  by_cases h : k0_cond1 (grid0.coords p) = 1#1
  · have h0 := (hc1 p).mp h
    rw [dif_pos h, if_pos (Or.inl h0), wp_bind]
    rw [show p.val % 2 = 0 by omega, show (p.val + 1) % 2 = 1 by omega, ← hx]
    iintro ⟨H, H0, H1⟩ Hk
    icases (owns_open harg1 x) $$ H with ⟨%f, %hf, H⟩
    iapply (loop1 c p arg1 harg1 arg2 harg2 arg3 harg3 arg4 harg4 arg5 harg5 arg6 harg6 arg7 harg7 arg8 harg8 arg10 harg10 h x (fun j => by rw [hx]; exact hw _ j) Y hf) $$ [H H0]
    · isplitl [H]; · iexact H
      iexact H0
    iintro ⟨H, H0⟩
    iapply Hk
    isplitl [H]
    · iapply (owns_close harg1 hf); iexact H
    isplitl [H0]; · iexact H0
    iexact H1
  · have h0 : ¬ p.val = 0 := fun e => h ((hc1 p).mpr e)
    rw [dif_neg h, if_neg (by omega)]
    iintro ⟨H, HS⟩ Hk
    iapply Hk
    isplitl [H]; · iexact H
    iexact HS

theorem stage2 (c : Dev nD) (p : Fin grid0.N) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole)
    (w : ℕ → ℕ → ℕ) (hw : ∀ k j, w k j < 163840) (x : Vec F S8x256 .i32) (hx : p.val + 1 < 64 → tab x = w (p.val + 1)) (Y : HbBuf (F := F) c) {α : Type} {K : Prog (TpuEff nD τ sig (Elt F) Λ₀ .tc) α} {Q : α → sProp 𝕄} :
    iprop(owns (c : Thread nD τ) arg2 fullShare x ∗ free c Y ((p.val + 1) % 2))
    ⊢ iprop((iprop(owns (c : Thread nD τ) arg2 fullShare x ∗ Nx c w Y p.val) -∗ wp frame (wpE (defs₀ (F := F)) Variants.none (c : Thread nD τ) none) Set.univ K Q) -∗ wp frame (wpE (defs₀ (F := F)) Variants.none (c : Thread nD τ) none) Set.univ
        (if h : k0_cond2 (grid0.coords p) = 1#1 then do
            Scf.Loop.for k0_t2_loop (k0_t2_ok (grid0.coords p) h) ⟨⟩ (k0_t2_body (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1 h)
            K
          else K) Q) := by
  unfold Nx
  by_cases h : k0_cond2 (grid0.coords p) = 1#1
  · have h0 := (hc2 p).mp h
    rw [dif_pos h, if_pos h0, wp_bind, ← hx h0]
    iintro ⟨H, H0⟩ Hk
    icases (owns_open harg2 x) $$ H with ⟨%f, %hf, H⟩
    iapply (loop2 c p arg1 harg1 arg2 harg2 arg3 harg3 arg4 harg4 arg5 harg5 arg6 harg6 arg7 harg7 arg8 harg8 arg10 harg10 h x (fun j => by rw [hx h0]; exact hw _ j) Y hf) $$ [H H0]
    · isplitl [H]; · iexact H
      iexact H0
    iintro ⟨H, H0⟩
    iapply Hk
    isplitl [H]
    · iapply (owns_close harg2 hf); iexact H
    iexact H0
  · have h0 : ¬ p.val + 1 < 64 := fun e => h ((hc2 p).mpr e)
    rw [dif_neg h, if_neg h0]
    iintro ⟨H, H0⟩ Hk
    iapply Hk
    isplitl [H]; · iexact H
    iexact H0

end Cert.Kernel5Ideal.Gen

end
-- ==== Proof.CombRun.lean ====
/- The body of a grid point. -/
module

public import proofs.«01_k».proof.Proof.CombStage
public import Idealize.ShloMosaic.Lib.VecWindow

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (Batch shareTok shareDrop)

variable {F : FTy → Type} [FloatOps F]

local notation "𝕄" => MT nD τ sig Unit (Elt F) ℕ (Pipeline.UD sig nD τ) ℕ

/-- The block the body computes from its blocks and the slabs of the slot. -/
def outOf (x1 : Vec F S256x2048 .f32) (hsh : Vec F S256x512 .bf16) (ws2 : Vec F S512x2048 .bf16) (g : Vec F S256x8 .f32) (lg lb : Vec F S1x2048 .f32)
    (S : ℕ → ℕ → Vec F S1x256x128 .i32) : Vec F S256x2048 .f32 :=
  let l0 := k0_pay5 g (S 0 0) (S 0 1) (S 0 2) (S 0 3) (S 0 4) (S 0 5) (S 0 6) (S 0 7)
  let h0 := k0_pay6 g (S 0 0) (S 0 1) (S 0 2) (S 0 3) (S 0 4) (S 0 5) (S 0 6) (S 0 7)
  let l1 := k0_pay9 g l0 (S 1 0) (S 1 1) (S 1 2) (S 1 3) (S 1 4) (S 1 5) (S 1 6) (S 1 7)
  let h1 := k0_pay10 g h0 (S 1 0) (S 1 1) (S 1 2) (S 1 3) (S 1 4) (S 1 5) (S 1 6) (S 1 7)
  let l2 := k0_pay13 g l1 (S 2 0) (S 2 1) (S 2 2) (S 2 3) (S 2 4) (S 2 5) (S 2 6) (S 2 7)
  let h2 := k0_pay14 g h1 (S 2 0) (S 2 1) (S 2 2) (S 2 3) (S 2 4) (S 2 5) (S 2 6) (S 2 7)
  let l3 := k0_pay18 g l2 (k0_pay15 (S 3 0)) (S 3 1) (S 3 2) (S 3 3) (S 3 4) (S 3 5) (S 3 6) (S 3 7)
  let h3 := k0_pay19 g h2 (k0_pay15 (S 3 0)) (S 3 1) (S 3 2) (S 3 3) (S 3 4) (S 3 5) (S 3 6) (S 3 7)
  let l4 := k0_pay24 g l3 (k0_pay20 (S 4 0)) (k0_pay21 (S 4 1)) (S 4 2) (S 4 3) (S 4 4) (S 4 5) (S 4 6) (S 4 7)
  let h4 := k0_pay25 g h3 (k0_pay20 (S 4 0)) (k0_pay21 (S 4 1)) (S 4 2) (S 4 3) (S 4 4) (S 4 5) (S 4 6) (S 4 7)
  let l5 := k0_pay31 g l4 (k0_pay26 (S 5 0)) (k0_pay27 (S 5 1)) (k0_pay28 (S 5 2)) (S 5 3) (S 5 4) (S 5 5) (S 5 6) (S 5 7)
  let h5 := k0_pay32 g h4 (k0_pay26 (S 5 0)) (k0_pay27 (S 5 1)) (k0_pay28 (S 5 2)) (S 5 3) (S 5 4) (S 5 5) (S 5 6) (S 5 7)
  let l6 := k0_pay39 g l5 (k0_pay33 (S 6 0)) (k0_pay34 (S 6 1)) (k0_pay35 (S 6 2)) (k0_pay36 (S 6 3)) (S 6 4) (S 6 5) (S 6 6) (S 6 7)
  let h6 := k0_pay40 g h5 (k0_pay33 (S 6 0)) (k0_pay34 (S 6 1)) (k0_pay35 (S 6 2)) (k0_pay36 (S 6 3)) (S 6 4) (S 6 5) (S 6 6) (S 6 7)
  k0_pay1 (k0_pay45 lg) (k0_pay46 lb) (k0_pay47 (k0_pay2 x1 hsh ws2) g l6 h6 (k0_pay41 (S 7 0)) (k0_pay42 (S 7 1)) (k0_pay43 (S 7 2)) (k0_pay44 (S 7 3)) (S 7 4) (S 7 5) (S 7 6) (S 7 7)) (k0_pay48 (k0_pay2 x1 hsh ws2) g l6 h6 (k0_pay41 (S 7 0)) (k0_pay42 (S 7 1)) (k0_pay43 (S 7 2)) (k0_pay44 (S 7 3)) (S 7 4) (S 7 5) (S 7 6) (S 7 7))

set_option maxHeartbeats 4000000 in
theorem run (c : Dev nD) (p : Fin grid0.N) (arg1 : Memref sig .tc .smem S8x256 .i32) (harg1 : arg1.IsWhole) (arg2 : Memref sig .tc .smem S8x256 .i32) (harg2 : arg2.IsWhole) (arg3 : Memref sig .tc .vmem S256x2048 .f32) (harg3 : arg3.IsWhole) (arg4 : Memref sig .tc .vmem S256x512 .bf16) (harg4 : arg4.IsWhole) (arg5 : Memref sig .tc .vmem S512x2048 .bf16) (harg5 : arg5.IsWhole) (arg6 : Memref sig .tc .vmem S256x8 .f32) (harg6 : arg6.IsWhole) (arg7 : Memref sig .tc .vmem S1x2048 .f32) (harg7 : arg7.IsWhole) (arg8 : Memref sig .tc .vmem S1x2048 .f32) (harg8 : arg8.IsWhole) (arg10 : Memref sig .tc .vmem S256x2048 .f32) (harg10 : arg10.IsWhole)
    (w : ℕ → ℕ → ℕ) (hw : ∀ k j, w k j < 163840) (x1 x2 : Vec F S8x256 .i32) (hx1 : tab x1 = w p.val) (hx2 : p.val + 1 < 64 → tab x2 = w (p.val + 1))
    (x3 : Vec F S256x2048 .f32) (x4 : Vec F S256x512 .bf16) (x5 : Vec F S512x2048 .bf16) (x6 : Vec F S256x8 .f32) (x7 x8 : Vec F S1x2048 .f32) (X : Vec F S256x2048 .f32)
    (Y : HbBuf (F := F) c) (W : Waits sig Unit) {Q : PUnit → sProp 𝕄} :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare X ∗ St c w Y p.val ∗ owes (c : Thread nD τ) 0 W)
    ⊢ iprop((iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare (outOf x3 x4 x5 x6 x7 x8 (slab (w p.val) Y))
        ∗ St c w Y (p.val + 1) ∗ (∃ W', owes (c : Thread nD τ) 0 W')) -∗ Q ⟨⟩) -∗ wp frame (wpE (defs₀ (F := F)) Variants.none (c : Thread nD τ) none) Set.univ
        (cc0_moe_combine (grid0.coords p) arg1 harg1 arg2 harg2 arg3 harg3 arg4 harg4 arg5 harg5 arg6 harg6 arg7 harg7 arg8 harg8 (Memref.whole main_arg5) (Memref.isWhole_whole _) arg10 harg10 scM (Memref.isWhole_whole _) cc0_scratch1) Q) := by
  have hp : p.val < 64 := p.isLt
  rw [cc0_moe_combine_eq_skeleton]
  unfold cc0_moe_combine_skel
  rw [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part5_skel k0_part6_skel k0_part7_skel k0_part8_skel k0_part9_skel k0_part10_skel k0_part11_skel k0_part12_skel k0_part13_skel
  simp only [wp_bind]
  iintro ⟨H1, H2, H3, H4, H5, H6, H7, H8, H10, HS, HW⟩ Hk
  iapply (stage1 c p arg1 harg1 arg2 harg2 arg3 harg3 arg4 harg4 arg5 harg5 arg6 harg6 arg7 harg7 arg8 harg8 arg10 harg10 w hw x1 hx1 Y) $$ [H1 HS]
  · isplitl [H1]; · iexact H1
    iexact HS
  iintro ⟨H1, HM, HF⟩
  simp only [wp_bind]
  iapply (stage2 c p arg1 harg1 arg2 harg2 arg3 harg3 arg4 harg4 arg5 harg5 arg6 harg6 arg7 harg7 arg8 harg8 arg10 harg10 w hw x2 hx2 Y) $$ [H2 HF]
  · isplitl [H2]; · iexact H2
    iexact HF
  iintro ⟨H2, HN⟩
  simp only [wp_bind]
  iapply wp_ld $$ H3
  iintro H3
  iapply wp_ld $$ H4
  iintro H4
  iapply wp_ld $$ H5
  iintro H5
  iapply (wp_wait (s := p.val % 2) (Nat.mod_lt _ (by decide)) (at57 p)) $$ [HM HW]
  · isplitl [HM]; · iexact HM
    iexact HW
  iintro ⟨HL, HV, HB, HW⟩
  iapply wp_ld $$ H6
  iintro H6
  iapply wp_pure'
  iapply (wp_slab 0 0 (by decide) (by decide) (at59 p)) $$ HL
  iintro HL
  iapply (wp_slab 0 1 (by decide) (by decide) (at60 p)) $$ HL
  iintro HL
  iapply (wp_slab 0 2 (by decide) (by decide) (at61 p)) $$ HL
  iintro HL
  iapply (wp_slab 0 3 (by decide) (by decide) (at62 p)) $$ HL
  iintro HL
  iapply (wp_slab 0 4 (by decide) (by decide) (at63 p)) $$ HL
  iintro HL
  iapply (wp_slab 0 5 (by decide) (by decide) (at64 p)) $$ HL
  iintro HL
  iapply (wp_slab 0 6 (by decide) (by decide) (at65 p)) $$ HL
  iintro HL
  iapply (wp_slab 0 7 (by decide) (by decide) (at66 p)) $$ HL
  iintro HL
  iapply wp_pure'
  iapply (wp_slab 1 0 (by decide) (by decide) (at67 p)) $$ HL
  iintro HL
  iapply (wp_slab 1 1 (by decide) (by decide) (at68 p)) $$ HL
  iintro HL
  iapply (wp_slab 1 2 (by decide) (by decide) (at69 p)) $$ HL
  iintro HL
  iapply (wp_slab 1 3 (by decide) (by decide) (at70 p)) $$ HL
  iintro HL
  iapply (wp_slab 1 4 (by decide) (by decide) (at71 p)) $$ HL
  iintro HL
  iapply (wp_slab 1 5 (by decide) (by decide) (at72 p)) $$ HL
  iintro HL
  iapply (wp_slab 1 6 (by decide) (by decide) (at73 p)) $$ HL
  iintro HL
  iapply (wp_slab 1 7 (by decide) (by decide) (at74 p)) $$ HL
  iintro HL
  iapply (wp_slab 2 0 (by decide) (by decide) (at75 p)) $$ HL
  iintro HL
  iapply wp_pure'
  iapply (wp_slab 2 1 (by decide) (by decide) (at76 p)) $$ HL
  iintro HL
  iapply (wp_slab 2 2 (by decide) (by decide) (at77 p)) $$ HL
  iintro HL
  iapply (wp_slab 2 3 (by decide) (by decide) (at78 p)) $$ HL
  iintro HL
  iapply (wp_slab 2 4 (by decide) (by decide) (at79 p)) $$ HL
  iintro HL
  iapply (wp_slab 2 5 (by decide) (by decide) (at80 p)) $$ HL
  iintro HL
  iapply (wp_slab 2 6 (by decide) (by decide) (at81 p)) $$ HL
  iintro HL
  iapply (wp_slab 2 7 (by decide) (by decide) (at82 p)) $$ HL
  iintro HL
  iapply (wp_slab 3 0 (by decide) (by decide) (at83 p)) $$ HL
  iintro HL
  iapply wp_pure'
  iapply (wp_slab 3 1 (by decide) (by decide) (at84 p)) $$ HL
  iintro HL
  iapply (wp_slab 3 2 (by decide) (by decide) (at85 p)) $$ HL
  iintro HL
  iapply (wp_slab 3 3 (by decide) (by decide) (at86 p)) $$ HL
  iintro HL
  iapply (wp_slab 3 4 (by decide) (by decide) (at87 p)) $$ HL
  iintro HL
  iapply (wp_slab 3 5 (by decide) (by decide) (at88 p)) $$ HL
  iintro HL
  iapply (wp_slab 3 6 (by decide) (by decide) (at89 p)) $$ HL
  iintro HL
  iapply (wp_slab 3 7 (by decide) (by decide) (at90 p)) $$ HL
  iintro HL
  iapply (wp_slab 4 0 (by decide) (by decide) (at91 p)) $$ HL
  iintro HL
  iapply (wp_slab 4 1 (by decide) (by decide) (at92 p)) $$ HL
  iintro HL
  iapply wp_pure'
  iapply (wp_slab 4 2 (by decide) (by decide) (at93 p)) $$ HL
  iintro HL
  iapply (wp_slab 4 3 (by decide) (by decide) (at94 p)) $$ HL
  iintro HL
  iapply (wp_slab 4 4 (by decide) (by decide) (at95 p)) $$ HL
  iintro HL
  iapply (wp_slab 4 5 (by decide) (by decide) (at96 p)) $$ HL
  iintro HL
  iapply (wp_slab 4 6 (by decide) (by decide) (at97 p)) $$ HL
  iintro HL
  iapply (wp_slab 4 7 (by decide) (by decide) (at98 p)) $$ HL
  iintro HL
  iapply (wp_slab 5 0 (by decide) (by decide) (at99 p)) $$ HL
  iintro HL
  iapply (wp_slab 5 1 (by decide) (by decide) (at100 p)) $$ HL
  iintro HL
  iapply (wp_slab 5 2 (by decide) (by decide) (at101 p)) $$ HL
  iintro HL
  iapply wp_pure'
  iapply (wp_slab 5 3 (by decide) (by decide) (at102 p)) $$ HL
  iintro HL
  iapply (wp_slab 5 4 (by decide) (by decide) (at103 p)) $$ HL
  iintro HL
  iapply (wp_slab 5 5 (by decide) (by decide) (at104 p)) $$ HL
  iintro HL
  iapply (wp_slab 5 6 (by decide) (by decide) (at105 p)) $$ HL
  iintro HL
  iapply (wp_slab 5 7 (by decide) (by decide) (at106 p)) $$ HL
  iintro HL
  iapply (wp_slab 6 0 (by decide) (by decide) (at107 p)) $$ HL
  iintro HL
  iapply (wp_slab 6 1 (by decide) (by decide) (at108 p)) $$ HL
  iintro HL
  iapply (wp_slab 6 2 (by decide) (by decide) (at109 p)) $$ HL
  iintro HL
  iapply (wp_slab 6 3 (by decide) (by decide) (at110 p)) $$ HL
  iintro HL
  iapply wp_pure'
  iapply (wp_slab 6 4 (by decide) (by decide) (at111 p)) $$ HL
  iintro HL
  iapply (wp_slab 6 5 (by decide) (by decide) (at112 p)) $$ HL
  iintro HL
  iapply (wp_slab 6 6 (by decide) (by decide) (at113 p)) $$ HL
  iintro HL
  iapply (wp_slab 6 7 (by decide) (by decide) (at114 p)) $$ HL
  iintro HL
  iapply (wp_slab 7 0 (by decide) (by decide) (at115 p)) $$ HL
  iintro HL
  iapply (wp_slab 7 1 (by decide) (by decide) (at116 p)) $$ HL
  iintro HL
  iapply (wp_slab 7 2 (by decide) (by decide) (at117 p)) $$ HL
  iintro HL
  iapply (wp_slab 7 3 (by decide) (by decide) (at118 p)) $$ HL
  iintro HL
  iapply (wp_slab 7 4 (by decide) (by decide) (at119 p)) $$ HL
  iintro HL
  iapply wp_pure'
  iapply (wp_slab 7 5 (by decide) (by decide) (at120 p)) $$ HL
  iintro HL
  iapply (wp_slab 7 6 (by decide) (by decide) (at121 p)) $$ HL
  iintro HL
  iapply (wp_slab 7 7 (by decide) (by decide) (at122 p)) $$ HL
  iintro HL
  iapply wp_ld $$ H7
  iintro H7
  iapply wp_ld $$ H8
  iintro H8
  iapply wp_pure'
  iapply wp_ld $$ H10
  iintro H10
  iapply wp_st $$ H10
  iintro H10
  iapply wp_pure'
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitr [HW]
  · iapply (St_end c w Y hp)
    isplitr [HN]
    · unfold free
      isplitl [HL]
      · iexists _
        iexact HL
      isplitl [HV]; · iexact HV
      iexact HB
    · iexact HN
  · iexact HW

end Cert.Kernel5Ideal.Gen

end
-- ==== Proof.CombFrame.lean ====
/- The launch of the last call. -/
module

public import proofs.«01_k».proof.Proof.CombRun
public import Idealize.ShloMosaic.Lib.Claim
public import Idealize.ShloMosaic.Lib.Pointwise
public import Idealize.ShloMosaic.Lib.Pipeline.ValueKit

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Idealize.ShloMosaic.Transfers (Batch shareTok shareDrop)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The launch, at the resources of a body with copies of its own. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem held0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The row number copy `j` of point `k` reads. -/
def wt (c : Dev nD) (k j : ℕ) : ℕ :=
  BitVec.toNat (m ((c : Thread nD τ).loc main_arg3) (ValueIdx.ix2 (⟨j % 8, Nat.mod_lt _ (by decide)⟩ : Fin 8) (⟨(256 * k + j / 8 % 256) % 16384, Nat.mod_lt _ (by decide)⟩ : Fin 16384)))

theorem widx : ∀ t : Fin grid0.N, win0_0.index t = ![0, t.val] ∧ win0_1.index t = ![0, if t.val + 1 < 64 then t.val + 1 else 63] := by decide +kernel

theorem tab_0 (c : Dev nD) (t : Fin cfg0.N) : tab (iblk m c 0 t) = wt m c t.val := by
  have ht : t.val < 64 := lt_of_lt_of_eq t.isLt N_0
  funext j
  unfold tab wt
  obtain ⟨e0, -⟩ := widx t
  refine congrArg BitVec.toNat ?_
  refine Eq.trans ?_ (congrFun (V_main_arg3 m c) _)
  unfold iblk
  blk_simp [e0]
  refine congrArg (V m c main_arg3) (funext fun a => Fin.ext ?_)
  fin_cases a
  · blk_simp [e0]
  · blk_simp [e0]
    show t.val * 256 + j / 8 % 256 = (256 * t.val + j / 8 % 256) % 16384
    omega

theorem tab_1 (c : Dev nD) (t : Fin cfg0.N) (h : t.val + 1 < 64) : tab (iblk m c 1 t) = wt m c (t.val + 1) := by
  funext j
  unfold tab wt
  obtain ⟨-, e0⟩ := widx t
  rw [if_pos h] at e0
  refine congrArg BitVec.toNat ?_
  refine Eq.trans ?_ (congrFun (V_main_arg3 m c) _)
  unfold iblk
  blk_simp [e0]
  refine congrArg (V m c main_arg3) (funext fun a => Fin.ext ?_)
  fin_cases a
  · blk_simp [e0]
  · blk_simp [e0]
    show (t.val + 1) * 256 + j / 8 % 256 = (256 * (t.val + 1) + j / 8 % 256) % 16384
    omega

/-- The region invariant before point `k`. -/
def PhiC (c : Dev nD) (k : ℕ) : sProp 𝕄 := iprop((∃ r, prngReg c r) ∗ St c (wt m c) (V m c main_arg5) k)

/-- What point `t` leaves in the output's block. -/
def outAt (c : Dev nD) (t : Fin cfg0.N) : Vec F S256x2048 .f32 :=
  outOf (iblk m c 2 t) (iblk m c 3 t) (iblk m c 4 t) (iblk m c 5 t) (iblk m c 6 t) (iblk m c 7 t) (slab (wt m c t.val) (V m c main_arg5))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiC m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiC m c t.val := by
  dsimp only [dats]; simp only [Fin.coe_castSucc]
theorem Phi_succ (c : Dev nD) (t : Fin cfg0.N) : (dats m 0 c).Φ t.succ = PhiC m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem before0_0 (c : Dev nD) (t : Fin cfg0.N) (d) : (dats m 0 c).before 0 t d = iblk m c 0 t :=
  held0 m (dats m 0 c) (A_eq m c 0) (after0_0 m c) t d
theorem before0_1 (c : Dev nD) (t : Fin cfg0.N) (d) : (dats m 0 c).before 1 t d = iblk m c 1 t :=
  held1 m (dats m 0 c) (A_eq m c 1) (after0_1 m c) t d
theorem before0_2 (c : Dev nD) (t : Fin cfg0.N) (d) : (dats m 0 c).before 2 t d = iblk m c 2 t :=
  held2 m (dats m 0 c) (A_eq m c 2) (after0_2 m c) t d
theorem before0_3 (c : Dev nD) (t : Fin cfg0.N) (d) : (dats m 0 c).before 3 t d = iblk m c 3 t :=
  held3 m (dats m 0 c) (A_eq m c 3) (after0_3 m c) t d
theorem before0_4 (c : Dev nD) (t : Fin cfg0.N) (d) : (dats m 0 c).before 4 t d = iblk m c 4 t :=
  held4 m (dats m 0 c) (A_eq m c 4) (after0_4 m c) t d
theorem before0_5 (c : Dev nD) (t : Fin cfg0.N) (d) : (dats m 0 c).before 5 t d = iblk m c 5 t :=
  held5 m (dats m 0 c) (A_eq m c 5) (after0_5 m c) t d
theorem before0_6 (c : Dev nD) (t : Fin cfg0.N) (d) : (dats m 0 c).before 6 t d = iblk m c 6 t :=
  held6 m (dats m 0 c) (A_eq m c 6) (after0_6 m c) t d
theorem before0_7 (c : Dev nD) (t : Fin cfg0.N) (d) : (dats m 0 c).before 7 t d = iblk m c 7 t :=
  held7 m (dats m 0 c) (A_eq m c 7) (after0_7 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The row numbers in range. -/
def InRange (c : Dev nD) : Prop := ∀ i, BitVec.toNat (m ((c : Thread nD τ).loc main_arg3) i) < 163840

theorem sound_body (hm : ∀ c, InRange m c) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [after0_0, after0_1, after0_2, after0_3, after0_4, after0_5, after0_6, after0_7, after0_8]
  rw [Phi_castSucc m c t, Phi_succ m c t]
  unfold Dat.owesAt Pipeline.owesWithin
  rw [show (dats m 0 c).owed t.castSucc = 0 from rfl, show (dats m 0 c).owed t.succ = 0 from rfl]
  unfold PhiC outAt
  iintro ⟨⟨Hg, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7))
    _ (hstage0_8 ((cfg0.slots t 8).cast nbuf0_8)) (wt m c) (fun k j => hm c _) (iblk m c 0 t) (iblk m c 1 t) (tab_0 m c t) (tab_1 m c t)
    (iblk m c 2 t) (iblk m c 3 t) (iblk m c 4 t) (iblk m c 5 t) (iblk m c 6 t) (iblk m c 7 t) ((dats m 0 c).before 8 t d8) (V m c main_arg5) W) $$ [H0 H1 H2 H3 H4 H5 H6 H7 H8 HS HW]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iexact HW
  iintro ⟨H0, H1, H2, H3, H4, H5, H6, H7, H8, HS, ⟨%W', HW⟩⟩
  isplitl [Hg HS]
  · isplitl [Hg]; · iexact Hg
    iexact HS
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (hm : ∀ c, InRange m c) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
def H0 : Finset (Ref sig .tc) := {main_arg5}
theorem H0_sub : H0 ⊆ Pipeline.restRefs sig spec0 := by decide
theorem hbmPts0_eq (c : Dev nD) :
    (bigSep H0 (fun b => ((c : Thread nD τ).loc b) ↦{fullShare} V m c b) : sProp 𝕄) = iprop(hbM.view.loc (c : Thread nD τ) ↦{fullShare} (V m c main_arg5 : HbBuf (F := F) c)) := by
  rw [BI.bigSep_eq_bigSepL_of_eq [main_arg5] (by decide) (by decide)]; rfl
theorem PhiD0_eq (c : Dev nD) :
    (Pipeline.ΦD osem0 spec0 H0 (V m) c : sProp 𝕄)
      = iprop(iprop((∃ d : ScBuf (F := F) c, scM.view.loc (c : Thread nD τ) ↦{fullShare} d)) ∗ (∃ r, prngReg c r) ∗ iprop(semVal ((c : Thread nD τ), SemLoc.dma 15) 0 ∗ semVal ((c : Thread nD τ), SemLoc.dma 16) 0)
          ∗ iprop(hbM.view.loc (c : Thread nD τ) ↦{fullShare} (V m c main_arg5 : HbBuf (F := F) c))) := by
  rw [Pipeline.ΦD_eq, scopedRest0_eq, ownSems00_eq, hbmPts0_eq]; try rfl

def slotF (s : Fin 2) : Finset S2x16384x128.Idx := slotSet s.val
theorem slotF_disjoint (s s' : Fin 2) (h : s ≠ s') : Disjoint (slotF s) (slotF s') := by
  rw [Finset.disjoint_left]
  intro i h1 h2
  exact h (Fin.ext (((mem_slotSet _ _).mp h1).symm.trans ((mem_slotSet _ _).mp h2)))
theorem slotF_cover : Finset.univ.biUnion slotF = Finset.univ := by
  ext i
  refine ⟨fun _ => Finset.mem_univ _, fun _ => Finset.mem_biUnion.mpr ⟨⟨(i 0).val, (i 0).isLt⟩, Finset.mem_univ _, (mem_slotSet _ _).mpr rfl⟩⟩

theorem hin (c : Dev nD) : Pipeline.ΦD osem0 spec0 H0 (V m) c ⊢ (dats m 0 c).Φ 0 := by
  rw [PhiD0_eq, show (dats m 0 c).Φ 0 = PhiC m c 0 from rfl]
  unfold PhiC St free
  rw [if_pos (Or.inl rfl)]
  iintro ⟨HR, Hg, ⟨Hq0, Hq1⟩, Hh⟩
  isplitl [Hg]; · iexact Hg
  ihave HX := (Ring.slots2_split (U := Pipeline.UD sig nD τ) (Val := Elt F) (ℓ := scM.view.loc (c : Thread nD τ)) (q := fullShare) slotF slotF_disjoint slotF_cover
    (fun f => scM.view.loc (c : Thread nD τ) ↦[slotSet 0]{fullShare} f) (fun f => scM.view.loc (c : Thread nD τ) ↦[slotSet 1]{fullShare} f) (fun _ => rfl) (fun _ => rfl)) $$ HR
  icases HX with ⟨HA, HB⟩
  ihave HY := (pointsTo_share (PosShare.mem_left_op_right fullShare)).1 $$ Hh
  icases HY with ⟨HL, HR⟩
  isplitl [HA Hq0 HL]
  · isplitl [HA]; · iexact HA
    isplitl [Hq0]; · iexact Hq0
    iexact HL
  · isplitl [HB]; · iexact HB
    isplitl [Hq1]; · iexact Hq1
    iexact HR
theorem hout (c : Dev nD) : (dats m 0 c).Φ (Fin.last cfg0.N) ⊢ Pipeline.ΦD osem0 spec0 H0 (V m) c := by
  rw [PhiD0_eq, show (dats m 0 c).Φ (Fin.last cfg0.N) = PhiC m c grid0.N from rfl]
  unfold PhiC St free
  rw [show grid0.N = 64 by rw [N_0], if_pos (Or.inr (le_refl 64))]
  iintro ⟨Hg, ⟨HA, Hq0, HL⟩, ⟨HB, Hq1, HR⟩⟩
  isplitl [HA HB]
  · iapply (Ring.slots2_join (U := Pipeline.UD sig nD τ) (Val := Elt F) (ℓ := scM.view.loc (c : Thread nD τ)) (q := fullShare) slotF slotF_disjoint slotF_cover
      (fun f => scM.view.loc (c : Thread nD τ) ↦[slotSet 0]{fullShare} f) (fun f => scM.view.loc (c : Thread nD τ) ↦[slotSet 1]{fullShare} f) (fun _ => rfl) (fun _ => rfl))
    isplitl [HA]; · iexact HA
    iexact HB
  isplitl [Hg]; · iexact Hg
  isplitl [Hq0 Hq1]
  · isplitl [Hq0]; · iexact Hq0
    iexact Hq1
  iapply (pointsTo_share (PosShare.mem_left_op_right fullShare)).2
  isplitl [HL]; · iexact HL
  iexact HR

set_option backward.isDefEq.respectTransparency.types false in
/-- The launch: the arrays at the end, and every counter at zero. -/
theorem run_main_quiescent (hm : ∀ c, InRange m c) : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hm c).loose) (hq := fun _ _ _ => rfl)
    (howed := fun _ _ => rfl) (V := V m) (hmain := hmain' m Variants.none) (hA := A_eq m) (hin := hin m) (hout := hout m)

/-- The output array and the arguments at the end, and every counter at zero. -/
theorem run_blocks (hm : ∀ c, InRange m c) : θ_run defs (onTc (τ := τ) (main (F := F))) ⟨m, fun _ => 0, ρ⟩ (fun r => (∀ c : Dev nD,
      r.2.mem ((c.tc : Thread nD τ).loc main_v3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 8, ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).2 main_arg2 (Pipeline.mem_restRefs_of main_arg2 (by decide) (by decide))).trans (V_main_arg2 m c),
      ((h.1 c).1 1).trans (((dats m 0 c).arrAt_in 1 rfl _).trans ((A_eq m c 1).trans (V_main_arg3 m c))),
      ((h.1 c).1 5).trans (((dats m 0 c).arrAt_in 5 rfl _).trans ((A_eq m c 5).trans (V_main_arg4 m c))),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main_quiescent m ρ hm)

theorem frame_quiescent (hm : ∀ c, InRange m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_blocks m ρ hm)

end Cert.Kernel5Ideal.Gen

end
-- ==== Proof.CombPay.lean ====
/- The arithmetic of a grid point, at an element. -/
module

public import proofs.«01_k».proof.Proof.CombFrame
public import Idealize.ShloMosaic.PureOps.Ideal.Laws

@[expose] public section

set_option maxRecDepth 16384

noncomputable section

namespace Cert.Kernel5Ideal.Gen

open Idealize.ShloMosaic Idealize.ShloMosaic.TcCoe Idealize.SL.Sem

/-- The rows of slabs side by side, at a word. -/
theorem cat8_apply (S : ℕ → Vec Ideal S1x256x128 .i32) (r : Fin 256) (d : Fin 1024) :
    k0_pay3 (F := Ideal) (S 0) (S 1) (S 2) (S 3) (S 4) (S 5) (S 6) (S 7) (ix2 r d) = S (d.val / 128) (ix3 (0 : Fin 1) r (⟨d.val % 128, Nat.mod_lt _ (by decide)⟩ : Fin 128)) := by
  have key : ∀ (e : ℕ) (b : Fin 128), d.val = 128 * e + b.val →
      S e (ix3 (0 : Fin 1) r b) = S (d.val / 128) (ix3 (0 : Fin 1) r (⟨d.val % 128, Nat.mod_lt _ (by decide)⟩ : Fin 128)) := by
    intro e b h
    have h1 : e = d.val / 128 := by omega
    have h2 : b = (⟨d.val % 128, Nat.mod_lt _ (by decide)⟩ : Fin 128) := Fin.ext (by show b.val = d.val % 128; omega)
    rw [← h1, ← h2]
  have hd := d.isLt
  pointwise [k0_pay3]
  by_cases h0 : d.val < 128
  · exact (dif_pos h0).trans (key 0 ⟨d.val, h0⟩ (by show d.val = 128 * 0 + (d.val); omega))
  refine (dif_neg h0).trans ?_
  by_cases h1 : d.val - 128 < 128
  · exact (dif_pos h1).trans (key 1 ⟨d.val - 128, h1⟩ (by show d.val = 128 * 1 + (d.val - 128); omega))
  refine (dif_neg h1).trans ?_
  by_cases h2 : d.val - 128 - 128 < 128
  · exact (dif_pos h2).trans (key 2 ⟨d.val - 128 - 128, h2⟩ (by show d.val = 128 * 2 + (d.val - 128 - 128); omega))
  refine (dif_neg h2).trans ?_
  by_cases h3 : d.val - 128 - 128 - 128 < 128
  · exact (dif_pos h3).trans (key 3 ⟨d.val - 128 - 128 - 128, h3⟩ (by show d.val = 128 * 3 + (d.val - 128 - 128 - 128); omega))
  refine (dif_neg h3).trans ?_
  by_cases h4 : d.val - 128 - 128 - 128 - 128 < 128
  · exact (dif_pos h4).trans (key 4 ⟨d.val - 128 - 128 - 128 - 128, h4⟩ (by show d.val = 128 * 4 + (d.val - 128 - 128 - 128 - 128); omega))
  refine (dif_neg h4).trans ?_
  by_cases h5 : d.val - 128 - 128 - 128 - 128 - 128 < 128
  · exact (dif_pos h5).trans (key 5 ⟨d.val - 128 - 128 - 128 - 128 - 128, h5⟩ (by show d.val = 128 * 5 + (d.val - 128 - 128 - 128 - 128 - 128); omega))
  refine (dif_neg h5).trans ?_
  by_cases h6 : d.val - 128 - 128 - 128 - 128 - 128 - 128 < 128
  · exact (dif_pos h6).trans (key 6 ⟨d.val - 128 - 128 - 128 - 128 - 128 - 128, h6⟩ (by show d.val = 128 * 6 + (d.val - 128 - 128 - 128 - 128 - 128 - 128); omega))
  refine (dif_neg h6).trans ?_
  exact key 7 ⟨d.val - 128 - 128 - 128 - 128 - 128 - 128 - 128, by omega⟩ (by show d.val = 128 * 7 + (d.val - 128 - 128 - 128 - 128 - 128 - 128 - 128); omega)

/-- A word's low half as a float, -/
def loW (w : BitVec 32) : Ideal .f32 := Ideal.ofBits .f32 (IntOp.shli .vector w 16#32)
/-- and its high half. -/
def hiW (w : BitVec 32) : Ideal .f32 := Ideal.ofBits .f32 (IntOp.andi w 4294901760#32)

/-- The words of a row of slabs. -/
def wordOf (S : ℕ → Vec Ideal S1x256x128 .i32) (r : Fin 256) (d : Fin 1024) : BitVec 32 :=
  S (d.val / 128) (ix3 (0 : Fin 1) r (⟨d.val % 128, Nat.mod_lt _ (by decide)⟩ : Fin 128))

theorem low0 (g : Vec Ideal S256x8 .f32) (S : ℕ → Vec Ideal S1x256x128 .i32) (r : Fin 256) (d : Fin 1024) :
    k0_pay5 (F := Ideal) g (S 0) (S 1) (S 2) (S 3) (S 4) (S 5) (S 6) (S 7) (ix2 r d) = g (ix2 r 0) * loW (wordOf S r d) := by
  unfold wordOf loW
  rw [← cat8_apply S r d]
  unfold k0_pay5
  pointwise [k0_pay4]
  try rfl

theorem high0 (g : Vec Ideal S256x8 .f32) (S : ℕ → Vec Ideal S1x256x128 .i32) (r : Fin 256) (d : Fin 1024) :
    k0_pay6 (F := Ideal) g (S 0) (S 1) (S 2) (S 3) (S 4) (S 5) (S 6) (S 7) (ix2 r d) = g (ix2 r 0) * hiW (wordOf S r d) := by
  unfold wordOf hiW
  rw [← cat8_apply S r d]
  unfold k0_pay6
  pointwise [k0_pay4]
  try rfl

theorem low1 (g : Vec Ideal S256x8 .f32) (a : FVec Ideal S256x1024 .f32) (S : ℕ → Vec Ideal S1x256x128 .i32) (r : Fin 256) (d : Fin 1024) :
    k0_pay9 (F := Ideal) g a (S 0) (S 1) (S 2) (S 3) (S 4) (S 5) (S 6) (S 7) (ix2 r d) = a (ix2 r d) + g (ix2 r 1) * loW (wordOf S r d) := by
  unfold wordOf loW
  rw [← cat8_apply S r d]
  unfold k0_pay9
  pointwise [k0_pay8]
  try rfl

theorem high1 (g : Vec Ideal S256x8 .f32) (a : FVec Ideal S256x1024 .f32) (S : ℕ → Vec Ideal S1x256x128 .i32) (r : Fin 256) (d : Fin 1024) :
    k0_pay10 (F := Ideal) g a (S 0) (S 1) (S 2) (S 3) (S 4) (S 5) (S 6) (S 7) (ix2 r d) = a (ix2 r d) + g (ix2 r 1) * hiW (wordOf S r d) := by
  unfold wordOf hiW
  rw [← cat8_apply S r d]
  unfold k0_pay10
  pointwise [k0_pay8]
  try rfl

theorem low2 (g : Vec Ideal S256x8 .f32) (a : FVec Ideal S256x1024 .f32) (S : ℕ → Vec Ideal S1x256x128 .i32) (r : Fin 256) (d : Fin 1024) :
    k0_pay13 (F := Ideal) g a (S 0) (S 1) (S 2) (S 3) (S 4) (S 5) (S 6) (S 7) (ix2 r d) = a (ix2 r d) + g (ix2 r 2) * loW (wordOf S r d) := by
  unfold wordOf loW
  rw [← cat8_apply S r d]
  unfold k0_pay13
  pointwise [k0_pay12]
  try rfl

theorem high2 (g : Vec Ideal S256x8 .f32) (a : FVec Ideal S256x1024 .f32) (S : ℕ → Vec Ideal S1x256x128 .i32) (r : Fin 256) (d : Fin 1024) :
    k0_pay14 (F := Ideal) g a (S 0) (S 1) (S 2) (S 3) (S 4) (S 5) (S 6) (S 7) (ix2 r d) = a (ix2 r d) + g (ix2 r 2) * hiW (wordOf S r d) := by
  unfold wordOf hiW
  rw [← cat8_apply S r d]
  unfold k0_pay14
  pointwise [k0_pay12]
  try rfl

theorem low3 (g : Vec Ideal S256x8 .f32) (a : FVec Ideal S256x1024 .f32) (S : ℕ → Vec Ideal S1x256x128 .i32) (r : Fin 256) (d : Fin 1024) :
    k0_pay18 (F := Ideal) g a (k0_pay15 (S 0)) (S 1) (S 2) (S 3) (S 4) (S 5) (S 6) (S 7) (ix2 r d) = a (ix2 r d) + g (ix2 r 3) * loW (wordOf S r d) := by
  unfold wordOf loW
  rw [← cat8_apply S r d]
  unfold k0_pay18
  pointwise [k0_pay17]
  try rfl

theorem high3 (g : Vec Ideal S256x8 .f32) (a : FVec Ideal S256x1024 .f32) (S : ℕ → Vec Ideal S1x256x128 .i32) (r : Fin 256) (d : Fin 1024) :
    k0_pay19 (F := Ideal) g a (k0_pay15 (S 0)) (S 1) (S 2) (S 3) (S 4) (S 5) (S 6) (S 7) (ix2 r d) = a (ix2 r d) + g (ix2 r 3) * hiW (wordOf S r d) := by
  unfold wordOf hiW
  rw [← cat8_apply S r d]
  unfold k0_pay19
  pointwise [k0_pay17]
  try rfl

theorem low4 (g : Vec Ideal S256x8 .f32) (a : FVec Ideal S256x1024 .f32) (S : ℕ → Vec Ideal S1x256x128 .i32) (r : Fin 256) (d : Fin 1024) :
    k0_pay24 (F := Ideal) g a (k0_pay20 (S 0)) (k0_pay21 (S 1)) (S 2) (S 3) (S 4) (S 5) (S 6) (S 7) (ix2 r d) = a (ix2 r d) + g (ix2 r 4) * loW (wordOf S r d) := by
  unfold wordOf loW
  rw [← cat8_apply S r d]
  unfold k0_pay24
  pointwise [k0_pay23]
  try rfl

theorem high4 (g : Vec Ideal S256x8 .f32) (a : FVec Ideal S256x1024 .f32) (S : ℕ → Vec Ideal S1x256x128 .i32) (r : Fin 256) (d : Fin 1024) :
    k0_pay25 (F := Ideal) g a (k0_pay20 (S 0)) (k0_pay21 (S 1)) (S 2) (S 3) (S 4) (S 5) (S 6) (S 7) (ix2 r d) = a (ix2 r d) + g (ix2 r 4) * hiW (wordOf S r d) := by
  unfold wordOf hiW
  rw [← cat8_apply S r d]
  unfold k0_pay25
  pointwise [k0_pay23]
  try rfl

theorem low5 (g : Vec Ideal S256x8 .f32) (a : FVec Ideal S256x1024 .f32) (S : ℕ → Vec Ideal S1x256x128 .i32) (r : Fin 256) (d : Fin 1024) :
    k0_pay31 (F := Ideal) g a (k0_pay26 (S 0)) (k0_pay27 (S 1)) (k0_pay28 (S 2)) (S 3) (S 4) (S 5) (S 6) (S 7) (ix2 r d) = a (ix2 r d) + g (ix2 r 5) * loW (wordOf S r d) := by
  unfold wordOf loW
  rw [← cat8_apply S r d]
  unfold k0_pay31
  pointwise [k0_pay30]
  try rfl

theorem high5 (g : Vec Ideal S256x8 .f32) (a : FVec Ideal S256x1024 .f32) (S : ℕ → Vec Ideal S1x256x128 .i32) (r : Fin 256) (d : Fin 1024) :
    k0_pay32 (F := Ideal) g a (k0_pay26 (S 0)) (k0_pay27 (S 1)) (k0_pay28 (S 2)) (S 3) (S 4) (S 5) (S 6) (S 7) (ix2 r d) = a (ix2 r d) + g (ix2 r 5) * hiW (wordOf S r d) := by
  unfold wordOf hiW
  rw [← cat8_apply S r d]
  unfold k0_pay32
  pointwise [k0_pay30]
  try rfl

theorem low6 (g : Vec Ideal S256x8 .f32) (a : FVec Ideal S256x1024 .f32) (S : ℕ → Vec Ideal S1x256x128 .i32) (r : Fin 256) (d : Fin 1024) :
    k0_pay39 (F := Ideal) g a (k0_pay33 (S 0)) (k0_pay34 (S 1)) (k0_pay35 (S 2)) (k0_pay36 (S 3)) (S 4) (S 5) (S 6) (S 7) (ix2 r d) = a (ix2 r d) + g (ix2 r 6) * loW (wordOf S r d) := by
  unfold wordOf loW
  rw [← cat8_apply S r d]
  unfold k0_pay39
  pointwise [k0_pay38]
  try rfl

theorem high6 (g : Vec Ideal S256x8 .f32) (a : FVec Ideal S256x1024 .f32) (S : ℕ → Vec Ideal S1x256x128 .i32) (r : Fin 256) (d : Fin 1024) :
    k0_pay40 (F := Ideal) g a (k0_pay33 (S 0)) (k0_pay34 (S 1)) (k0_pay35 (S 2)) (k0_pay36 (S 3)) (S 4) (S 5) (S 6) (S 7) (ix2 r d) = a (ix2 r d) + g (ix2 r 6) * hiW (wordOf S r d) := by
  unfold wordOf hiW
  rw [← cat8_apply S r d]
  unfold k0_pay40
  pointwise [k0_pay38]
  try rfl

theorem base_apply (x1 : Vec Ideal S256x2048 .f32) (hsh : Vec Ideal S256x512 .bf16) (ws2 : Vec Ideal S512x2048 .bf16) (r : Fin 256) (d : Fin 2048) :
    k0_pay2 (F := Ideal) x1 hsh ws2 (ix2 r d) = Ideal.ofBits FTy.f32 1066940400#32 * x1 (ix2 r d) + ∑ k : Fin 512, hsh (ix2 r k) * ws2 (ix2 k d) := by
  pointwise [k0_pay2]

/-- The last of the eight added, and the halves joined. -/
def fOf (g : Vec Ideal S256x8 .f32) (l h : FVec Ideal S256x1024 .f32) (S : ℕ → Vec Ideal S1x256x128 .i32) : FVec Ideal S256x2048 .f32 :=
  have v323 : IVec S256x1024 32 := k0_pay3 (F := Ideal) (S 0) (S 1) (S 2) (S 3) (S 4) (S 5) (S 6) (S 7)
  have v326 : FVec Ideal S256x1024 .f32 := bitcastToFloat .f32 (shli v323 (broadcast S256x1024 16#32))
  have v329 : FVec Ideal S256x1024 .f32 := bitcastToFloat .f32 (andi v323 (broadcast S256x1024 4294901760#32))
  have v330 : FVec Ideal S256x1 .f32 := extractStridedSlice S256x1 ![0, 7] g slices_S256x8_o0_7_S256x1
  have v333 : FVec Ideal S256x1024 .f32 := addf l (mulf (broadcastTo S256x1024 v330 broadcasts_S256x1_S256x1024) v326)
  have v336 : FVec Ideal S256x1024 .f32 := addf h (mulf (broadcastTo S256x1024 v330 broadcasts_S256x1_S256x1024) v329)
  concatenate S256x2048 1 [⟨S256x1024, v333⟩, ⟨S256x1024, v336⟩] concatenates_S256x1024_S256x1024_S256x2048_d1

theorem fOf_apply (g : Vec Ideal S256x8 .f32) (l h : FVec Ideal S256x1024 .f32) (S : ℕ → Vec Ideal S1x256x128 .i32) (r : Fin 256) (d : Fin 2048) :
    fOf g l h S (ix2 r d) = if hd : d.val < 1024 then l (ix2 r ⟨d.val, hd⟩) + g (ix2 r 7) * loW (wordOf S r ⟨d.val, hd⟩)
      else h (ix2 r ⟨d.val - 1024, by have := d.isLt; omega⟩) + g (ix2 r 7) * hiW (wordOf S r ⟨d.val - 1024, by have := d.isLt; omega⟩) := by
  unfold fOf
  pointwise []
  by_cases h1 : d.val < 1024
  · rw [dif_pos h1, dif_pos h1]
    unfold wordOf loW
    rw [← cat8_apply S r ⟨d.val, h1⟩]
    try rfl
  · rw [dif_neg h1, dif_neg h1]
    unfold wordOf hiW
    rw [← cat8_apply S r ⟨d.val - 1024, by have := d.isLt; omega⟩]
    try rfl

/-- The layer norm of a block's rows. -/
def lnOf (lg lb : Vec Ideal S1x2048 .f32) (v : FVec Ideal S256x2048 .f32) : Vec Ideal S256x2048 .f32 :=
  have v343 : FVec Ideal S256 .f32 := multiReduction .add [1] S256 v 0x00000000#32 reduces_S256x2048_S256 (.inl rfl) rfl
  have v344 : FVec Ideal S256x1 .f32 := shapeCast S256x1 v343 shapeCasts_S256_S256x1
  have v346 : FVec Ideal S256x1 .f32 := divf v344 (broadcast S256x1 (Scalar.ofBits (F := Ideal) .f32 0x45000000#32))
  have v348 : FVec Ideal S256x2048 .f32 := subf v (broadcastTo S256x2048 v346 broadcasts_S256x1_S256x2048)
  have v350 : FVec Ideal S256 .f32 := multiReduction .add [1] S256 (mulf v348 v348) 0x00000000#32 reduces_S256x2048_S256 (.inl rfl) rfl
  have v351 : FVec Ideal S256x1 .f32 := shapeCast S256x1 v350 shapeCasts_S256_S256x1
  have v353 : FVec Ideal S256x1 .f32 := divf v351 (broadcast S256x1 (Scalar.ofBits (F := Ideal) .f32 0x45000000#32))
  have v355 : FVec Ideal S256x1 .f32 := addf v353 (broadcast S256x1 (Scalar.ofBits (F := Ideal) .f32 0x3727C5AC#32))
  k0_pay1 (F := Ideal) (k0_pay45 lg) (k0_pay46 lb) v348 v355

/-- The mean of a row. -/
def meanOf (v : Fin 2048 → Ideal .f32) : Ideal .f32 := Ideal.div (∑ x, v x) (Ideal.ofBits FTy.f32 1157627904#32)
/-- The layer norm of a row, at a column. -/
def normOf (g b : Ideal .f32) (v : Fin 2048 → Ideal .f32) (d : Fin 2048) : Ideal .f32 :=
  (v d - meanOf v) * Ideal.rsqrt (meanOf (fun x => (v x - meanOf v) * (v x - meanOf v)) + Ideal.ofBits FTy.f32 925353388#32) * g + b

theorem ln_apply (lg lb : Vec Ideal S1x2048 .f32) (v : FVec Ideal S256x2048 .f32) (r : Fin 256) (d : Fin 2048) :
    lnOf lg lb v (ix2 r d) = normOf (lg (ix2 (0 : Fin 1) d)) (lb (ix2 (0 : Fin 1) d)) (fun x => v (ix2 r x)) d := by
  unfold lnOf
  pointwise [k0_pay1, k0_pay45, k0_pay46]
  try rfl

/-- The eight rows, weighed and added, and the halves joined. -/
def routedOf (g : Vec Ideal S256x8 .f32) (S : ℕ → ℕ → Vec Ideal S1x256x128 .i32) : FVec Ideal S256x2048 .f32 :=
  let l0 := k0_pay5 (F := Ideal) g (S 0 0) (S 0 1) (S 0 2) (S 0 3) (S 0 4) (S 0 5) (S 0 6) (S 0 7)
  let h0 := k0_pay6 (F := Ideal) g (S 0 0) (S 0 1) (S 0 2) (S 0 3) (S 0 4) (S 0 5) (S 0 6) (S 0 7)
  let l1 := k0_pay9 (F := Ideal) g l0 (S 1 0) (S 1 1) (S 1 2) (S 1 3) (S 1 4) (S 1 5) (S 1 6) (S 1 7)
  let h1 := k0_pay10 (F := Ideal) g h0 (S 1 0) (S 1 1) (S 1 2) (S 1 3) (S 1 4) (S 1 5) (S 1 6) (S 1 7)
  let l2 := k0_pay13 (F := Ideal) g l1 (S 2 0) (S 2 1) (S 2 2) (S 2 3) (S 2 4) (S 2 5) (S 2 6) (S 2 7)
  let h2 := k0_pay14 (F := Ideal) g h1 (S 2 0) (S 2 1) (S 2 2) (S 2 3) (S 2 4) (S 2 5) (S 2 6) (S 2 7)
  let l3 := k0_pay18 (F := Ideal) g l2 (k0_pay15 (S 3 0)) (S 3 1) (S 3 2) (S 3 3) (S 3 4) (S 3 5) (S 3 6) (S 3 7)
  let h3 := k0_pay19 (F := Ideal) g h2 (k0_pay15 (S 3 0)) (S 3 1) (S 3 2) (S 3 3) (S 3 4) (S 3 5) (S 3 6) (S 3 7)
  let l4 := k0_pay24 (F := Ideal) g l3 (k0_pay20 (S 4 0)) (k0_pay21 (S 4 1)) (S 4 2) (S 4 3) (S 4 4) (S 4 5) (S 4 6) (S 4 7)
  let h4 := k0_pay25 (F := Ideal) g h3 (k0_pay20 (S 4 0)) (k0_pay21 (S 4 1)) (S 4 2) (S 4 3) (S 4 4) (S 4 5) (S 4 6) (S 4 7)
  let l5 := k0_pay31 (F := Ideal) g l4 (k0_pay26 (S 5 0)) (k0_pay27 (S 5 1)) (k0_pay28 (S 5 2)) (S 5 3) (S 5 4) (S 5 5) (S 5 6) (S 5 7)
  let h5 := k0_pay32 (F := Ideal) g h4 (k0_pay26 (S 5 0)) (k0_pay27 (S 5 1)) (k0_pay28 (S 5 2)) (S 5 3) (S 5 4) (S 5 5) (S 5 6) (S 5 7)
  let l6 := k0_pay39 (F := Ideal) g l5 (k0_pay33 (S 6 0)) (k0_pay34 (S 6 1)) (k0_pay35 (S 6 2)) (k0_pay36 (S 6 3)) (S 6 4) (S 6 5) (S 6 6) (S 6 7)
  let h6 := k0_pay40 (F := Ideal) g h5 (k0_pay33 (S 6 0)) (k0_pay34 (S 6 1)) (k0_pay35 (S 6 2)) (k0_pay36 (S 6 3)) (S 6 4) (S 6 5) (S 6 6) (S 6 7)
  fOf g l6 h6 (S 7)

theorem outOf_eq (x1 : Vec Ideal S256x2048 .f32) (hsh : Vec Ideal S256x512 .bf16) (ws2 : Vec Ideal S512x2048 .bf16) (g : Vec Ideal S256x8 .f32) (lg lb : Vec Ideal S1x2048 .f32)
    (S : ℕ → ℕ → Vec Ideal S1x256x128 .i32) :
    outOf (F := Ideal) x1 hsh ws2 g lg lb S = lnOf lg lb (addf (k0_pay2 (F := Ideal) x1 hsh ws2) (routedOf g S)) := rfl

theorem routedOf_apply (g : Vec Ideal S256x8 .f32) (S : ℕ → ℕ → Vec Ideal S1x256x128 .i32) (r : Fin 256) (d : Fin 2048) :
    routedOf g S (ix2 r d) = ∑ k : Fin 8, g (ix2 r k) * (if hd : d.val < 1024 then loW (wordOf (S k.val) r ⟨d.val, hd⟩)
      else hiW (wordOf (S k.val) r ⟨d.val - 1024, by have := d.isLt; omega⟩)) := by
  unfold routedOf
  rw [fOf_apply, Fin.sum_univ_eight]
  split_ifs with hd
  · rw [low6, low5, low4, low3, low2, low1, low0]; rfl
  · rw [high6, high5, high4, high3, high2, high1, high0]; rfl

end Cert.Kernel5Ideal.Gen

end
-- ==== Proof.CombRead.lean ====
/- The reference of the layer's last call, element by element. -/
module

public import proofs.«01_k».proof.Proof.CombPay
public import proofs.«01_k».proof.Proof.Gen.Reference5Ideal.Run
public import proofs.«01_k».proof.Proof.Gen.Reference5Ideal.Read

@[expose] public section

set_option maxRecDepth 16384

noncomputable section

namespace Cert.Reference5Ideal.Read

open Cert.Reference5Ideal Cert.Reference5Ideal.Gen Idealize.ShloMosaic Idealize.ShloMosaic.TcCoe Idealize.SL.Sem
open Cert.Kernel5Ideal.Gen (loW hiW meanOf normOf)

theorem words (x5 : (⟨S1310720x128, .i32⟩ : BufTy).Contents (Elt Ideal)) (p : Fin 163840) (d : Fin 1024) :
    val_main_v0 (F := Ideal) x5 (ix2 p d) = x5 (ix2 (⟨p.val * 8 + d.val / 128, by have := p.isLt; have := d.isLt; omega⟩ : Fin 1310720) (⟨d.val % 128, Nat.mod_lt _ (by decide)⟩ : Fin 128)) := by
  rw [val_main_v0_apply]
  refine congrArg x5 (funext fun a => Fin.ext ?_)
  match a with
  | ⟨0, _⟩ => show (p.val * 1024 + d.val) / 128 = p.val * 8 + d.val / 128; omega
  | ⟨1, _⟩ => show (p.val * 1024 + d.val) % 128 = d.val % 128; omega

theorem shl_eq (w : BitVec 32) : IntOp.shli ArithUnit.host w 16#32 = IntOp.shli ArithUnit.vector w 16#32 := by
  unfold IntOp.shli
  rw [if_pos (by decide), if_pos (by decide)]

theorem halves (x5 : (⟨S1310720x128, .i32⟩ : BufTy).Contents (Elt Ideal)) (p : Fin 163840) (d : Fin 2048) :
    val_main_v7 (F := Ideal) x5 (ix2 p d) = if hd : d.val < 1024 then loW (val_main_v0 (F := Ideal) x5 (ix2 p (⟨d.val, hd⟩ : Fin 1024)))
      else hiW (val_main_v0 (F := Ideal) x5 (ix2 p (⟨d.val - 1024, by have := d.isLt; omega⟩ : Fin 1024))) := by
  pointwise [val_main_v7, val_main_v6, val_main_v5, val_main_v4, val_main_v3, val_main_v2, val_main_v1, val_main_c, val_main_c_0]
  by_cases h1 : d.val < 1024
  · rw [dif_pos h1, dif_pos h1]
    unfold loW
    rw [← shl_eq]
  · rw [dif_neg h1, dif_neg h1]
    rfl

/-- A word in range is its own row number. -/
theorem toInt_of_range (w : BitVec 32) (h : w.toNat < 163840) : w.toInt = (w.toNat : Int) :=
  BitVec.toInt_eq_toNat_of_lt (by omega)

theorem rows (x3 : (⟨S8x16384, .i32⟩ : BufTy).Contents (Elt Ideal)) (k : Fin 8) (n : Fin 16384) (h : BitVec.toNat (x3 (ix2 k n)) < 163840) :
    val_main_v15 (F := Ideal) x3 (ix3 k n (0 : Fin 1)) = x3 (ix2 k n) := by
  pointwise [val_main_v15, val_main_v14, val_main_v13, val_main_v12, val_main_v11, val_main_v10, val_main_c_1, val_main_c_2]
  have h0 : IntOp.cmpi CmpIPredicate.slt (x3 (ix2 k n)) 0#32 = 0#1 := ValueIdx.eq_zero_of_ne_one fun e => by
    have := IntOp.cmpi_slt.mp e
    rw [toInt_of_range _ h] at this
    have e0 : (0#32 : BitVec 32).toInt = 0 := by decide
    rw [e0] at this
    omega
  rw [h0]
  rfl

theorem taken (x3 : (⟨S8x16384, .i32⟩ : BufTy).Contents (Elt Ideal)) (x5 : (⟨S1310720x128, .i32⟩ : BufTy).Contents (Elt Ideal)) (k : Fin 8) (n : Fin 16384) (d : Fin 2048) (h : BitVec.toNat (x3 (ix2 k n)) < 163840) :
    val_main_v16 (F := Ideal) x3 x5 (ix3 k n d) = val_main_v7 (F := Ideal) x5 (ix2 (⟨BitVec.toNat (x3 (ix2 k n)), h⟩ : Fin 163840) d) := by
  unfold val_main_v16
  have hr := rows x3 k n h
  generalize val_main_v15 (F := Ideal) x3 = ids at hr ⊢
  generalize val_main_v7 (F := Ideal) x5 = tab
  unfold Host.gather
  refine congrArg tab (funext fun a => Fin.ext ?_)
  match a with
  | ⟨0, _⟩ =>
    show gather_S163840x2048_S8x16384x1_S8x16384x2048_2_0_n_n_0_2_12048.start (ix3 k n d) ids 0 + gather_S163840x2048_S8x16384x1_S8x16384x2048_2_0_n_n_0_2_12048.batchCoord (ix3 k n d) 0 + gather_S163840x2048_S8x16384x1_S8x16384x2048_2_0_n_n_0_2_12048.offCoord (ix3 k n d) 0 = BitVec.toNat (x3 (ix2 k n))
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S163840x2048_S8x16384x1_S8x16384x2048_2_0_n_n_0_2_12048.startIndexMap from List.mem_singleton.mpr rfl)]
    have hsi : gather_S163840x2048_S8x16384x1_S8x16384x2048_2_0_n_n_0_2_12048.siIdx (ix3 k n d) ⟨List.idxOf (0 : Fin 2) gather_S163840x2048_S8x16384x1_S8x16384x2048_2_0_n_n_0_2_12048.startIndexMap,
        List.idxOf_lt_length_iff.2 (List.mem_singleton.mpr rfl)⟩ = ix3 k n (0 : Fin 1) := by
      funext b; refine Fin.ext ?_
      match b with
      | ⟨0, _⟩ => rfl
      | ⟨1, _⟩ => rfl
      | ⟨2, _⟩ => rfl
    rw [hsi, hr, toInt_of_range _ h]
    show min ((BitVec.toNat (x3 (ix2 k n)) : Int)).toNat (163840 - 1) = _
    omega
  | ⟨1, _⟩ =>
    show gather_S163840x2048_S8x16384x1_S8x16384x2048_2_0_n_n_0_2_12048.start (ix3 k n d) ids 1 + gather_S163840x2048_S8x16384x1_S8x16384x2048_2_0_n_n_0_2_12048.batchCoord (ix3 k n d) 1 + gather_S163840x2048_S8x16384x1_S8x16384x2048_2_0_n_n_0_2_12048.offCoord (ix3 k n d) 1 = d.val
    rw [GatherDims.batchCoord_eq_zero _ _ _ List.not_mem_nil]
    unfold GatherDims.start
    rw [dif_neg (show (1 : Fin 2) ∉ gather_S163840x2048_S8x16384x1_S8x16384x2048_2_0_n_n_0_2_12048.startIndexMap from by decide)]
    simp only [Nat.add_zero, Nat.zero_add]
    unfold GatherDims.offCoord
    rw [dif_pos (by decide)]
    rfl

/-- The eight rows weighed and added, -/
def routedAt (x3 : (⟨S8x16384, .i32⟩ : BufTy).Contents (Elt Ideal)) (x4 : (⟨S16384x8, .f32⟩ : BufTy).Contents (Elt Ideal)) (x5 : (⟨S1310720x128, .i32⟩ : BufTy).Contents (Elt Ideal)) (n : Fin 16384) (d : Fin 2048) : Ideal .f32 :=
  ∑ k : Fin 8, x4 (ix2 n k) * val_main_v16 (F := Ideal) x3 x5 (ix3 k n d)
/-- the shared expert's second projection, -/
def dotAt (x1 : (⟨S16384x512, .bf16⟩ : BufTy).Contents (Elt Ideal)) (x2 : (⟨S512x2048, .f32⟩ : BufTy).Contents (Elt Ideal)) (n : Fin 16384) (d : Fin 2048) : Ideal .f32 :=
  ∑ k : Fin 512, x1 (ix2 n k) * x2 (ix2 k d)
/-- and the value the layer norm is taken of. -/
def vAt (x0 : (⟨S16384x2048, .f32⟩ : BufTy).Contents (Elt Ideal)) (x1 : (⟨S16384x512, .bf16⟩ : BufTy).Contents (Elt Ideal)) (x2 : (⟨S512x2048, .f32⟩ : BufTy).Contents (Elt Ideal)) (x3 : (⟨S8x16384, .i32⟩ : BufTy).Contents (Elt Ideal)) (x4 : (⟨S16384x8, .f32⟩ : BufTy).Contents (Elt Ideal)) (x5 : (⟨S1310720x128, .i32⟩ : BufTy).Contents (Elt Ideal)) (n : Fin 16384) (d : Fin 2048) : Ideal .f32 :=
  Ideal.ofBits FTy.f32 1066940400#32 * x0 (ix2 n d) + (routedAt x3 x4 x5 n d + dotAt x1 x2 n d)

theorem routed (x3 : (⟨S8x16384, .i32⟩ : BufTy).Contents (Elt Ideal)) (x4 : (⟨S16384x8, .f32⟩ : BufTy).Contents (Elt Ideal)) (x5 : (⟨S1310720x128, .i32⟩ : BufTy).Contents (Elt Ideal)) (n : Fin 16384) (d : Fin 2048) :
    val_main_v19 (F := Ideal) x3 x4 x5 (ix2 n d) = routedAt x3 x4 x5 n d := by
  unfold routedAt
  pointwise [val_main_v19, val_main_v18, val_main_v17, val_main_v9, val_main_v8, val_main_cst]

theorem value (x0 : (⟨S16384x2048, .f32⟩ : BufTy).Contents (Elt Ideal)) (x1 : (⟨S16384x512, .bf16⟩ : BufTy).Contents (Elt Ideal)) (x2 : (⟨S512x2048, .f32⟩ : BufTy).Contents (Elt Ideal)) (x3 : (⟨S8x16384, .i32⟩ : BufTy).Contents (Elt Ideal)) (x4 : (⟨S16384x8, .f32⟩ : BufTy).Contents (Elt Ideal)) (x5 : (⟨S1310720x128, .i32⟩ : BufTy).Contents (Elt Ideal)) (n : Fin 16384) (d : Fin 2048) :
    val_main_v25 (F := Ideal) x0 x1 x2 x3 x4 x5 (ix2 n d) = vAt x0 x1 x2 x3 x4 x5 n d := by
  unfold vAt dotAt
  rw [← routed]
  pointwise [val_main_v25, val_main_v24, val_main_v23, val_main_v22, val_main_v21, val_main_v20, val_main_cst_3]

theorem result (x0 : (⟨S16384x2048, .f32⟩ : BufTy).Contents (Elt Ideal)) (x1 : (⟨S16384x512, .bf16⟩ : BufTy).Contents (Elt Ideal)) (x2 : (⟨S512x2048, .f32⟩ : BufTy).Contents (Elt Ideal)) (x3 : (⟨S8x16384, .i32⟩ : BufTy).Contents (Elt Ideal)) (x4 : (⟨S16384x8, .f32⟩ : BufTy).Contents (Elt Ideal)) (x5 : (⟨S1310720x128, .i32⟩ : BufTy).Contents (Elt Ideal)) (x6 x7 : (⟨S2048, .f32⟩ : BufTy).Contents (Elt Ideal)) (n : Fin 16384) (d : Fin 2048) :
    val_main_v49 (F := Ideal) x0 x1 x2 x3 x4 x5 x6 x7 (ix2 n d) = normOf (x6 (ix1 d)) (x7 (ix1 d)) (vAt x0 x1 x2 x3 x4 x5 n) d := by
  rw [← funext (value x0 x1 x2 x3 x4 x5 n)]
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_4, val_main_cst_5, val_main_cst_6, val_main_cst_7, val_main_cst_8]
  rfl

end Cert.Reference5Ideal.Read

end
-- ==== Proof.CombValue.lean ====
/- The array the last call leaves, and the reference's. -/
module

public import proofs.«01_k».proof.Proof.CombRead

@[expose] public section

set_option maxRecDepth 16384

noncomputable section

namespace Cert.Kernel5Ideal.Gen

open Idealize.ShloMosaic Idealize.ShloMosaic.TcCoe Idealize.SL.Sem
open Cert.Reference5Ideal.Read (val_main_v0 val_main_v7 val_main_v16 val_main_v49 vAt routedAt dotAt)

variable (m : (ℓ : Loc nD τ sig) → Buf (Elt Ideal) ℓ)

/-- The block indices: the rows go with the grid point, the weights stay. -/
theorem vidx : ∀ t : Fin grid0.N, win0_2.index t = ![t.val, 0] ∧ win0_3.index t = ![t.val, 0] ∧ win0_4.index t = ![0, 0] ∧ win0_5.index t = ![t.val, 0] ∧
    win0_6.index t = ![0, 0] ∧ win0_7.index t = ![0, 0] ∧ win0_8.index t = ![t.val, 0] := by decide +kernel

/-- Row `r` of block `t`. -/
def rowN (t : Fin cfg0.N) (r : Fin 256) : Fin 16384 :=
  ⟨256 * t.val + r.val, by have := r.isLt; have : t.val < 64 := lt_of_lt_of_eq t.isLt N_0; omega⟩

theorem x1_at (c : Dev nD) (t : Fin cfg0.N) (r : Fin 256) (d : Fin 2048) :
    iblk m c 2 t (ix2 r d) = m ((c : Thread nD τ).loc main_arg0) (ix2 (rowN t r) d) := by
  obtain ⟨e, -⟩ := vidx t
  refine Eq.trans ?_ (congrFun (V_main_arg0 m c) _)
  unfold iblk
  blk_simp [e]
  refine congrArg (V m c main_arg0) (funext fun a => Fin.ext ?_)
  fin_cases a
  · blk_simp [e]
    show t.val * 256 + r.val = 256 * t.val + r.val
    omega
  · blk_simp [e]
    rfl

theorem hsh_at (c : Dev nD) (t : Fin cfg0.N) (r : Fin 256) (d : Fin 512) :
    iblk m c 3 t (ix2 r d) = m ((c : Thread nD τ).loc main_arg1) (ix2 (rowN t r) d) := by
  obtain ⟨-, e, -⟩ := vidx t
  refine Eq.trans ?_ (congrFun (V_main_arg1 m c) _)
  unfold iblk
  blk_simp [e]
  refine congrArg (V m c main_arg1) (funext fun a => Fin.ext ?_)
  fin_cases a
  · blk_simp [e]
    show t.val * 256 + r.val = 256 * t.val + r.val
    omega
  · blk_simp [e]
    rfl

theorem gates_at (c : Dev nD) (t : Fin cfg0.N) (r : Fin 256) (d : Fin 8) :
    iblk m c 5 t (ix2 r d) = m ((c : Thread nD τ).loc main_arg4) (ix2 (rowN t r) d) := by
  obtain ⟨-, -, -, e, -⟩ := vidx t
  refine Eq.trans ?_ (congrFun (V_main_arg4 m c) _)
  unfold iblk
  blk_simp [e]
  refine congrArg (V m c main_arg4) (funext fun a => Fin.ext ?_)
  fin_cases a
  · blk_simp [e]
    show t.val * 256 + r.val = 256 * t.val + r.val
    omega
  · blk_simp [e]
    rfl

theorem ws2_at (c : Dev nD) (t : Fin cfg0.N) (r : Fin 512) (d : Fin 2048) :
    iblk m c 4 t (ix2 r d) = m ((c : Thread nD τ).loc main_arg2) (ix2 r d) := by
  obtain ⟨-, -, e, -⟩ := vidx t
  refine Eq.trans (b := V m c main_v0 (ix2 r d)) ?_ ?_
  · unfold iblk
    blk_simp [e]
    refine congrArg (V m c main_v0) (funext fun a => Fin.ext ?_)
    fin_cases a
    · blk_simp [e]
    · blk_simp [e]
  · entry_read
    pointwise

theorem lg_at (c : Dev nD) (t : Fin cfg0.N) (d : Fin 2048) :
    iblk m c 6 t (ix2 (0 : Fin 1) d) = m ((c : Thread nD τ).loc main_arg6) (ix1 d) := by
  obtain ⟨-, -, -, -, e, -⟩ := vidx t
  refine Eq.trans (b := V m c main_v1 (ix2 (0 : Fin 1) d)) ?_ ?_
  · unfold iblk
    blk_simp [e]
    refine congrArg (V m c main_v1) (funext fun a => Fin.ext ?_)
    fin_cases a
    · blk_simp [e]
    · blk_simp [e]
  · entry_read
    pointwise

theorem lb_at (c : Dev nD) (t : Fin cfg0.N) (d : Fin 2048) :
    iblk m c 7 t (ix2 (0 : Fin 1) d) = m ((c : Thread nD τ).loc main_arg7) (ix1 d) := by
  obtain ⟨-, -, -, -, -, e, -⟩ := vidx t
  refine Eq.trans (b := V m c main_v2 (ix2 (0 : Fin 1) d)) ?_ ?_
  · unfold iblk
    blk_simp [e]
    refine congrArg (V m c main_v2) (funext fun a => Fin.ext ?_)
    fin_cases a
    · blk_simp [e]
    · blk_simp [e]
  · entry_read
    pointwise

theorem word_at (c : Dev nD) (h : InRange m c) (t : Fin cfg0.N) (k : Fin 8) (r : Fin 256) (d : Fin 1024) :
    wordOf (slab (wt m c t.val) (V m c main_arg5) k.val) r d =
      val_main_v0 (F := Ideal) (m ((c : Thread nD τ).loc main_arg5)) (ix2 (⟨BitVec.toNat (m ((c : Thread nD τ).loc main_arg3) (ix2 k (rowN t r))), h _⟩ : Fin 163840) d) := by
  rw [Cert.Reference5Ideal.Read.words]
  refine Eq.trans ?_ (congrFun (V_main_arg5 m c) _)
  have ht : t.val < 64 := lt_of_lt_of_eq t.isLt N_0
  have hr := r.isLt
  have hk := k.isLt
  have hd := d.isLt
  have e : wt m c t.val (8 * r.val + k.val) = BitVec.toNat (m ((c : Thread nD τ).loc main_arg3) (ix2 k (rowN t r))) := by
    unfold wt rowN
    refine congrArg BitVec.toNat (congrArg (m ((c : Thread nD τ).loc main_arg3)) (funext fun a => Fin.ext ?_))
    match a with
    | ⟨0, _⟩ => show (8 * r.val + k.val) % 8 = k.val; omega
    | ⟨1, _⟩ => show (256 * t.val + (8 * r.val + k.val) / 8 % 256) % 16384 = 256 * t.val + r.val; omega
  have hp := h (ix2 k (rowN t r))
  unfold wordOf slab
  refine congrArg (V m c main_arg5) (funext fun a => Fin.ext ?_)
  match a with
  | ⟨0, _⟩ =>
    show (wt m c t.val (8 * r.val + k.val) * 8 + d.val / 128) % 1310720 = BitVec.toNat (m ((c : Thread nD τ).loc main_arg3) (ix2 k (rowN t r))) * 8 + d.val / 128
    rw [e]
    omega
  | ⟨1, _⟩ => rfl

/-- The eight rows read by the kernel, weighed and added, are the reference's. -/
theorem routed_at (c : Dev nD) (h : InRange m c) (t : Fin cfg0.N) (r : Fin 256) (d : Fin 2048) :
    routedOf (iblk m c 5 t) (slab (wt m c t.val) (V m c main_arg5)) (ix2 r d) =
      routedAt (m ((c : Thread nD τ).loc main_arg3)) (m ((c : Thread nD τ).loc main_arg4)) (m ((c : Thread nD τ).loc main_arg5)) (rowN t r) d := by
  unfold routedAt
  rw [routedOf_apply]
  refine Finset.sum_congr rfl fun k _ => ?_
  rw [gates_at, Cert.Reference5Ideal.Read.taken _ _ k (rowN t r) d (h _), Cert.Reference5Ideal.Read.halves]
  refine congrArg (fun z : Ideal .f32 => HMul.hMul (α := Ideal .f32) (m ((c : Thread nD τ).loc main_arg4) (ix2 (rowN t r) k)) z) ?_
  by_cases hd : d.val < 1024
  · rw [dif_pos hd, dif_pos hd, word_at m c h]
  · rw [dif_neg hd, dif_neg hd, word_at m c h]

theorem v_at (c : Dev nD) (h : InRange m c) (t : Fin cfg0.N) (r : Fin 256) (d : Fin 2048) :
    addf (k0_pay2 (F := Ideal) (iblk m c 2 t) (iblk m c 3 t) (iblk m c 4 t)) (routedOf (iblk m c 5 t) (slab (wt m c t.val) (V m c main_arg5))) (ix2 r d) =
      vAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (rowN t r) d := by
  show k0_pay2 (F := Ideal) (iblk m c 2 t) (iblk m c 3 t) (iblk m c 4 t) (ix2 r d) + routedOf (iblk m c 5 t) (slab (wt m c t.val) (V m c main_arg5)) (ix2 r d) = _
  rw [base_apply, routed_at m c h, x1_at]
  unfold vAt
  rw [add_assoc, add_comm (∑ k : Fin 512, _)]
  unfold dotAt
  simp only [hsh_at, ws2_at]

/-- The reference's array of the kernel's arguments. -/
abbrev refOut (c : Dev nD) : Buf (Elt Ideal) ((c : Thread nD τ).loc main_v3) :=
  val_main_v49 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem out_at (c : Dev nD) (h : InRange m c) (t : Fin cfg0.N) (r : Fin 256) (d : Fin 2048) : outAt m c t (ix2 r d) = refOut m c (ix2 (rowN t r) d) := by
  unfold outAt refOut
  rw [outOf_eq, ln_apply, Cert.Reference5Ideal.Read.result, lg_at, lb_at]
  exact congrArg (fun v => normOf _ _ v d) (funext fun x => v_at m c h t r x)

theorem final (c : Dev nD) (h : InRange m c) : (dats m 0 c).arrAt 8 cfg0.N = refOut m c := by
  refine (dats m 0 c).arrAt_eq_of_covers 8 _ (by decide +kernel) fun t hf y => ?_
  blk_simp
  rw [after0_8]
  obtain ⟨r, d, rfl⟩ : ∃ (r : Fin 256) (d : Fin 2048), y = ix2 r d := ⟨y 0, y 1, ValueIdx.eq_ix2 y⟩
  rw [out_at m c h]
  obtain ⟨-, -, -, -, -, -, e⟩ := vidx t
  refine congrArg (refOut m c) (funext fun a => Fin.ext ?_)
  fin_cases a
  · blk_simp [e]
    show 256 * t.val + r.val = t.val * 256 + r.val
    omega
  · blk_simp [e]
    rfl

end Cert.Kernel5Ideal.Gen

end
-- ==== Proof.PosValue.lean ====
/- The experts' row numbers: the kernel's array and the reference's, element by element. -/
module

public import proofs.«01_k».proof.Proof.Gen.Kernel6Ideal.Frame
public import proofs.«01_k».proof.Proof.Gen.Reference6Ideal.Read
public import proofs.«01_k».proof.Proof.Gen.Pre_is_expert
public import Idealize.ShloMosaic.Lib.Pointwise
public import Idealize.ShloMosaic.Lib.Pipeline.ValueKit
public import Idealize.ShloMosaic.Lib.ReduceAll
public import Idealize.ShloMosaic.Lib.Affine

@[expose] public section

set_option maxRecDepth 16384

noncomputable section

namespace Cert.Pre_is_expert

open Idealize.ShloMosaic

instance : Subsingleton S_.Idx := ⟨fun a b => funext fun k => k.elim0⟩

/-- What the precondition says of the experts' numbers. -/
theorem below [Facts] {F : FTy → Type} [FloatOps F] (x0 : IVec S64 32) (x1 x2 : IVec S8x16384 32)
    (h : fn (F := F) x0 x1 x2 = fun _ => 1#1) (i : S8x16384.Idx) : BitVec.toNat (x1 i) < 64 := by
  simp only [fn] at h
  have h1 := Host.reduce_andi_all _ _ _ _ _ (congrFun h (fun k => k.elim0)) i
  obtain ⟨h2, h3⟩ := IntOp.andi_eq_one.1 h1
  have h4 := IntOp.cmpi_sge.1 h2
  have h5 := IntOp.cmpi_slt.1 h3
  replace h4 : (0#32 : BitVec 32).toInt ≤ (x1 i).toInt := h4
  replace h5 : (x1 i).toInt < (64#32 : BitVec 32).toInt := h5
  have e0 : (0#32 : BitVec 32).toInt = 0 := by decide
  have e1 : (64#32 : BitVec 32).toInt = 64 := by decide
  rw [e0] at h4
  rw [e1] at h5
  have hw := (x1 i).isLt
  rw [BitVec.toInt_eq_toNat_cond] at h4 h5
  split_ifs at h4 h5 <;> omega

end Cert.Pre_is_expert

namespace Cert.Kernel6Ideal.RefValue

open Cert.Kernel6Ideal Cert.Kernel6Ideal.Gen Idealize.ShloMosaic Idealize.ShloMosaic.TcCoe Idealize.SL.Sem
open Cert.Reference6Ideal.Read

variable (m : (ℓ : Loc nD τ sig) → Buf (Elt Ideal) ℓ)

theorem ok {F : FTy → Type} [FloatOps F] (m : (ℓ : Loc nD τ sig) → Buf (Elt F) ℓ) : Ok m := trivial

/-- The rank with the first rows of the experts below `n` that the number names added to it. -/
def upto (e a : BitVec 32) (T : ℕ → BitVec 32) : ℕ → BitVec 32
  | 0 => a
  | n + 1 => IntOp.addi (upto e a T n) (Scalar.select (IntOp.cmpi .eq e (BitVec.ofNat 32 n)) (T n) 0#32)

theorem upto_eq (e a : BitVec 32) (T : ℕ → BitVec 32) : ∀ n : ℕ, n ≤ 64 → upto e a T n = if e.toNat < n then a + T e.toNat else a
  | 0, _ => rfl
  | n + 1, h => by
    unfold upto
    rw [upto_eq e a T n (by omega)]
    by_cases hn : e.toNat = n
    · have he : e = BitVec.ofNat 32 n := by rw [← hn, BitVec.ofNat_toNat, BitVec.setWidth_eq]
      rw [if_neg (by omega), if_pos (by omega), IntOp.cmpi_eq.2 he, hn]
      rfl
    · have he : IntOp.cmpi .eq e (BitVec.ofNat 32 n) = 0#1 := ValueIdx.eq_zero_of_ne_one fun h' => hn (by
        rw [IntOp.cmpi_eq.1 h', BitVec.toNat_ofNat]; omega)
      rw [he]
      by_cases hl : e.toNat < n
      · rw [if_pos hl, if_pos (by omega)]
        show a + T e.toNat + 0#32 = _
        exact BitVec.add_zero _
      · rw [if_neg hl, if_neg (by omega)]
        show a + 0#32 = _
        exact BitVec.add_zero _

theorem part1 (v0 v1 : Vec Ideal S8x2048 .i32) (T : ℕ → BitVec 32) :
    k0_pay1 (F := Ideal) v0 v1 (T 0) (T 1) (T 2) (T 3) (T 4) = fun y => upto (v0 y) (v1 y) T 5 := rfl

theorem part3 (v0 v1 : Vec Ideal S8x2048 .i32) (T : ℕ → BitVec 32) :
    k0_pay3 (F := Ideal) v0 (fun y => upto (v0 y) (v1 y) T 5) (k0_pay2 (F := Ideal) v0) (T 5) (T 6) (T 7) (T 8) (T 9) (T 10) = fun y => upto (v0 y) (v1 y) T 11 := rfl

theorem part5 (v0 v1 : Vec Ideal S8x2048 .i32) (T : ℕ → BitVec 32) :
    k0_pay5 (F := Ideal) v0 (fun y => upto (v0 y) (v1 y) T 11) (k0_pay4 (F := Ideal) v0) (T 11) (T 12) (T 13) (T 14) (T 15) (T 16) = fun y => upto (v0 y) (v1 y) T 17 := rfl

theorem part7 (v0 v1 : Vec Ideal S8x2048 .i32) (T : ℕ → BitVec 32) :
    k0_pay7 (F := Ideal) v0 (fun y => upto (v0 y) (v1 y) T 17) (k0_pay6 (F := Ideal) v0) (T 17) (T 18) (T 19) (T 20) (T 21) (T 22) = fun y => upto (v0 y) (v1 y) T 23 := rfl

theorem part9 (v0 v1 : Vec Ideal S8x2048 .i32) (T : ℕ → BitVec 32) :
    k0_pay9 (F := Ideal) v0 (fun y => upto (v0 y) (v1 y) T 23) (k0_pay8 (F := Ideal) v0) (T 23) (T 24) (T 25) (T 26) (T 27) (T 28) = fun y => upto (v0 y) (v1 y) T 29 := rfl

theorem part11 (v0 v1 : Vec Ideal S8x2048 .i32) (T : ℕ → BitVec 32) :
    k0_pay11 (F := Ideal) v0 (fun y => upto (v0 y) (v1 y) T 29) (k0_pay10 (F := Ideal) v0) (T 29) (T 30) (T 31) (T 32) (T 33) (T 34) = fun y => upto (v0 y) (v1 y) T 35 := rfl

theorem part13 (v0 v1 : Vec Ideal S8x2048 .i32) (T : ℕ → BitVec 32) :
    k0_pay13 (F := Ideal) v0 (fun y => upto (v0 y) (v1 y) T 35) (k0_pay12 (F := Ideal) v0) (T 35) (T 36) (T 37) (T 38) (T 39) (T 40) = fun y => upto (v0 y) (v1 y) T 41 := rfl

theorem part15 (v0 v1 : Vec Ideal S8x2048 .i32) (T : ℕ → BitVec 32) :
    k0_pay15 (F := Ideal) v0 (fun y => upto (v0 y) (v1 y) T 41) (k0_pay14 (F := Ideal) v0) (T 41) (T 42) (T 43) (T 44) (T 45) (T 46) = fun y => upto (v0 y) (v1 y) T 47 := rfl

theorem part17 (v0 v1 : Vec Ideal S8x2048 .i32) (T : ℕ → BitVec 32) :
    k0_pay17 (F := Ideal) v0 (fun y => upto (v0 y) (v1 y) T 47) (k0_pay16 (F := Ideal) v0) (T 47) (T 48) (T 49) (T 50) (T 51) (T 52) = fun y => upto (v0 y) (v1 y) T 53 := rfl

theorem part19 (v0 v1 : Vec Ideal S8x2048 .i32) (T : ℕ → BitVec 32) :
    k0_pay19 (F := Ideal) v0 (fun y => upto (v0 y) (v1 y) T 53) (k0_pay18 (F := Ideal) v0) (T 53) (T 54) (T 55) (T 56) (T 57) (T 58) = fun y => upto (v0 y) (v1 y) T 59 := rfl

theorem part21 (v0 v1 : Vec Ideal S8x2048 .i32) (T : ℕ → BitVec 32) :
    k0_pay21 (F := Ideal) v0 (fun y => upto (v0 y) (v1 y) T 59) (k0_pay20 (F := Ideal) v0) (T 59) (T 60) (T 61) (T 62) (T 63) = fun y => upto (v0 y) (v1 y) T 64 := rfl

/-- A word of the table, read at its place. -/
theorem word (f : (View.whole (κ := .tc) (sig := sig) main_arg0).ty.Contents (Elt Ideal)) (k : ℕ) (hk : k < 64) (h : ∀ a, (![k] : Fin 1 → Nat) a + S1.size a ≤ S64.size a) (i : (Rect.unit (s := S64) ![k] S1.size h).toLoadRect.shape.Idx) :
    View.readAt (Elt Ideal) (View.whole main_arg0) (Rect.unit (s := S64) ![k] S1.size h).toLoadRect f i = f (ix1 (⟨k, hk⟩ : Fin 64)) := by
  show f _ = f _
  refine congrArg f (funext fun a => Fin.ext ?_)
  match a with
  | ⟨0, _⟩ =>
    have hi : (i 0).val < 1 := (i 0).isLt
    show k + 1 * (i 0).val = k
    omega

theorem visits : ∀ (b : Fin 1) (b' : Fin 8), ∃ t : Fin grid0.N, cc0_transform_2 (grid0.coords t) 0 = b.val ∧ cc0_transform_2 (grid0.coords t) 1 = b'.val := by decide +kernel

theorem covers (a : (pcfg0 (F := Ideal)).Adm) : ((cfg0 a).win 2).Covers := by
  refine ⟨?_, fun β => ?_⟩
  · show ∀ k : Fin 2, 0 < S8x2048.size k
    decide
  · have e0 : ((cfg0 a).win 2).nblk (0 : Fin 2) = 1 := by
      show (S8x16384.size 0 + S8x2048.size 0 - 1) / S8x2048.size 0 = 1
      decide
    have e1 : ((cfg0 a).win 2).nblk (1 : Fin 2) = 8 := by
      show (S8x16384.size 1 + S8x2048.size 1 - 1) / S8x2048.size 1 = 8
      decide
    obtain ⟨t, h0, h1⟩ := visits ⟨(β (0 : Fin 2)).val, (β (0 : Fin 2)).isLt.trans_eq e0⟩ ⟨(β (1 : Fin 2)).val, (β (1 : Fin 2)).isLt.trans_eq e1⟩
    refine ⟨t, flush0_2 a t, fun k => ?_⟩
    match k with
    | ⟨0, _⟩ => exact ⟨h0, Or.inl rfl⟩
    | ⟨1, _⟩ => exact ⟨h1, Or.inl rfl⟩

theorem taken (x0 : (⟨S64, .i32⟩ : BufTy).Contents (Elt Ideal)) (x1 : (⟨S8x16384, .i32⟩ : BufTy).Contents (Elt Ideal)) (k : Fin 8) (n : Fin 16384) (h : BitVec.toNat (x1 (ix2 k n)) < 64) :
    val_main_v6 (F := Ideal) x0 x1 (ix2 k n) = x0 (ix1 (⟨BitVec.toNat (x1 (ix2 k n)), h⟩ : Fin 64)) := by
  have hI : (x1 (ix2 k n)).toInt = ((x1 (ix2 k n)).toNat : Int) := BitVec.toInt_eq_toNat_of_lt (by omega)
  have hr : val_main_v5 (F := Ideal) x1 (ix3 k n (0 : Fin 1)) = x1 (ix2 k n) := by
    pointwise [val_main_v5, val_main_v4, val_main_v3, val_main_v2, val_main_v1, val_main_v0, val_main_c, val_main_c_0]
    have h0 : IntOp.cmpi CmpIPredicate.slt (x1 (ix2 k n)) 0#32 = 0#1 := ValueIdx.eq_zero_of_ne_one fun e => by
      have := IntOp.cmpi_slt.mp e
      rw [hI] at this
      have e0 : (0#32 : BitVec 32).toInt = 0 := by decide
      rw [e0] at this
      omega
    rw [h0]
    rfl
  unfold val_main_v6
  generalize val_main_v5 (F := Ideal) x1 = ids at hr ⊢
  unfold Host.gather
  refine congrArg x0 (funext fun a => Fin.ext ?_)
  match a with
  | ⟨0, _⟩ =>
    show Cert.Reference6Ideal.gather_S64_S8x16384x1_S8x16384_n_0_n_n_0_2_1.start (ix2 k n) ids 0 + Cert.Reference6Ideal.gather_S64_S8x16384x1_S8x16384_n_0_n_n_0_2_1.batchCoord (ix2 k n) 0 + Cert.Reference6Ideal.gather_S64_S8x16384x1_S8x16384_n_0_n_n_0_2_1.offCoord (ix2 k n) 0 = BitVec.toNat (x1 (ix2 k n))
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (0 : Fin 1) ∈ Cert.Reference6Ideal.gather_S64_S8x16384x1_S8x16384_n_0_n_n_0_2_1.startIndexMap from List.mem_singleton.mpr rfl)]
    have hsi : Cert.Reference6Ideal.gather_S64_S8x16384x1_S8x16384_n_0_n_n_0_2_1.siIdx (ix2 k n) ⟨List.idxOf (0 : Fin 1) Cert.Reference6Ideal.gather_S64_S8x16384x1_S8x16384_n_0_n_n_0_2_1.startIndexMap,
        List.idxOf_lt_length_iff.2 (List.mem_singleton.mpr rfl)⟩ = ix3 k n (0 : Fin 1) := by
      funext b; refine Fin.ext ?_
      match b with
      | ⟨0, _⟩ => rfl
      | ⟨1, _⟩ => rfl
      | ⟨2, _⟩ => rfl
    rw [hsi, hr, hI]
    show min ((BitVec.toNat (x1 (ix2 k n)) : Int)).toNat (64 - 1) = _
    omega

/-- The first row of the expert numbered `n`, off the table. -/
def rowOf (f : (⟨S64, .i32⟩ : BufTy).Contents (Elt Ideal)) (n : ℕ) : BitVec 32 :=
  if hn : n < 64 then f (ix1 (⟨n, hn⟩ : Fin 64)) else 0#32

theorem word' (f : (⟨S64, .i32⟩ : BufTy).Contents (Elt Ideal)) (k : ℕ) (hk : k < 64) (h : ∀ a, (![k] : Fin 1 → Nat) a + S1.size a ≤ S64.size a) (i : (Rect.unit (s := S64) ![k] S1.size h).toLoadRect.shape.Idx) :
    View.readAt (Elt Ideal) (View.whole main_arg0) (Rect.unit (s := S64) ![k] S1.size h).toLoadRect f i = rowOf f k := by
  unfold rowOf
  rw [dif_pos hk]
  exact word f k hk h i

theorem outs (c : Dev nD) (i : grid0.Coords) (a2 : Memref sig .tc .vmem S8x2048 .i32) (h2 : a2.IsWhole) (a3 : Memref sig .tc .vmem S8x2048 .i32) (h3 : a3.IsWhole) (a4 : Memref sig .tc .vmem S8x2048 .i32) (h4 : a4.IsWhole)
    (x0 x1 : Vec Ideal S8x2048 .i32) (f : (⟨S64, .i32⟩ : BufTy).Contents (Elt Ideal)) :
    out0_A_2 (F := Ideal) c i a2 h2 a3 h3 a4 h4 x0 x1 f = fun y => upto (x0 y) (x1 y) (rowOf f) 64 := by
  unfold out0_A_2
  frame_out
  have w (k : ℕ) (hk : k < 64) (h : ∀ a, (![k] : Fin 1 → Nat) a + (![1] : Fin 1 → Nat) a ≤ S64.size a) (i) :
      View.ld (View.read (Elt Ideal) (View.whole main_arg0) f) (Rect.unit (s := S64) ![k] ![1] h) i = rowOf f k := word' f k hk h i
  rw [w 0 (by decide) inb_S64_S1_0]
  rw [w 1 (by decide) inb_S64_S1_1]
  rw [w 2 (by decide) inb_S64_S1_2]
  rw [w 3 (by decide) inb_S64_S1_3]
  rw [w 4 (by decide) inb_S64_S1_4]
  rw [w 5 (by decide) inb_S64_S1_5]
  rw [w 6 (by decide) inb_S64_S1_6]
  rw [w 7 (by decide) inb_S64_S1_7]
  rw [w 8 (by decide) inb_S64_S1_8]
  rw [w 9 (by decide) inb_S64_S1_9]
  rw [w 10 (by decide) inb_S64_S1_10]
  rw [w 11 (by decide) inb_S64_S1_11]
  rw [w 12 (by decide) inb_S64_S1_12]
  rw [w 13 (by decide) inb_S64_S1_13]
  rw [w 14 (by decide) inb_S64_S1_14]
  rw [w 15 (by decide) inb_S64_S1_15]
  rw [w 16 (by decide) inb_S64_S1_16]
  rw [w 17 (by decide) inb_S64_S1_17]
  rw [w 18 (by decide) inb_S64_S1_18]
  rw [w 19 (by decide) inb_S64_S1_19]
  rw [w 20 (by decide) inb_S64_S1_20]
  rw [w 21 (by decide) inb_S64_S1_21]
  rw [w 22 (by decide) inb_S64_S1_22]
  rw [w 23 (by decide) inb_S64_S1_23]
  rw [w 24 (by decide) inb_S64_S1_24]
  rw [w 25 (by decide) inb_S64_S1_25]
  rw [w 26 (by decide) inb_S64_S1_26]
  rw [w 27 (by decide) inb_S64_S1_27]
  rw [w 28 (by decide) inb_S64_S1_28]
  rw [w 29 (by decide) inb_S64_S1_29]
  rw [w 30 (by decide) inb_S64_S1_30]
  rw [w 31 (by decide) inb_S64_S1_31]
  rw [w 32 (by decide) inb_S64_S1_32]
  rw [w 33 (by decide) inb_S64_S1_33]
  rw [w 34 (by decide) inb_S64_S1_34]
  rw [w 35 (by decide) inb_S64_S1_35]
  rw [w 36 (by decide) inb_S64_S1_36]
  rw [w 37 (by decide) inb_S64_S1_37]
  rw [w 38 (by decide) inb_S64_S1_38]
  rw [w 39 (by decide) inb_S64_S1_39]
  rw [w 40 (by decide) inb_S64_S1_40]
  rw [w 41 (by decide) inb_S64_S1_41]
  rw [w 42 (by decide) inb_S64_S1_42]
  rw [w 43 (by decide) inb_S64_S1_43]
  rw [w 44 (by decide) inb_S64_S1_44]
  rw [w 45 (by decide) inb_S64_S1_45]
  rw [w 46 (by decide) inb_S64_S1_46]
  rw [w 47 (by decide) inb_S64_S1_47]
  rw [w 48 (by decide) inb_S64_S1_48]
  rw [w 49 (by decide) inb_S64_S1_49]
  rw [w 50 (by decide) inb_S64_S1_50]
  rw [w 51 (by decide) inb_S64_S1_51]
  rw [w 52 (by decide) inb_S64_S1_52]
  rw [w 53 (by decide) inb_S64_S1_53]
  rw [w 54 (by decide) inb_S64_S1_54]
  rw [w 55 (by decide) inb_S64_S1_55]
  rw [w 56 (by decide) inb_S64_S1_56]
  rw [w 57 (by decide) inb_S64_S1_57]
  rw [w 58 (by decide) inb_S64_S1_58]
  rw [w 59 (by decide) inb_S64_S1_59]
  rw [w 60 (by decide) inb_S64_S1_60]
  rw [w 61 (by decide) inb_S64_S1_61]
  rw [w 62 (by decide) inb_S64_S1_62]
  rw [w 63 (by decide) inb_S64_S1_63]
  funext y
  rfl

theorem final (hO : Ok m) (c : Dev nD) (h : ∀ i : S8x16384.Idx, BitVec.toNat ((m (c.tc.loc main_arg1) : (⟨S8x16384, .i32⟩ : BufTy).Contents (Elt Ideal)) i) < 64) :
    (dats m hO 0 c).arrAt 2 (cfgM m hO).N = val_main_v7 (F := Ideal) (m (c.tc.loc main_arg0)) (m (c.tc.loc main_arg1)) (m (c.tc.loc main_arg2)) := by
  refine (dats m hO 0 c).arrAt_eq_of_covers 2 _ (covers _) fun t hf y => ?_
  obtain rfl : c = 0 := Subsingleton.elim _ _
  blk_simp
  rw [after0_2]
  unfold outsAt0
  refine (congrFun (outs 0 (grid0.coords t) (ms0_0 m hO t) (hs0_0 m hO t) (ms0_1 m hO t) (hs0_1 m hO t) (ms0_2 m hO t) (hs0_2 m hO t) (iblk m hO 0 0 t) (iblk m hO 0 1 t) (tbl m 0)) y).trans ?_
  generalize hE : (((spec0 2).arr.view.slice ((pcfg0.win (adm m hO) 2).rect t)).emb y) = E
  have e0 : iblk m hO 0 0 t y = m ((0 : Dev nD).tc.loc main_arg1) E := by rw [← hE]; rfl
  have e1 : iblk m hO 0 1 t y = m ((0 : Dev nD).tc.loc main_arg2) E := by rw [← hE]; rfl
  show upto (iblk m hO 0 0 t y) (iblk m hO 0 1 t y) (rowOf (tbl m 0)) 64 = _
  rw [e0, e1, upto_eq _ _ _ 64 le_rfl, if_pos (h E)]
  obtain ⟨a, b, rfl⟩ : ∃ (a : Fin 8) (b : Fin 16384), E = ix2 a b := ⟨E 0, E 1, eq_ix2 E⟩
  refine Eq.trans ?_ (congrArg (val_main_v7 (F := Ideal) (m ((0 : Dev nD).tc.loc main_arg0)) (m ((0 : Dev nD).tc.loc main_arg1)) (m ((0 : Dev nD).tc.loc main_arg2))) hE).symm
  refine Eq.trans ?_ (congrArg (fun q : BitVec 32 => IntOp.addi q ((m ((0 : Dev nD).tc.loc main_arg2) : (⟨S8x16384, .i32⟩ : BufTy).Contents (Elt Ideal)) (ix2 a b))) (taken (m ((0 : Dev nD).tc.loc main_arg0)) (m ((0 : Dev nD).tc.loc main_arg1)) a b (h (ix2 a b)))).symm
  have e2 : rowOf (m ((0 : Dev nD).tc.loc main_arg0)) (BitVec.toNat ((m ((0 : Dev nD).tc.loc main_arg1) : (⟨S8x16384, .i32⟩ : BufTy).Contents (Elt Ideal)) (ix2 a b))) = (m ((0 : Dev nD).tc.loc main_arg0) : (⟨S64, .i32⟩ : BufTy).Contents (Elt Ideal)) (ix1 (⟨_, h (ix2 a b)⟩ : Fin 64)) := by
    unfold rowOf
    exact dif_pos (h (ix2 a b))
  exact (congrArg (fun q : BitVec 32 => IntOp.addi ((m ((0 : Dev nD).tc.loc main_arg2) : (⟨S8x16384, .i32⟩ : BufTy).Contents (Elt Ideal)) (ix2 a b)) q) e2).trans (BitVec.add_comm _ _)

end Cert.Kernel6Ideal.RefValue

end
-- ==== Proof.TrigValue.lean ====
/- The rotary tables: the kernel's four arrays and the reference's, element by element. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit

@[expose] public section

set_option maxRecDepth 16384

noncomputable section

namespace Cert.Kernel7Ideal.RefValue

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ)

/-- The first four windows' block indices: the positions go with the grid point, the rows stay. -/
theorem idx (t : Fin cfg0.N) : win0_0.index t = ![t.val, 0] ∧ win0_1.index t = ![0, 0] ∧ win0_2.index t = ![0, 0] ∧ win0_3.index t = ![0, 0] ∧ win0_4.index t = ![0, 0] :=
  (by decide +kernel : ∀ t : Fin grid0.N, win0_0.index t = ![t.val, 0] ∧ win0_1.index t = ![0, 0] ∧ win0_2.index t = ![0, 0] ∧ win0_3.index t = ![0, 0] ∧ win0_4.index t = ![0, 0]) t

/-- The column of positions. -/
theorem pos (c : Dev nD) (r : Fin 16384) :
    V m c main_v1 (ix2 r (0 : Fin 1)) = val_main_v11 (F := Ideal) (m ((c : Thread nD τ).loc main_arg0)) (ix1 r) := by
  entry_read
  pointwise [val_main_v11, val_main_v10]

/-- The attention's frequencies, twice. -/
theorem inv_a (c : Dev nD) (j : Fin 128) :
    V m c main_v25 (ix2 (0 : Fin 1) j) = val_main_v9 (F := Ideal) (ix1 (⟨j.val % 64, Nat.mod_lt _ (by decide)⟩ : Fin 64)) := by
  entry_read
  pointwise [val_main_v9, val_main_v8, val_main_v7, val_main_v6, val_main_v5, val_main_v4, val_main_v3, val_main_v2, val_main_v1, val_main_v0, val_main_cst, val_main_cst_0, val_main_cst_1, val_main_cst_2]

/-- The indexer's frequencies, four times. -/
theorem inv_i (c : Dev nD) (j : Fin 128) :
    V m c main_v29 (ix2 (0 : Fin 1) j) = val_main_v31 (F := Ideal) (ix1 (⟨j.val % 32, Nat.mod_lt _ (by decide)⟩ : Fin 32)) := by
  entry_read
  pointwise [val_main_v31, val_main_v30, val_main_v29, val_main_v28, val_main_v27, val_main_v26, val_main_v25, val_main_v24, val_main_v23, val_main_v22, val_main_cst_3, val_main_cst_4, val_main_cst_5, val_main_cst_6]

theorem sgn_a (c : Dev nD) (j : Fin 128) :
    V m c main_v30 (ix2 (0 : Fin 1) j) = Ideal.ofBits FTy.f32 (if j.val < 64 then 0xBF800000#32 else 0x3F800000#32) := by
  entry_read
  pointwise
  exact congrArg (Ideal.ofBits FTy.f32) ((by decide +kernel : ∀ k : Fin 128, lit0 (S128.rowMajor (ix1 k)) = if k.val < 64 then 3212836864#32 else 1065353216#32) j)

theorem sgn_i (c : Dev nD) (j : Fin 128) :
    V m c main_v31 (ix2 (0 : Fin 1) j) = Ideal.ofBits FTy.f32 (if j.val % 64 < 32 then 0xBF800000#32 else 0x3F800000#32) := by
  entry_read
  pointwise
  exact congrArg (Ideal.ofBits FTy.f32) ((by decide +kernel : ∀ k : Fin 128, lit1 (S128.rowMajor (ix1 k)) = if k.val % 64 < 32 then 3212836864#32 else 1065353216#32) j)

/-- A grid point's block of positions, and the rows as every point sees them. -/
theorem blk0 (c : Dev nD) (t : Fin cfg0.N) (a : Fin 512) (r : Fin 16384) (h : r.val = t.val * 512 + a.val) :
    iblk m c 0 t (ix2 a (0 : Fin 1)) = val_main_v11 (F := Ideal) (m ((c : Thread nD τ).loc main_arg0)) (ix1 r) := by
  obtain ⟨e0, -⟩ := idx t
  rw [← pos]
  blk_ext [iblk, e0]

theorem blk1 (c : Dev nD) (t : Fin cfg0.N) (j : Fin 128) :
    iblk m c 1 t (ix2 (0 : Fin 1) j) = val_main_v9 (F := Ideal) (ix1 (⟨j.val % 64, Nat.mod_lt _ (by decide)⟩ : Fin 64)) := by
  obtain ⟨-, e1, -⟩ := idx t
  rw [← inv_a m c]
  blk_ext [iblk, e1]

theorem blk2 (c : Dev nD) (t : Fin cfg0.N) (j : Fin 128) :
    iblk m c 2 t (ix2 (0 : Fin 1) j) = val_main_v31 (F := Ideal) (ix1 (⟨j.val % 32, Nat.mod_lt _ (by decide)⟩ : Fin 32)) := by
  obtain ⟨-, -, e2, -⟩ := idx t
  rw [← inv_i m c]
  blk_ext [iblk, e2]

theorem blk3 (c : Dev nD) (t : Fin cfg0.N) (j : Fin 128) :
    iblk m c 3 t (ix2 (0 : Fin 1) j) = Ideal.ofBits FTy.f32 (if j.val < 64 then 3212836864#32 else 1065353216#32) := by
  obtain ⟨-, -, -, e3, -⟩ := idx t
  rw [← sgn_a m c]
  blk_ext [iblk, e3]

theorem blk4 (c : Dev nD) (t : Fin cfg0.N) (j : Fin 128) :
    iblk m c 4 t (ix2 (0 : Fin 1) j) = Ideal.ofBits FTy.f32 (if j.val % 64 < 32 then 3212836864#32 else 1065353216#32) := by
  obtain ⟨-, -, -, -, e4⟩ := idx t
  rw [← sgn_i m c]
  blk_ext [iblk, e4]

/-- The sign row's two values. -/
theorem minus_one : (Ideal.ofBits FTy.f32 3212836864#32 : EReal) = -1 := by
  simp [Ideal.ofBits, Ideal.ieee, -EReal.coe_mul]; norm_num

theorem signed (x : EReal) (p : Prop) [Decidable p] : x * (Ideal.ofBits FTy.f32 (if p then 3212836864#32 else 1065353216#32) : EReal) = if p then -x else x := by
  split_ifs
  · rw [minus_one, mul_neg, mul_one]
  · rw [Ideal.ofBits_one_f32, mul_one]

/-- The angle of the attention's table at row `r`, frequency `k`; -/
def angA (c : Dev nD) (r : Fin 16384) (k : Fin 64) : Ideal .f32 :=
  val_main_v11 (F := Ideal) (m ((c : Thread nD τ).loc main_arg0)) (ix1 r) * val_main_v9 (F := Ideal) (ix1 k)
/-- and of the indexer's. -/
def angI (c : Dev nD) (r : Fin 16384) (k : Fin 32) : Ideal .f32 :=
  val_main_v11 (F := Ideal) (m ((c : Thread nD τ).loc main_arg0)) (ix1 r) * val_main_v31 (F := Ideal) (ix1 k)

/-- The reference's four tables at an element. -/
theorem ref5 (c : Dev nD) (r : Fin 16384) (j : Fin 128) :
    val_main_v19 (F := Ideal) (m ((c : Thread nD τ).loc main_arg0)) (ix2 r j) = Ideal.cos (angA m c r ⟨j.val % 64, Nat.mod_lt _ (by decide)⟩) := by
  have hj := j.isLt
  pointwise [val_main_v19, val_main_v17, val_main_v16, val_main_v15, val_main_v14, val_main_v13, val_main_v12]
  by_cases h : j.val < 64
  · rw [dif_pos h]
    exact congrArg (fun k => Ideal.cos (angA m c r k)) (Fin.ext (by show j.val = j.val % 64; omega))
  · rw [dif_neg h]
    exact congrArg (fun k => Ideal.cos (angA m c r k)) (Fin.ext (by show j.val - 64 = j.val % 64; omega))

theorem ref6 (c : Dev nD) (r : Fin 16384) (j : Fin 128) :
    val_main_v21 (F := Ideal) (m ((c : Thread nD τ).loc main_arg0)) (ix2 r j)
      = if j.val < 64 then -Ideal.sin (angA m c r ⟨j.val % 64, Nat.mod_lt _ (by decide)⟩) else Ideal.sin (angA m c r ⟨j.val % 64, Nat.mod_lt _ (by decide)⟩) := by
  have hj := j.isLt
  pointwise [val_main_v21, val_main_v20, val_main_v18, val_main_v16, val_main_v15, val_main_v14, val_main_v13, val_main_v12]
  by_cases h : j.val < 64
  · rw [dif_pos h, if_pos h]
    exact congrArg (fun k => -Ideal.sin (angA m c r k)) (Fin.ext (by show j.val = j.val % 64; omega))
  · rw [dif_neg h, if_neg h]
    exact congrArg (fun k => Ideal.sin (angA m c r k)) (Fin.ext (by show j.val - 64 = j.val % 64; omega))

theorem ref41 (c : Dev nD) (r : Fin 16384) (j : Fin 64) :
    val_main_v41 (F := Ideal) (m ((c : Thread nD τ).loc main_arg0)) (ix2 r j) = Ideal.cos (angI m c r ⟨j.val % 32, Nat.mod_lt _ (by decide)⟩) := by
  have hj := j.isLt
  pointwise [val_main_v41, val_main_v39, val_main_v38, val_main_v37, val_main_v36, val_main_v35, val_main_v34]
  by_cases h : j.val < 32
  · rw [dif_pos h]
    exact congrArg (fun k => Ideal.cos (angI m c r k)) (Fin.ext (by show j.val = j.val % 32; omega))
  · rw [dif_neg h]
    exact congrArg (fun k => Ideal.cos (angI m c r k)) (Fin.ext (by show j.val - 32 = j.val % 32; omega))

theorem ref43 (c : Dev nD) (r : Fin 16384) (j : Fin 64) :
    val_main_v43 (F := Ideal) (m ((c : Thread nD τ).loc main_arg0)) (ix2 r j)
      = if j.val < 32 then -Ideal.sin (angI m c r ⟨j.val % 32, Nat.mod_lt _ (by decide)⟩) else Ideal.sin (angI m c r ⟨j.val % 32, Nat.mod_lt _ (by decide)⟩) := by
  have hj := j.isLt
  pointwise [val_main_v43, val_main_v42, val_main_v40, val_main_v38, val_main_v37, val_main_v36, val_main_v35, val_main_v34]
  by_cases h : j.val < 32
  · rw [dif_pos h, if_pos h]
    exact congrArg (fun k => -Ideal.sin (angI m c r k)) (Fin.ext (by show j.val = j.val % 32; omega))
  · rw [dif_neg h, if_neg h]
    exact congrArg (fun k => Ideal.sin (angI m c r k)) (Fin.ext (by show j.val - 32 = j.val % 32; omega))

theorem ref7 (c : Dev nD) (r : Fin 16384) (j : Fin 128) :
    val_main_v44 (F := Ideal) (m ((c : Thread nD τ).loc main_arg0)) (ix2 r j) = Ideal.cos (angI m c r ⟨j.val % 32, Nat.mod_lt _ (by decide)⟩) := by
  have hj := j.isLt
  pointwise [val_main_v44]
  by_cases h : j.val < 64
  · rw [dif_pos h]
    exact ref41 m c r _
  · rw [dif_neg h]
    refine (ref41 m c r _).trans (congrArg (fun k => Ideal.cos (angI m c r k)) (Fin.ext ?_))
    show (j.val - 64) % 32 = j.val % 32
    omega

theorem ref8 (c : Dev nD) (r : Fin 16384) (j : Fin 128) :
    val_main_v45 (F := Ideal) (m ((c : Thread nD τ).loc main_arg0)) (ix2 r j)
      = if j.val % 64 < 32 then -Ideal.sin (angI m c r ⟨j.val % 32, Nat.mod_lt _ (by decide)⟩) else Ideal.sin (angI m c r ⟨j.val % 32, Nat.mod_lt _ (by decide)⟩) := by
  have hj := j.isLt
  pointwise [val_main_v45]
  by_cases h : j.val < 64
  · rw [dif_pos h, ref43 m c r]
    have e : j.val % 64 = j.val := Nat.mod_eq_of_lt h
    rw [e]
  · rw [dif_neg h, ref43 m c r]
    have e : j.val % 64 = j.val - 64 := by omega
    have e' : (j.val - 64) % 32 = j.val % 32 := by omega
    simp only [e, e']

theorem final5 (c : Dev nD) : (dats m 0 c).arrAt 5 cfg0.N = val_main_v19 (F := Ideal) (m ((c : Thread nD τ).loc main_arg0)) := by
  refine (dats m 0 c).arrAt_eq_of_covers 5 _ (by decide +kernel) fun t hf y => ?_
  have e := (by decide +kernel : ∀ t : Fin grid0.N, win0_5.index t = ![t.val, 0]) t
  obtain ⟨a, b, rfl⟩ : ∃ (a : Fin 512) (b : Fin 128), y = ix2 a b := ⟨y 0, y 1, eq_ix2 y⟩
  blk_simp
  rw [after0_5]
  frame_out
  pointwise [k0_pay3, k0_pay2, k0_pay1]
  obtain ⟨r, hr, h0⟩ : ∃ r : Fin 16384, ((View.whole main_v32_0).slice (win0_5.rect t)).emb (ix2 a b) = ix2 r b ∧ r.val = t.val * 512 + a.val :=
    ⟨((View.whole main_v32_0).slice (win0_5.rect t)).emb (ix2 a b) 0, (eq_ix2 _).trans (congrArg (ix2 _) (Fin.ext (by blk_simp [e]))), by blk_simp [e]⟩
  rw [hr]
  rw [blk0 m c t a _ h0, blk1, ref5]
  rfl

theorem final6 (c : Dev nD) : (dats m 0 c).arrAt 6 cfg0.N = val_main_v21 (F := Ideal) (m ((c : Thread nD τ).loc main_arg0)) := by
  refine (dats m 0 c).arrAt_eq_of_covers 6 _ (by decide +kernel) fun t hf y => ?_
  have e := (by decide +kernel : ∀ t : Fin grid0.N, win0_6.index t = ![t.val, 0]) t
  obtain ⟨a, b, rfl⟩ : ∃ (a : Fin 512) (b : Fin 128), y = ix2 a b := ⟨y 0, y 1, eq_ix2 y⟩
  blk_simp
  rw [after0_6]
  frame_out
  pointwise [k0_pay4, k0_pay2, k0_pay1]
  obtain ⟨r, hr, h0⟩ : ∃ r : Fin 16384, ((View.whole main_v32_1).slice (win0_6.rect t)).emb (ix2 a b) = ix2 r b ∧ r.val = t.val * 512 + a.val :=
    ⟨((View.whole main_v32_1).slice (win0_6.rect t)).emb (ix2 a b) 0, (eq_ix2 _).trans (congrArg (ix2 _) (Fin.ext (by blk_simp [e]))), by blk_simp [e]⟩
  rw [hr]
  rw [blk0 m c t a _ h0, blk1, blk3, signed, ref6]
  rfl

theorem final7 (c : Dev nD) : (dats m 0 c).arrAt 7 cfg0.N = val_main_v44 (F := Ideal) (m ((c : Thread nD τ).loc main_arg0)) := by
  refine (dats m 0 c).arrAt_eq_of_covers 7 _ (by decide +kernel) fun t hf y => ?_
  have e := (by decide +kernel : ∀ t : Fin grid0.N, win0_7.index t = ![t.val, 0]) t
  obtain ⟨a, b, rfl⟩ : ∃ (a : Fin 512) (b : Fin 128), y = ix2 a b := ⟨y 0, y 1, eq_ix2 y⟩
  blk_simp
  rw [after0_7]
  frame_out
  pointwise [k0_pay6, k0_pay5, k0_pay1]
  obtain ⟨r, hr, h0⟩ : ∃ r : Fin 16384, ((View.whole main_v32_2).slice (win0_7.rect t)).emb (ix2 a b) = ix2 r b ∧ r.val = t.val * 512 + a.val :=
    ⟨((View.whole main_v32_2).slice (win0_7.rect t)).emb (ix2 a b) 0, (eq_ix2 _).trans (congrArg (ix2 _) (Fin.ext (by blk_simp [e]))), by blk_simp [e]⟩
  rw [hr]
  rw [blk0 m c t a _ h0, blk2, ref7]
  rfl

theorem final8 (c : Dev nD) : (dats m 0 c).arrAt 8 cfg0.N = val_main_v45 (F := Ideal) (m ((c : Thread nD τ).loc main_arg0)) := by
  refine (dats m 0 c).arrAt_eq_of_covers 8 _ (by decide +kernel) fun t hf y => ?_
  have e := (by decide +kernel : ∀ t : Fin grid0.N, win0_8.index t = ![t.val, 0]) t
  obtain ⟨a, b, rfl⟩ : ∃ (a : Fin 512) (b : Fin 128), y = ix2 a b := ⟨y 0, y 1, eq_ix2 y⟩
  blk_simp
  rw [after0_8]
  frame_out
  pointwise [k0_pay7, k0_pay5, k0_pay1]
  obtain ⟨r, hr, h0⟩ : ∃ r : Fin 16384, ((View.whole main_v32_3).slice (win0_8.rect t)).emb (ix2 a b) = ix2 r b ∧ r.val = t.val * 512 + a.val :=
    ⟨((View.whole main_v32_3).slice (win0_8.rect t)).emb (ix2 a b) 0, (eq_ix2 _).trans (congrArg (ix2 _) (Fin.ext (by blk_simp [e]))), by blk_simp [e]⟩
  rw [hr]
  rw [blk0 m c t a _ h0, blk2, blk4, signed, ref8]
  rfl

end Cert.Kernel7Ideal.RefValue

end
-- ==== Proof.AttRef.lean ====
/- The attention inputs: the reference's seven results, element by element. -/
module

public import proofs.«01_k».proof.Proof.Gen.Reference8Ideal.Read
public import Idealize.ShloMosaic.Lib.Pointwise

@[expose] public section

set_option maxRecDepth 16384

noncomputable section

namespace Cert.Reference8Ideal.Att

open Cert.Reference8Ideal Idealize.ShloMosaic Idealize.ShloMosaic.TcCoe Idealize.SL.Sem
open Cert.Reference8Ideal.Read

variable (X : Vec Ideal S16384x16384 .f32) (C S C' S' : Vec Ideal S16384x128 .f32) (G H : Vec Ideal S64 .f32)

/-- A row's mean, its variance and its layer norm. -/
def mean (f : Fin 64 → EReal) : EReal := Ideal.div (∑ x, f x) (Ideal.ofBits FTy.f32 0x42800000#32)
def var (f : Fin 64 → EReal) : EReal := Ideal.div (∑ x, (f x - mean f) * (f x - mean f)) (Ideal.ofBits FTy.f32 0x42800000#32)
def ln (f g h : Fin 64 → EReal) (k : Fin 64) : EReal := (f k - mean f) * Ideal.rsqrt (var f + Ideal.ofBits FTy.f32 0x3727C5AC#32) * g k + h k
/-- The layer norm turned by the tables `c` and `s`. -/
def turned (f g h c s : Fin 64 → EReal) (k : Fin 64) : EReal := ln f g h k * c k + ln f g h ⟨(k.val + 32) % 64, Nat.mod_lt _ (by decide)⟩ * s k

/-- Equal coordinates, equal elements. -/
theorem same (X : Vec Ideal S16384x16384 .f32) {r r' c c' : Fin 16384} (h : r.val = r'.val) (h' : c.val = c'.val) : X (ix2 r c) = X (ix2 r' c') := by
  rw [Fin.ext h, Fin.ext h']

theorem v1_at (r : Fin 16384) (h : Fin 16) (b : Fin 128) (c : Fin 16384) (e : c.val = 128 * h.val + b.val) :
    val_main_v1 (F := Ideal) X (ix3 r h b) = X (ix2 r c) := by
  pointwise [val_main_v1, val_main_v0]
  exact same X rfl (by show h.val * 128 + b.val = c.val; omega)

theorem v20_at (r : Fin 16384) (h : Fin 16) (b : Fin 128) (c c' : Fin 16384) (e : c.val = 128 * h.val + b.val) (e' : c'.val = 128 * h.val + (b.val + 64) % 128) :
    (val_main_v20 (F := Ideal) X C S (ix3 r h b) : EReal) = (X (ix2 r c) * C (ix2 r b) + X (ix2 r c') * S (ix2 r b)) * Ideal.ofBits FTy.f32 0x3E0293EE#32 := by
  have hb := b.isLt
  pointwise [val_main_v20, val_main_v18, val_main_v14, val_main_v17, val_main_v15, val_main_v12, val_main_v11, val_main_v13, val_main_v16, val_main_v9, val_main_v10, val_main_v19, val_main_cst]
  by_cases hh : b.val < 64
  · rw [dif_pos hh, v1_at X r h b c e, v1_at X r h _ c' (by rw [e']; show _ = 128 * h.val + (64 + b.val); omega)]
  · rw [dif_neg hh, v1_at X r h b c e, v1_at X r h _ c' (by rw [e']; show _ = 128 * h.val + (b.val - 64); omega)]

theorem v79_at (t : Fin 32) (h : Fin 16) (a : Fin 512) (b : Fin 128) (r c c' : Fin 16384) (er : r.val = t.val * 512 + a.val) (e : c.val = 128 * h.val + b.val) (e' : c'.val = 128 * h.val + (b.val + 64) % 128) :
    (val_main_v79 (F := Ideal) X C S (ix4 t h a b) : EReal) = (X (ix2 r c) * C (ix2 r b) + X (ix2 r c') * S (ix2 r b)) * Ideal.ofBits FTy.f32 0x3E0293EE#32 := by
  pointwise [val_main_v79, val_main_v78, val_main_v77]
  refine (v20_at X C S _ h b c c' e e').trans ?_
  rw [show (⟨t.val * 512 + a.val, by omega⟩ : Fin 16384) = r from Fin.ext er.symm]

theorem v3_at (r : Fin 16384) (h : Fin 2) (b : Fin 128) (c : Fin 16384) (e : c.val = 14336 + 128 * h.val + b.val) :
    val_main_v3 (F := Ideal) X (ix3 r h b) = X (ix2 r c) := by
  pointwise [val_main_v3, val_main_v2]
  exact same X rfl (by simp only []; omega)

theorem v30_at (r : Fin 16384) (h : Fin 2) (b : Fin 128) (c c' : Fin 16384) (e : c.val = 14336 + 128 * h.val + b.val) (e' : c'.val = 14336 + 128 * h.val + (b.val + 64) % 128) :
    (val_main_v30 (F := Ideal) X C S (ix3 r h b) : EReal) = X (ix2 r c) * C (ix2 r b) + X (ix2 r c') * S (ix2 r b) := by
  have hb := b.isLt
  pointwise [val_main_v30, val_main_v26, val_main_v29, val_main_v27, val_main_v24, val_main_v23, val_main_v25, val_main_v28, val_main_v21, val_main_v22]
  by_cases hh : b.val < 64
  · rw [dif_pos hh, v3_at X r h b c e, v3_at X r h _ c' (by rw [e']; show _ = 14336 + 128 * h.val + (64 + b.val); omega)]
  · rw [dif_neg hh, v3_at X r h b c e, v3_at X r h _ c' (by rw [e']; show _ = 14336 + 128 * h.val + (b.val - 64); omega)]

theorem v81_at (r : Fin 16384) (j : Fin 256) (h : Fin 2) (b : Fin 128) (c c' : Fin 16384) (ej : j.val = 128 * h.val + b.val) (e : c.val = 14336 + 128 * h.val + b.val) (e' : c'.val = 14336 + 128 * h.val + (b.val + 64) % 128) :
    (val_main_v81 (F := Ideal) X C S (ix2 r j) : EReal) = X (ix2 r c) * C (ix2 r b) + X (ix2 r c') * S (ix2 r b) := by
  have hb := b.isLt
  pointwise [val_main_v81, val_main_v80]
  rw [← v30_at X C S r h b c c' e e', show (⟨j.val / 128, by omega⟩ : Fin 2) = h from Fin.ext (show j.val / 128 = h.val by omega),
    show (⟨j.val % 128, by omega⟩ : Fin 128) = b from Fin.ext (show j.val % 128 = b.val by omega)]

theorem v83_at (r : Fin 16384) (j : Fin 512) (c : Fin 16384) (e : j.val % 256 < 128 → c.val = 14592 + (j.val / 256 * 128 + j.val % 256)) :
    (val_main_v83 (F := Ideal) X (ix2 r j) : EReal) = if j.val % 256 < 128 then X (ix2 r c) else 1 := by
  pointwise [val_main_v83, val_main_v82, val_main_v32, val_main_v5, val_main_v4, val_main_v31, val_main_cst_0]
  by_cases h : j.val % 256 < 128
  · rw [dif_pos h, if_pos h]
    exact same X rfl (e h).symm
  · rw [dif_neg h, if_neg h]

theorem v7_at (r : Fin 16384) (h : Fin 4) (p : Fin 2) (b : Fin 64) (c : Fin 16384) (e : c.val = 14848 + 128 * h.val + 64 * p.val + b.val) :
    val_main_v7 (F := Ideal) X (ix4 r h p b) = X (ix2 r c) := by
  pointwise [val_main_v7, val_main_v6]
  exact same X rfl (by show 14848 + (h.val * 128 + p.val * 64 + b.val) = c.val; omega)

theorem v42_at (r : Fin 16384) (h : Fin 4) (p : Fin 2) (b : Fin 64) (j : Fin 128) (c c' : Fin 16384) (ej : j.val = 64 * p.val + b.val) (e : c.val = 14848 + 128 * h.val + 64 * p.val + b.val)
    (e' : c'.val = 14848 + 128 * h.val + 64 * p.val + (b.val + 32) % 64) :
    (val_main_v42 (F := Ideal) X C' S' (ix4 r h p b) : EReal) = X (ix2 r c) * C' (ix2 r j) + X (ix2 r c') * S' (ix2 r j) := by
  have hb := b.isLt
  pointwise [val_main_v42, val_main_v38, val_main_v41, val_main_v39, val_main_v36, val_main_v35, val_main_v37, val_main_v40, val_main_v33, val_main_v34]
  rw [show (⟨p.val * 64 + b.val, by omega⟩ : Fin 128) = j from Fin.ext (show p.val * 64 + b.val = j.val by omega)]
  by_cases hh : b.val < 32
  · rw [dif_pos hh, v7_at X r h p b c e, v7_at X r h p _ c' (by rw [e']; show _ = 14848 + 128 * h.val + 64 * p.val + (32 + b.val); omega)]
  · rw [dif_neg hh, v7_at X r h p b c e, v7_at X r h p _ c' (by rw [e']; show _ = 14848 + 128 * h.val + 64 * p.val + (b.val - 32); omega)]

theorem v86_at (t : Fin 32) (h : Fin 4) (a : Fin 512) (j : Fin 128) (r c c' : Fin 16384) (er : r.val = t.val * 512 + a.val)
    (e : c.val = 14848 + 128 * h.val + j.val) (e' : c'.val = 14848 + 128 * h.val + (64 * (j.val / 64) + (j.val % 64 + 32) % 64)) :
    (val_main_v86 (F := Ideal) X C' S' (ix4 t h a j) : EReal) = X (ix2 r c) * C' (ix2 r j) + X (ix2 r c') * S' (ix2 r j) := by
  have hj := j.isLt
  pointwise [val_main_v86, val_main_v85, val_main_v84]
  rw [show (⟨t.val * 512 + a.val, by omega⟩ : Fin 16384) = r from Fin.ext er.symm]
  exact v42_at X C' S' r h _ _ j c c' (by show j.val = 64 * (j.val / 64) + j.val % 64; omega)
    (by rw [e]; show _ = 14848 + 128 * h.val + 64 * (j.val / 64) + j.val % 64; omega)
    (by rw [e']; show _ = 14848 + 128 * h.val + 64 * (j.val / 64) + (j.val % 64 + 32) % 64; omega)

theorem v94_at (r : Fin 16384) (j : Fin 128) (c : Fin 16384) (e : c.val = 15360 + j.val) :
    (val_main_v94 (F := Ideal) X (ix2 r j) : EReal) = X (ix2 r c) * Ideal.ofBits FTy.f32 0x3EB504F3#32 * Ideal.ofBits FTy.f32 0x3E000000#32 := by
  pointwise [val_main_v94, val_main_v93, val_main_v92, val_main_v91, val_main_cst_7, val_main_cst_8, val_main_v8]
  rw [same X rfl (show (⟨15360 + j.val, by omega⟩ : Fin 16384).val = c.val from e.symm)]

theorem v43_at (r : Fin 16384) (j : Fin 64) : val_main_v43 (F := Ideal) X (ix2 r j) = X (ix2 r ⟨15360 + j.val, by omega⟩) := by
  pointwise [val_main_v43, val_main_v8]

theorem v67_at (r : Fin 16384) (j : Fin 64) : (val_main_v67 (F := Ideal) X G H (ix2 r j) : EReal)
    = ln (fun k => X (ix2 r ⟨15360 + k.val, by omega⟩)) (fun k => G (ix1 k)) (fun k => H (ix1 k)) j := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_cst_1, val_main_cst_2, val_main_cst_3, val_main_cst_4, val_main_cst_5]
  simp only [v43_at]
  rfl

theorem v75_at (r : Fin 16384) (j : Fin 64) : (val_main_v75 (F := Ideal) X C' S' G H (ix2 r j) : EReal)
    = turned (fun k => X (ix2 r ⟨15360 + k.val, by omega⟩)) (fun k => G (ix1 k)) (fun k => H (ix1 k)) (fun k => C' (ix2 r ⟨k.val, by omega⟩)) (fun k => S' (ix2 r ⟨k.val, by omega⟩)) j := by
  pointwise [val_main_v75, val_main_v74, val_main_v73, val_main_v72, val_main_v71, val_main_v70, val_main_v69, val_main_v68]
  unfold turned
  by_cases h : j.val < 32
  · rw [dif_pos h, v67_at, v67_at, show (⟨32 + j.val, by omega⟩ : Fin 64) = ⟨(j.val + 32) % 64, Nat.mod_lt _ (by decide)⟩ from Fin.ext (show 32 + j.val = (j.val + 32) % 64 by omega)]
  · rw [dif_neg h, v67_at, v67_at, show (⟨j.val - 32, by omega⟩ : Fin 64) = ⟨(j.val + 32) % 64, Nat.mod_lt _ (by decide)⟩ from Fin.ext (show j.val - 32 = (j.val + 32) % 64 by omega)]

/-- The indexer's key, `turned` at row `r`. -/
def key (r : Fin 16384) : Fin 64 → EReal :=
  turned (fun k => X (ix2 r ⟨15360 + k.val, by omega⟩)) (fun k => G (ix1 k)) (fun k => H (ix1 k)) (fun k => C' (ix2 r ⟨k.val, by omega⟩)) (fun k => S' (ix2 r ⟨k.val, by omega⟩))

theorem v88_at (r : Fin 16384) (j : Fin 128) : (val_main_v88 (F := Ideal) X C' S' G H (ix2 r j) : EReal) = if h : j.val < 64 then key X C' S' G H r ⟨j.val, h⟩ else 0 := by
  pointwise [val_main_v88, val_main_v87, val_main_v76, val_main_cst_6]
  by_cases h : j.val < 64
  · rw [dif_pos h, dif_pos h]
    exact v75_at X C' S' G H r _
  · rw [dif_neg h, dif_neg h]

theorem v90_at (r : Fin 16384) (j : Fin 128) : (val_main_v90 (F := Ideal) X C' S' G H (ix2 r j) : EReal) = if h : j.val < 64 then 0 else key X C' S' G H r ⟨j.val - 64, by omega⟩ := by
  pointwise [val_main_v90, val_main_v89, val_main_v76, val_main_cst_6]
  by_cases h : j.val < 64
  · rw [dif_pos h, dif_pos h]
  · rw [dif_neg h, dif_neg h]
    exact v75_at X C' S' G H r _
-- ==== Proof.AttPay.lean ====
/- The attention inputs: the kernel's seven blocks of a grid point, element by element. -/
module

public import proofs.«01_k».proof.Proof.Gen.Kernel8Ideal.Value
public import proofs.«01_k».proof.Proof.AttRef
public import Idealize.ShloMosaic.Lib.Pointwise
public import Idealize.ShloMosaic.Lib.Pipeline.ValueKit

@[expose] public section

set_option maxRecDepth 16384

noncomputable section

namespace Cert.Kernel8Ideal.RefValue

open Cert.Reference8Ideal.Att (ln turned key)
open Cert.Kernel8Ideal Cert.Kernel8Ideal.Gen Idealize.ShloMosaic Idealize.ShloMosaic.TcCoe Idealize.SL.Sem

/-- The lane half a head away. -/
def far (b : Fin 128) : Fin 128 := ⟨(b.val + 64) % 128, Nat.mod_lt _ (by decide)⟩
/-- The lane half an indexer head away, within the head. -/
def near (b : Fin 128) : Fin 128 := ⟨if b.val % 64 < 32 then (b.val + 32) % 128 else (b.val + 96) % 128, by split_ifs <;> exact Nat.mod_lt _ (by decide)⟩

theorem sel {α : Type} (p : Prop) [Decidable p] (x y : α) : Scalar.select (if p then 1#1 else 0#1) x y = if p then x else y := by
  split_ifs <;> rfl

/-- A sum over the first half of the lanes. -/
theorem sum_half (f : Fin 128 → EReal) : (∑ x : Fin 128, if x.val < 64 then f x else 0) = ∑ k : Fin 64, f ⟨k.val, by omega⟩ := by
  refine (Fin.sum_univ_add (a := 64) (b := 64) _).trans ?_
  rw [Finset.sum_eq_zero (s := Finset.univ) (f := fun i : Fin 64 => if (Fin.natAdd 64 i).val < 64 then f (Fin.natAdd 64 i) else 0), add_zero]
  · exact Finset.sum_congr rfl fun k _ => if_pos k.isLt
  · intro i _
    exact if_neg (by show ¬ 64 + i.val < 64; omega)

/-- The lanes whose head half comes first. -/
theorem pay5_at (a : Fin 512) (b : Fin 128) : (k0_pay5 (ix2 a b) : BitVec 1) = if b.val % 64 < 32 then 1#1 else 0#1 := by
  pointwise [k0_pay5]
  revert b
  decide +kernel

theorem pay6_at (v0 v1 v : Vec Ideal S512x128 .f32) (p q : Fin 1) (a : Fin 512) (b : Fin 128) :
    (k0_pay6 (F := Ideal) v0 v1 v (ix4 p q a b) : EReal)
      = (v (ix2 a b) * v0 (ix2 a b) + v (ix2 a (far b)) * v1 (ix2 a b)) * Ideal.ofBits FTy.f32 0x3E0293EE#32 := by
  have hp : p = 0 := Subsingleton.elim _ _
  have hq : q = 0 := Subsingleton.elim _ _
  subst hp hq
  pointwise [k0_pay6]
  have e : ∀ b : Fin 128, (b.val + 128 - 64) % 128 = (far b).val := by decide
  simp only [e]

theorem pay23_at (v0 v1 v : Vec Ideal S512x128 .f32) (a : Fin 512) (b : Fin 128) :
    (k0_pay23 (F := Ideal) v0 v1 v (ix2 a b) : EReal) = v (ix2 a b) * v0 (ix2 a b) + v (ix2 a (far b)) * v1 (ix2 a b) := by
  pointwise [k0_pay23]
  have e : ∀ b : Fin 128, (b.val + 128 - 64) % 128 = (far b).val := by decide
  simp only [e]

theorem pay24_at (v : Vec Ideal S512x128 .f32) (a : Fin 512) (b : Fin 128) : (k0_pay24 (F := Ideal) v (ix2 a b) : EReal) = v (ix2 a b) := by
  pointwise [k0_pay24]

theorem pay30_at (v2 v3 v : Vec Ideal S512x128 .f32) (p q : Fin 1) (a : Fin 512) (b : Fin 128) :
    (k0_pay30 (F := Ideal) v2 v3 k0_pay5 v (ix4 p q a b) : EReal) = v (ix2 a b) * v2 (ix2 a b) + v (ix2 a (near b)) * v3 (ix2 a b) := by
  have hp : p = 0 := Subsingleton.elim _ _
  have hq : q = 0 := Subsingleton.elim _ _
  subst hp hq
  pointwise [k0_pay30]
  rw [pay5_at, sel]
  by_cases hc : b.val % 64 < 32
  · rw [if_pos hc, show (⟨(b.val + 128 - 96) % 128, Nat.mod_lt _ (by decide)⟩ : Fin 128) = near b from Fin.ext (show _ = ite _ _ _ by rw [if_pos hc]; show (b.val + 128 - 96) % 128 = _; omega)]
  · rw [if_neg hc, show (⟨(b.val + 128 - 32) % 128, Nat.mod_lt _ (by decide)⟩ : Fin 128) = near b from Fin.ext (show _ = ite _ _ _ by rw [if_neg hc]; show (b.val + 128 - 32) % 128 = _; omega)]

theorem pay4_at (v : Vec Ideal S512x128 .f32) (a : Fin 512) (b : Fin 128) :
    (k0_pay4 (F := Ideal) v (ix2 a b) : EReal) = v (ix2 a b) * Ideal.ofBits FTy.f32 0x3EB504F3#32 * Ideal.ofBits FTy.f32 0x3E000000#32 := by
  pointwise [k0_pay4]

theorem pay35_at (a : Fin 512) (b : Fin 128) : (k0_pay35 (iota .tc S512x128 32 [1] iota_S512x128_d1_w32) (ix2 a b) : BitVec 1) = if b.val < 64 then 1#1 else 0#1 := by
  pointwise [k0_pay35]
  revert b
  decide +kernel

/-- The layer norm of a row, in the lanes of its 64 columns. -/
theorem pay36_at (w : IVec S512x128 32) (hw : ∀ (a : Fin 512) (b : Fin 128), (k0_pay35 w (ix2 a b) : BitVec 1) = if b.val < 64 then 1#1 else 0#1)
    (v : Vec Ideal S512x128 .f32) (g h : Vec Ideal S1x128 .f32) (a : Fin 512) (b : Fin 64) :
    (k0_pay36 (F := Ideal) w v g h (ix2 a (⟨b.val, by omega⟩ : Fin 128)) : EReal)
      = ln (fun k => v (ix2 a ⟨k.val, by omega⟩)) (fun k => g (ix2 0 ⟨k.val, by omega⟩)) (fun k => h (ix2 0 ⟨k.val, by omega⟩)) b := by
  pointwise [k0_pay36]
  simp only [hw, sel, sum_half]
  rfl

/-- The key's block: turned in the first half of the lanes, nothing in the others. -/
theorem pay1_at (v2 v3 : Vec Ideal S512x128 .f32) (w : IVec S512x128 32) (hw : ∀ (a : Fin 512) (b : Fin 128), (k0_pay35 w (ix2 a b) : BitVec 1) = if b.val < 64 then 1#1 else 0#1)
    (v : Vec Ideal S512x128 .f32) (g h : Vec Ideal S1x128 .f32) (a : Fin 512) (b : Fin 128) :
    (k0_pay1 (F := Ideal) v2 v3 k0_pay5 (k0_pay35 w) (k0_pay36 w v g h) (k0_pay37 w v g h) (k0_pay38 w v g h) (ix2 a b) : EReal)
      = if hb : b.val < 64 then turned (fun k => v (ix2 a ⟨k.val, by omega⟩)) (fun k => g (ix2 0 ⟨k.val, by omega⟩)) (fun k => h (ix2 0 ⟨k.val, by omega⟩))
          (fun k => v2 (ix2 a ⟨k.val, by omega⟩)) (fun k => v3 (ix2 a ⟨k.val, by omega⟩)) ⟨b.val, hb⟩ else 0 := by
  pointwise [k0_pay1, k0_pay37, k0_pay38]
  rw [hw, sel, pay5_at, sel]
  by_cases hb : b.val < 64
  · rw [if_pos hb, dif_pos hb]
    unfold turned
    have e := pay36_at w hw v g h a
    rw [← e, ← e]
    by_cases hc : b.val % 64 < 32
    · rw [if_pos hc, show (⟨(b.val + 128 - 96) % 128, Nat.mod_lt _ (by decide)⟩ : Fin 128) = ⟨(b.val + 32) % 64, by omega⟩ from Fin.ext (show (b.val + 128 - 96) % 128 = (b.val + 32) % 64 by omega)]
    · rw [if_neg hc, show (⟨(b.val + 128 - 32) % 128, Nat.mod_lt _ (by decide)⟩ : Fin 128) = ⟨(b.val + 32) % 64, by omega⟩ from Fin.ext (show (b.val + 128 - 32) % 128 = (b.val + 32) % 64 by omega)]
  · rw [if_neg hb, dif_neg hb]

theorem pay2_at (v2 v3 : Vec Ideal S512x128 .f32) (u w : IVec S512x128 1) (x y z : FVec Ideal S512x128 .f32) (a : Fin 512) (b : Fin 128) :
    (k0_pay2 (F := Ideal) v2 v3 u w x y z (ix2 a b) : EReal) = k0_pay1 (F := Ideal) v2 v3 u w x y z (ix2 a b) := by
  pointwise [k0_pay2]

theorem pay3_at (v2 v3 : Vec Ideal S512x128 .f32) (u w : IVec S512x128 1) (x y z : FVec Ideal S512x128 .f32) (a : Fin 512) (b : Fin 128) :
    (k0_pay3 (F := Ideal) v2 v3 u w x y z (ix2 a b) : EReal) = k0_pay1 (F := Ideal) v2 v3 u w x y z (ix2 a (far b)) := by
  pointwise [k0_pay3]
  have e : ∀ b : Fin 128, (b.val + 128 - 64) % 128 = (far b).val := by decide
  simp only [e]

variable (x0 : Vec Ideal S512x2048 .f32) (x1 x2 : Vec Ideal S512x256 .f32) (x3 : Vec Ideal S512x512 .f32) (x4 x5 x6 x7 x8 : Vec Ideal S512x128 .f32) (x9 x10 : Vec Ideal S1x128 .f32)

/-- The block of queries, at head `y 1`, row `y 2`, lane `y 3`. -/
def qBlk (y : S1x16x512x128.Idx) : EReal :=
  (x0 (ix2 (y 2) ⟨128 * (y 1).val + (y 3).val, by have h1 : (y 1).val < 16 := (y 1).isLt; have h3 : (y 3).val < 128 := (y 3).isLt; omega⟩) * x5 (ix2 (y 2) (y 3))
    + x0 (ix2 (y 2) ⟨128 * (y 1).val + (far (y 3)).val, by have h1 : (y 1).val < 16 := (y 1).isLt; have h3 : (far (y 3)).val < 128 := (far (y 3)).isLt; omega⟩) * x6 (ix2 (y 2) (y 3)))
    * Ideal.ofBits FTy.f32 0x3E0293EE#32

theorem q_piece (h : ℕ) (hh : h < 16) (i0 : ∀ a, (![0, 128 * h] : Fin 2 → ℕ) a + S512x128.size a ≤ S512x2048.size a)
    (i1 : ∀ a, (![0, h, 0, 0] : Fin 4 → ℕ) a + S1x1x512x128.size a ≤ S1x16x512x128.size a) (x : S1x1x512x128.Idx) :
    (k0_pay6 (F := Ideal) (View.ld x5 r0_0) (View.ld x6 r0_0) (View.ld x0 (Rect.unit (s := S512x2048) ![0, 128 * h] S512x128.size i0)) x : EReal)
      = qBlk x0 x5 x6 ((Rect.unit (s := S1x16x512x128) ![0, h, 0, 0] S1x1x512x128.size i1).emb x) := by
  obtain ⟨p, q, a, b, rfl⟩ : ∃ (p q : Fin 1) (a : Fin 512) (b : Fin 128), x = ix4 p q a b := ⟨x 0, x 1, x 2, x 3, eq_ix4 x⟩
  rw [pay6_at]
  have e : (Rect.unit (s := S1x16x512x128) ![0, h, 0, 0] S1x1x512x128.size i1).emb (ix4 p q a b) = ix4 (0 : Fin 1) ⟨h, hh⟩ a b := by
    funext k
    apply Fin.ext
    match k with
    | ⟨0, _⟩ => show 0 + 1 * p.val = 0; omega
    | ⟨1, _⟩ => show h + 1 * q.val = h; omega
    | ⟨2, _⟩ => show 0 + 1 * a.val = a.val; omega
    | ⟨3, _⟩ => show 0 + 1 * b.val = b.val; omega
  rw [e]
  have l0 : ∀ b : Fin 128, View.ld x0 (Rect.unit (s := S512x2048) ![0, 128 * h] S512x128.size i0) (ix2 a b) = x0 (ix2 a ⟨128 * h + b.val, by omega⟩) :=
    fun b => View.ld_unit_apply_of x0 _ _ i0 _ _ fun k => by
      match k with
      | ⟨0, _⟩ => show a.val = 0 + a.val; omega
      | ⟨1, _⟩ => rfl
  have l5 : View.ld x5 r0_0 = x5 := View.ld_unit_lit _ _ (by decide)
  have l6 : View.ld x6 r0_0 = x6 := View.ld_unit_lit _ _ (by decide)
  rw [l0, l0, l5, l6]
  rfl

theorem out11_at (y : S1x16x512x128.Idx) : (out0_11 (F := Ideal) x0 x1 x2 x3 x4 x5 x6 x7 x8 x9 x10 y : EReal) = qBlk x0 x5 x6 y := by
  unfold_out out0_11
  refine View.canon_apply_of_pieces (Val := Elt Ideal) (e := .bf16) (qBlk x0 x5 x6) _ ?_ y (cover0_11 _ _ _ _ _ _ _ _ _ _ _ _ _ _ _ _ y)
  exact List.forall_mem_cons.2 ⟨q_piece x0 x5 x6 15 (by decide) (by decide) (by decide), List.forall_mem_cons.2 ⟨q_piece x0 x5 x6 14 (by decide) (by decide) (by decide),
    List.forall_mem_cons.2 ⟨q_piece x0 x5 x6 13 (by decide) (by decide) (by decide), List.forall_mem_cons.2 ⟨q_piece x0 x5 x6 12 (by decide) (by decide) (by decide),
    List.forall_mem_cons.2 ⟨q_piece x0 x5 x6 11 (by decide) (by decide) (by decide), List.forall_mem_cons.2 ⟨q_piece x0 x5 x6 10 (by decide) (by decide) (by decide),
    List.forall_mem_cons.2 ⟨q_piece x0 x5 x6 9 (by decide) (by decide) (by decide), List.forall_mem_cons.2 ⟨q_piece x0 x5 x6 8 (by decide) (by decide) (by decide),
    List.forall_mem_cons.2 ⟨q_piece x0 x5 x6 7 (by decide) (by decide) (by decide), List.forall_mem_cons.2 ⟨q_piece x0 x5 x6 6 (by decide) (by decide) (by decide),
    List.forall_mem_cons.2 ⟨q_piece x0 x5 x6 5 (by decide) (by decide) (by decide), List.forall_mem_cons.2 ⟨q_piece x0 x5 x6 4 (by decide) (by decide) (by decide),
    List.forall_mem_cons.2 ⟨q_piece x0 x5 x6 3 (by decide) (by decide) (by decide), List.forall_mem_cons.2 ⟨q_piece x0 x5 x6 2 (by decide) (by decide) (by decide),
    List.forall_mem_cons.2 ⟨q_piece x0 x5 x6 1 (by decide) (by decide) (by decide), List.forall_mem_cons.2 ⟨q_piece x0 x5 x6 0 (by decide) (by decide) (by decide),
    fun _ hp => absurd hp List.not_mem_nil⟩⟩⟩⟩⟩⟩⟩⟩⟩⟩⟩⟩⟩⟩⟩⟩

/-- The block of keys, at row `y 0`, column `y 1`: its head, and its lane. -/
def kBlk (y : S512x256.Idx) : EReal :=
  x1 (ix2 (y 0) (y 1)) * x5 (ix2 (y 0) ⟨(y 1).val % 128, Nat.mod_lt _ (by decide)⟩)
    + x1 (ix2 (y 0) ⟨128 * ((y 1).val / 128) + ((y 1).val % 128 + 64) % 128, by have h1 : (y 1).val < 256 := (y 1).isLt; omega⟩) * x6 (ix2 (y 0) ⟨(y 1).val % 128, Nat.mod_lt _ (by decide)⟩)

theorem k_piece (h : ℕ) (hh : h < 2) (i0 : ∀ a, (![0, 128 * h] : Fin 2 → ℕ) a + S512x128.size a ≤ S512x256.size a) (x : S512x128.Idx) :
    (k0_pay23 (F := Ideal) (View.ld x5 r0_0) (View.ld x6 r0_0) (View.ld x1 (Rect.unit (s := S512x256) ![0, 128 * h] S512x128.size i0)) x : EReal)
      = kBlk x1 x5 x6 ((Rect.unit (s := S512x256) ![0, 128 * h] S512x128.size i0).emb x) := by
  obtain ⟨a, b, rfl⟩ : ∃ (a : Fin 512) (b : Fin 128), x = ix2 a b := ⟨x 0, x 1, eq_ix2 x⟩
  rw [pay23_at]
  have e : (Rect.unit (s := S512x256) ![0, 128 * h] S512x128.size i0).emb (ix2 a b) = ix2 a (⟨128 * h + b.val, by omega⟩ : Fin 256) := by
    funext k
    apply Fin.ext
    match k with
    | ⟨0, _⟩ => show 0 + 1 * a.val = a.val; omega
    | ⟨1, _⟩ => show 128 * h + 1 * b.val = 128 * h + b.val; omega
  rw [e]
  have l0 : ∀ b : Fin 128, View.ld x1 (Rect.unit (s := S512x256) ![0, 128 * h] S512x128.size i0) (ix2 a b) = x1 (ix2 a ⟨128 * h + b.val, by omega⟩) :=
    fun b => View.ld_unit_apply_of x1 _ _ i0 _ _ fun k => by
      match k with
      | ⟨0, _⟩ => show a.val = 0 + a.val; omega
      | ⟨1, _⟩ => rfl
  have l5 : View.ld x5 r0_0 = x5 := View.ld_unit_lit _ _ (by decide)
  have l6 : View.ld x6 r0_0 = x6 := View.ld_unit_lit _ _ (by decide)
  rw [l0, l0, l5, l6]
  show _ = x1 (ix2 a _) * x5 (ix2 a _) + x1 (ix2 a _) * x6 (ix2 a _)
  have e1 : (⟨(128 * h + b.val) % 128, Nat.mod_lt _ (by decide)⟩ : Fin 128) = b := Fin.ext (show (128 * h + b.val) % 128 = b.val by omega)
  have e2 : (⟨128 * h + (far b).val, by have := (far b).isLt; omega⟩ : Fin 256) = ⟨128 * ((128 * h + b.val) / 128) + ((128 * h + b.val) % 128 + 64) % 128, by omega⟩ :=
    Fin.ext (show 128 * h + (b.val + 64) % 128 = 128 * ((128 * h + b.val) / 128) + ((128 * h + b.val) % 128 + 64) % 128 by omega)
  rw [e2]
  exact congrArg (fun z : Fin 128 => (x1 (ix2 a (⟨128 * h + b.val, by omega⟩ : Fin 256)) * x5 (ix2 a z) + x1 (ix2 a _) * x6 (ix2 a z) : EReal)) e1.symm

theorem out12_at (y : S512x256.Idx) : (out0_12 (F := Ideal) x0 x1 x2 x3 x4 x5 x6 x7 x8 x9 x10 y : EReal) = kBlk x1 x5 x6 y := by
  unfold_out out0_12
  refine View.canon_apply_of_pieces (Val := Elt Ideal) (e := .bf16) (kBlk x1 x5 x6) _ ?_ y (cover0_12 _ _ y)
  exact List.forall_mem_cons.2 ⟨k_piece x1 x5 x6 1 (by decide) (by decide), List.forall_mem_cons.2 ⟨k_piece x1 x5 x6 0 (by decide) (by decide),
    fun _ hp => absurd hp List.not_mem_nil⟩⟩

/-- The block of values, each head's beside a head of ones. -/
def vBlk (y : S512x512.Idx) : EReal :=
  if (y 1).val % 256 < 128 then x2 (ix2 (y 0) ⟨((y 1).val / 256 * 128 + (y 1).val % 256) % 256, Nat.mod_lt _ (by decide)⟩) else 1

theorem v_piece (h : ℕ) (hh : h < 2) (i0 : ∀ a, (![0, 128 * h] : Fin 2 → ℕ) a + S512x128.size a ≤ S512x256.size a)
    (i1 : ∀ a, (![0, 256 * h] : Fin 2 → ℕ) a + S512x128.size a ≤ S512x512.size a) (x : S512x128.Idx) :
    (k0_pay24 (F := Ideal) (View.ld x2 (Rect.unit (s := S512x256) ![0, 128 * h] S512x128.size i0)) x : EReal)
      = vBlk x2 ((Rect.unit (s := S512x512) ![0, 256 * h] S512x128.size i1).emb x) := by
  obtain ⟨a, b, rfl⟩ : ∃ (a : Fin 512) (b : Fin 128), x = ix2 a b := ⟨x 0, x 1, eq_ix2 x⟩
  rw [pay24_at]
  have e : (Rect.unit (s := S512x512) ![0, 256 * h] S512x128.size i1).emb (ix2 a b) = ix2 a (⟨256 * h + b.val, by omega⟩ : Fin 512) := by
    funext k
    apply Fin.ext
    match k with
    | ⟨0, _⟩ => show 0 + 1 * a.val = a.val; omega
    | ⟨1, _⟩ => show 256 * h + 1 * b.val = 256 * h + b.val; omega
  rw [e]
  unfold vBlk
  refine Eq.trans ?_ (if_pos (by show (256 * h + b.val) % 256 < 128; omega)).symm
  exact View.ld_unit_apply_of x2 _ _ i0 _ _ fun k => by
      match k with
      | ⟨0, _⟩ => show a.val = 0 + a.val; omega
      | ⟨1, _⟩ => show ((256 * h + b.val) / 256 * 128 + (256 * h + b.val) % 256) % 256 = 128 * h + b.val; omega

theorem one_piece (h : ℕ) (hh : h < 2) (i1 : ∀ a, (![0, 256 * h + 128] : Fin 2 → ℕ) a + S512x128.size a ≤ S512x512.size a) (x : S512x128.Idx) :
    (k0_pay22 (F := Ideal) (Scalar.ofBits .bf16 0x3F80#16) x : EReal) = vBlk x2 ((Rect.unit (s := S512x512) ![0, 256 * h + 128] S512x128.size i1).emb x) := by
  obtain ⟨a, b, rfl⟩ : ∃ (a : Fin 512) (b : Fin 128), x = ix2 a b := ⟨x 0, x 1, eq_ix2 x⟩
  unfold vBlk
  refine Eq.trans ?_ (if_neg (by show ¬ (256 * h + 128 + 1 * b.val) % 256 < 128; omega)).symm
  pointwise [k0_pay22]

theorem out13_at (y : S512x512.Idx) : (out0_13 (F := Ideal) x0 x1 x2 x3 x4 x5 x6 x7 x8 x9 x10 y : EReal) = vBlk x2 y := by
  unfold_out out0_13
  refine View.canon_apply_of_pieces (Val := Elt Ideal) (e := .bf16) (vBlk x2) _ ?_ y (cover0_13 _ _ _ _ y)
  exact List.forall_mem_cons.2 ⟨one_piece x2 1 (by decide) (by decide), List.forall_mem_cons.2 ⟨v_piece x2 1 (by decide) (by decide) (by decide),
    List.forall_mem_cons.2 ⟨one_piece x2 0 (by decide) (by decide), List.forall_mem_cons.2 ⟨v_piece x2 0 (by decide) (by decide) (by decide),
    fun _ hp => absurd hp List.not_mem_nil⟩⟩⟩⟩

/-- The block of indexer queries. -/
def iqBlk (y : S1x4x512x128.Idx) : EReal :=
  x3 (ix2 (y 2) ⟨128 * (y 1).val + (y 3).val, by have h1 : (y 1).val < 4 := (y 1).isLt; have h3 : (y 3).val < 128 := (y 3).isLt; omega⟩) * x7 (ix2 (y 2) (y 3))
    + x3 (ix2 (y 2) ⟨128 * (y 1).val + (near (y 3)).val, by have h1 : (y 1).val < 4 := (y 1).isLt; have h3 : (near (y 3)).val < 128 := (near (y 3)).isLt; omega⟩) * x8 (ix2 (y 2) (y 3))

theorem iq_piece (h : ℕ) (hh : h < 4) (i0 : ∀ a, (![0, 128 * h] : Fin 2 → ℕ) a + S512x128.size a ≤ S512x512.size a)
    (i1 : ∀ a, (![0, h, 0, 0] : Fin 4 → ℕ) a + S1x1x512x128.size a ≤ S1x4x512x128.size a) (x : S1x1x512x128.Idx) :
    (k0_pay30 (F := Ideal) (View.ld x7 r0_0) (View.ld x8 r0_0) k0_pay5 (View.ld x3 (Rect.unit (s := S512x512) ![0, 128 * h] S512x128.size i0)) x : EReal)
      = iqBlk x3 x7 x8 ((Rect.unit (s := S1x4x512x128) ![0, h, 0, 0] S1x1x512x128.size i1).emb x) := by
  obtain ⟨p, q, a, b, rfl⟩ : ∃ (p q : Fin 1) (a : Fin 512) (b : Fin 128), x = ix4 p q a b := ⟨x 0, x 1, x 2, x 3, eq_ix4 x⟩
  rw [pay30_at]
  have e : (Rect.unit (s := S1x4x512x128) ![0, h, 0, 0] S1x1x512x128.size i1).emb (ix4 p q a b) = ix4 (0 : Fin 1) ⟨h, hh⟩ a b := by
    funext k
    apply Fin.ext
    match k with
    | ⟨0, _⟩ => show 0 + 1 * p.val = 0; omega
    | ⟨1, _⟩ => show h + 1 * q.val = h; omega
    | ⟨2, _⟩ => show 0 + 1 * a.val = a.val; omega
    | ⟨3, _⟩ => show 0 + 1 * b.val = b.val; omega
  rw [e]
  have l0 : ∀ b : Fin 128, View.ld x3 (Rect.unit (s := S512x512) ![0, 128 * h] S512x128.size i0) (ix2 a b) = x3 (ix2 a ⟨128 * h + b.val, by omega⟩) :=
    fun b => View.ld_unit_apply_of x3 _ _ i0 _ _ fun k => by
      match k with
      | ⟨0, _⟩ => show a.val = 0 + a.val; omega
      | ⟨1, _⟩ => rfl
  have l7 : View.ld x7 r0_0 = x7 := View.ld_unit_lit _ _ (by decide)
  have l8 : View.ld x8 r0_0 = x8 := View.ld_unit_lit _ _ (by decide)
  rw [l0, l0, l7, l8]
  rfl

theorem out14_at (y : S1x4x512x128.Idx) : (out0_14 (F := Ideal) x0 x1 x2 x3 x4 x5 x6 x7 x8 x9 x10 y : EReal) = iqBlk x3 x7 x8 y := by
  unfold_out out0_14
  refine View.canon_apply_of_pieces (Val := Elt Ideal) (e := .bf16) (iqBlk x3 x7 x8) _ ?_ y (cover0_14 _ _ _ _ y)
  exact List.forall_mem_cons.2 ⟨iq_piece x3 x7 x8 3 (by decide) (by decide) (by decide), List.forall_mem_cons.2 ⟨iq_piece x3 x7 x8 2 (by decide) (by decide) (by decide),
    List.forall_mem_cons.2 ⟨iq_piece x3 x7 x8 1 (by decide) (by decide) (by decide), List.forall_mem_cons.2 ⟨iq_piece x3 x7 x8 0 (by decide) (by decide) (by decide),
    fun _ hp => absurd hp List.not_mem_nil⟩⟩⟩⟩

/-- The indexer's key at row `a` of the block. -/
def ikRow (a : Fin 512) : Fin 64 → EReal :=
  turned (fun k => x4 (ix2 a ⟨k.val, by omega⟩)) (fun k => x9 (ix2 0 ⟨k.val, by omega⟩)) (fun k => x10 (ix2 0 ⟨k.val, by omega⟩))
    (fun k => x7 (ix2 a ⟨k.val, by omega⟩)) (fun k => x8 (ix2 a ⟨k.val, by omega⟩))

theorem out15_at (a : Fin 512) (b : Fin 128) : (out0_15 (F := Ideal) x0 x1 x2 x3 x4 x5 x6 x7 x8 x9 x10 (ix2 a b) : EReal)
    = if hb : b.val < 64 then ikRow x4 x7 x8 x9 x10 a ⟨b.val, hb⟩ else 0 := by
  unfold_out out0_15
  frame_out
  rw [pay2_at]
  exact pay1_at x7 x8 _ pay35_at x4 x9 x10 a b

theorem out16_at (a : Fin 512) (b : Fin 128) : (out0_16 (F := Ideal) x0 x1 x2 x3 x4 x5 x6 x7 x8 x9 x10 (ix2 a b) : EReal)
    = if hb : b.val < 64 then 0 else ikRow x4 x7 x8 x9 x10 a ⟨b.val - 64, by omega⟩ := by
  unfold_out out0_16
  frame_out
  rw [pay3_at]
  refine (pay1_at x7 x8 _ pay35_at x4 x9 x10 a (far b)).trans ?_
  by_cases hb : b.val < 64
  · rw [dif_pos hb]
    exact dif_neg (by show ¬ (b.val + 64) % 128 < 64; omega)
  · rw [dif_neg hb]
    refine (dif_pos (show (b.val + 64) % 128 < 64 by omega)).trans ?_
    exact congrArg (ikRow x4 x7 x8 x9 x10 a) (Fin.ext (by show (b.val + 64) % 128 = b.val - 64; omega))

theorem out17_at (a : Fin 512) (b : Fin 128) : (out0_17 (F := Ideal) x0 x1 x2 x3 x4 x5 x6 x7 x8 x9 x10 (ix2 a b) : EReal)
    = x4 (ix2 a b) * Ideal.ofBits FTy.f32 0x3EB504F3#32 * Ideal.ofBits FTy.f32 0x3E000000#32 := by
  unfold_out out0_17
  frame_out
  rw [pay4_at]
-- ==== Proof.AttValue.lean ====
/- The attention inputs: the kernel's seven arrays are the reference's. -/
module

public import proofs.«01_k».proof.Proof.AttPay
public import proofs.«01_k».proof.Proof.AttRef

@[expose] public section

set_option maxRecDepth 16384

noncomputable section

namespace Cert.Kernel8Ideal.RefValue

open Cert.Reference8Ideal.Att (ln turned key same)
open Cert.Kernel8Ideal Cert.Kernel8Ideal.Gen Idealize.ShloMosaic Idealize.ShloMosaic.TcCoe Idealize.SL.Sem
open Cert.Reference8Ideal.Read

variable (m : (ℓ : Loc nD τ sig) → Buf (Elt Ideal) ℓ)

/-- The windows' block indices: the rows go with the grid point, the columns stay. -/
theorem idx (t : Fin cfg0.N) : win0_0.index t = ![t.val, 0] ∧ win0_1.index t = ![t.val, 56] ∧ win0_2.index t = ![t.val, 57] ∧ win0_3.index t = ![t.val, 29] ∧ win0_4.index t = ![t.val, 120]
    ∧ win0_5.index t = ![t.val, 0] ∧ win0_6.index t = ![t.val, 0] ∧ win0_7.index t = ![t.val, 0] ∧ win0_8.index t = ![t.val, 0] ∧ win0_9.index t = ![0, 0] ∧ win0_10.index t = ![0, 0] :=
  (by decide +kernel : ∀ t : Fin grid0.N, win0_0.index t = ![t.val, 0] ∧ win0_1.index t = ![t.val, 56] ∧ win0_2.index t = ![t.val, 57] ∧ win0_3.index t = ![t.val, 29] ∧ win0_4.index t = ![t.val, 120]
    ∧ win0_5.index t = ![t.val, 0] ∧ win0_6.index t = ![t.val, 0] ∧ win0_7.index t = ![t.val, 0] ∧ win0_8.index t = ![t.val, 0] ∧ win0_9.index t = ![0, 0] ∧ win0_10.index t = ![0, 0]) t

theorem blk0 (c : Dev nD) (t : Fin cfg0.N) (a : Fin 512) (j : Fin 2048) (r k : Fin 16384) (hr : r.val = t.val * 512 + a.val) (hk : k.val = 0 + j.val) :
    iblk m c 0 t (ix2 a j) = m ((c : Thread nD τ).loc main_arg0) (ix2 r k) := by
  obtain ⟨e, -⟩ := idx t
  blk_ext [iblk, e]

theorem blk1 (c : Dev nD) (t : Fin cfg0.N) (a : Fin 512) (j : Fin 256) (r k : Fin 16384) (hr : r.val = t.val * 512 + a.val) (hk : k.val = 14336 + j.val) :
    iblk m c 1 t (ix2 a j) = m ((c : Thread nD τ).loc main_arg0) (ix2 r k) := by
  obtain ⟨-, e, -⟩ := idx t
  blk_ext [iblk, e]

theorem blk2 (c : Dev nD) (t : Fin cfg0.N) (a : Fin 512) (j : Fin 256) (r k : Fin 16384) (hr : r.val = t.val * 512 + a.val) (hk : k.val = 14592 + j.val) :
    iblk m c 2 t (ix2 a j) = m ((c : Thread nD τ).loc main_arg0) (ix2 r k) := by
  obtain ⟨-, -, e, -⟩ := idx t
  blk_ext [iblk, e]

theorem blk3 (c : Dev nD) (t : Fin cfg0.N) (a : Fin 512) (j : Fin 512) (r k : Fin 16384) (hr : r.val = t.val * 512 + a.val) (hk : k.val = 14848 + j.val) :
    iblk m c 3 t (ix2 a j) = m ((c : Thread nD τ).loc main_arg0) (ix2 r k) := by
  obtain ⟨-, -, -, e, -⟩ := idx t
  blk_ext [iblk, e]

theorem blk4 (c : Dev nD) (t : Fin cfg0.N) (a : Fin 512) (j : Fin 128) (r k : Fin 16384) (hr : r.val = t.val * 512 + a.val) (hk : k.val = 15360 + j.val) :
    iblk m c 4 t (ix2 a j) = m ((c : Thread nD τ).loc main_arg0) (ix2 r k) := by
  obtain ⟨-, -, -, -, e, -⟩ := idx t
  blk_ext [iblk, e]

theorem blk5 (c : Dev nD) (t : Fin cfg0.N) (a : Fin 512) (j : Fin 128) (r : Fin 16384) (hr : r.val = t.val * 512 + a.val) :
    iblk m c 5 t (ix2 a j) = m ((c : Thread nD τ).loc main_arg1) (ix2 r j) := by
  obtain ⟨-, -, -, -, -, e, -⟩ := idx t
  blk_ext [iblk, e]

theorem blk6 (c : Dev nD) (t : Fin cfg0.N) (a : Fin 512) (j : Fin 128) (r : Fin 16384) (hr : r.val = t.val * 512 + a.val) :
    iblk m c 6 t (ix2 a j) = m ((c : Thread nD τ).loc main_arg2) (ix2 r j) := by
  obtain ⟨-, -, -, -, -, -, e, -⟩ := idx t
  blk_ext [iblk, e]

theorem blk7 (c : Dev nD) (t : Fin cfg0.N) (a : Fin 512) (j : Fin 128) (r : Fin 16384) (hr : r.val = t.val * 512 + a.val) :
    iblk m c 7 t (ix2 a j) = m ((c : Thread nD τ).loc main_arg3) (ix2 r j) := by
  obtain ⟨-, -, -, -, -, -, -, e, -⟩ := idx t
  blk_ext [iblk, e]

theorem blk8 (c : Dev nD) (t : Fin cfg0.N) (a : Fin 512) (j : Fin 128) (r : Fin 16384) (hr : r.val = t.val * 512 + a.val) :
    iblk m c 8 t (ix2 a j) = m ((c : Thread nD τ).loc main_arg4) (ix2 r j) := by
  obtain ⟨-, -, -, -, -, -, -, -, e, -⟩ := idx t
  blk_ext [iblk, e]

theorem row9 (c : Dev nD) (k : Fin 64) : V m c main_v2 (ix2 (0 : Fin 1) (⟨k.val, by omega⟩ : Fin 128)) = m ((c : Thread nD τ).loc main_arg5) (ix1 k) := by
  entry_read
  pointwise

theorem blk9 (c : Dev nD) (t : Fin cfg0.N) (k : Fin 64) :
    iblk m c 9 t (ix2 (0 : Fin 1) (⟨k.val, by omega⟩ : Fin 128)) = m ((c : Thread nD τ).loc main_arg5) (ix1 k) := by
  obtain ⟨-, -, -, -, -, -, -, -, -, e, -⟩ := idx t
  rw [← row9 m c]
  blk_ext [iblk, e]

theorem row10 (c : Dev nD) (k : Fin 64) : V m c main_v4 (ix2 (0 : Fin 1) (⟨k.val, by omega⟩ : Fin 128)) = m ((c : Thread nD τ).loc main_arg6) (ix1 k) := by
  entry_read
  pointwise

theorem blk10 (c : Dev nD) (t : Fin cfg0.N) (k : Fin 64) :
    iblk m c 10 t (ix2 (0 : Fin 1) (⟨k.val, by omega⟩ : Fin 128)) = m ((c : Thread nD τ).loc main_arg6) (ix1 k) := by
  obtain ⟨-, -, -, -, -, -, -, -, -, -, e⟩ := idx t
  rw [← row10 m c]
  blk_ext [iblk, e]

theorem final11 (c : Dev nD) : (dats m 0 c).arrAt 11 cfg0.N = val_main_v79 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  have e := (by decide +kernel : ∀ t : Fin grid0.N, win0_11.index t = ![t.val, 0, 0, 0]) t
  obtain ⟨z, h, a, b, rfl⟩ : ∃ (z : Fin 1) (h : Fin 16) (a : Fin 512) (b : Fin 128), y = ix4 z h a b := ⟨y 0, y 1, y 2, y 3, eq_ix4 y⟩
  have ht : t.val < 32 := t.isLt
  blk_simp
  rw [after0_11]
  have hr : ((View.whole main_v5_0).slice (win0_11.rect t)).emb (ix4 z h a b) = ix4 (⟨t.val, ht⟩ : Fin 32) h a b := by
    have hz : z.val = 0 := by omega
    funext q
    apply Fin.ext
    match q with
    | ⟨0, _⟩ => blk_simp [e, hz]
    | ⟨1, _⟩ => blk_simp [e]
    | ⟨2, _⟩ => blk_simp [e]
    | ⟨3, _⟩ => blk_simp [e]
  rw [hr]
  refine Eq.trans ?_ (Cert.Reference8Ideal.Att.v79_at (m ((c : Thread nD τ).loc main_arg0)) (m ((c : Thread nD τ).loc main_arg1)) (m ((c : Thread nD τ).loc main_arg2)) ⟨t.val, ht⟩ h a b (⟨t.val * 512 + a.val, by omega⟩ : Fin 16384) ⟨128 * h.val + b.val, by omega⟩ ⟨128 * h.val + (b.val + 64) % 128, by omega⟩ rfl rfl rfl).symm
  refine (out11_at _ _ _ _ _ _ _ _ _ _ _ (ix4 z h a b)).trans ?_
  unfold qBlk
  refine congrArg (· * _) (congrArg₂ (· + ·) (congrArg₂ (· * ·) ?_ ?_) (congrArg₂ (· * ·) ?_ ?_))
  · exact blk0 m c t a _ _ _ rfl (by show 128 * h.val + b.val = 0 + (128 * h.val + b.val); omega)
  · exact blk5 m c t a b _ rfl
  · exact blk0 m c t a _ _ _ rfl (by show 128 * h.val + (b.val + 64) % 128 = 0 + (128 * h.val + (b.val + 64) % 128); omega)
  · exact blk6 m c t a b _ rfl

theorem final12 (c : Dev nD) : (dats m 0 c).arrAt 12 cfg0.N = val_main_v81 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  have e := (by decide +kernel : ∀ t : Fin grid0.N, win0_12.index t = ![t.val, 0]) t
  obtain ⟨a, b, rfl⟩ : ∃ (a : Fin 512) (b : Fin 256), y = ix2 a b := ⟨y 0, y 1, eq_ix2 y⟩
  have ht : t.val < 32 := t.isLt
  blk_simp
  rw [after0_12]
  obtain ⟨r, hr, h0⟩ : ∃ r : Fin 16384, ((View.whole main_v5_1).slice (win0_12.rect t)).emb (ix2 a b) = ix2 r b ∧ r.val = t.val * 512 + a.val :=
    ⟨((View.whole main_v5_1).slice (win0_12.rect t)).emb (ix2 a b) 0, (eq_ix2 _).trans (congrArg (ix2 _) (Fin.ext (by blk_simp [e]))), by blk_simp [e]⟩
  rw [hr]
  refine Eq.trans ?_ (Cert.Reference8Ideal.Att.v81_at (m ((c : Thread nD τ).loc main_arg0)) (m ((c : Thread nD τ).loc main_arg1)) (m ((c : Thread nD τ).loc main_arg2)) r b ⟨b.val / 128, by omega⟩ ⟨b.val % 128, by omega⟩
    ⟨14336 + 128 * (b.val / 128) + b.val % 128, by omega⟩ ⟨14336 + 128 * (b.val / 128) + (b.val % 128 + 64) % 128, by omega⟩ (by show b.val = 128 * (b.val / 128) + b.val % 128; omega) rfl rfl).symm
  refine (out12_at _ _ _ _ _ _ _ _ _ _ _ (ix2 a b)).trans ?_
  unfold kBlk
  refine congrArg₂ (· + ·) (congrArg₂ (· * ·) ?_ ?_) (congrArg₂ (· * ·) ?_ ?_)
  · exact blk1 m c t a _ _ _ h0 (by show 14336 + 128 * (b.val / 128) + b.val % 128 = 14336 + b.val; omega)
  · exact blk5 m c t a _ _ h0
  · exact blk1 m c t a _ _ _ h0 (by show 14336 + 128 * (b.val / 128) + (b.val % 128 + 64) % 128 = 14336 + (128 * (b.val / 128) + (b.val % 128 + 64) % 128); omega)
  · exact blk6 m c t a _ _ h0

theorem final13 (c : Dev nD) : (dats m 0 c).arrAt 13 cfg0.N = val_main_v83 (F := Ideal) (m ((c : Thread nD τ).loc main_arg0)) := by
  refine (dats m 0 c).arrAt_eq_of_covers 13 _ (by decide +kernel) fun t hf y => ?_
  have e := (by decide +kernel : ∀ t : Fin grid0.N, win0_13.index t = ![t.val, 0]) t
  obtain ⟨a, b, rfl⟩ : ∃ (a : Fin 512) (b : Fin 512), y = ix2 a b := ⟨y 0, y 1, eq_ix2 y⟩
  have ht : t.val < 32 := t.isLt
  blk_simp
  rw [after0_13]
  obtain ⟨r, hr, h0⟩ : ∃ r : Fin 16384, ((View.whole main_v5_2).slice (win0_13.rect t)).emb (ix2 a b) = ix2 r b ∧ r.val = t.val * 512 + a.val :=
    ⟨((View.whole main_v5_2).slice (win0_13.rect t)).emb (ix2 a b) 0, (eq_ix2 _).trans (congrArg (ix2 _) (Fin.ext (by blk_simp [e]))), by blk_simp [e]⟩
  rw [hr]
  refine Eq.trans ?_ (Cert.Reference8Ideal.Att.v83_at (m ((c : Thread nD τ).loc main_arg0)) r b ⟨14592 + (b.val / 256 * 128 + b.val % 256) % 256, by omega⟩ (fun h => by show 14592 + (b.val / 256 * 128 + b.val % 256) % 256 = _; omega)).symm
  refine (out13_at _ _ _ _ _ _ _ _ _ _ _ (ix2 a b)).trans ?_
  unfold vBlk
  exact congrArg (fun v : EReal => if b.val % 256 < 128 then v else 1) (blk2 m c t a _ _ _ h0 rfl)

theorem final14 (c : Dev nD) : (dats m 0 c).arrAt 14 cfg0.N = val_main_v86 (F := Ideal) (m ((c : Thread nD τ).loc main_arg0)) (m ((c : Thread nD τ).loc main_arg3)) (m ((c : Thread nD τ).loc main_arg4)) := by
  refine (dats m 0 c).arrAt_eq_of_covers 14 _ (by decide +kernel) fun t hf y => ?_
  have e := (by decide +kernel : ∀ t : Fin grid0.N, win0_14.index t = ![t.val, 0, 0, 0]) t
  obtain ⟨z, h, a, b, rfl⟩ : ∃ (z : Fin 1) (h : Fin 4) (a : Fin 512) (b : Fin 128), y = ix4 z h a b := ⟨y 0, y 1, y 2, y 3, eq_ix4 y⟩
  have ht : t.val < 32 := t.isLt
  blk_simp
  rw [after0_14]
  have hr : ((View.whole main_v5_3).slice (win0_14.rect t)).emb (ix4 z h a b) = ix4 (⟨t.val, ht⟩ : Fin 32) h a b := by
    have hz : z.val = 0 := by omega
    funext q
    apply Fin.ext
    match q with
    | ⟨0, _⟩ => blk_simp [e, hz]
    | ⟨1, _⟩ => blk_simp [e]
    | ⟨2, _⟩ => blk_simp [e]
    | ⟨3, _⟩ => blk_simp [e]
  rw [hr]
  refine Eq.trans ?_ (Cert.Reference8Ideal.Att.v86_at (m ((c : Thread nD τ).loc main_arg0)) (m ((c : Thread nD τ).loc main_arg3)) (m ((c : Thread nD τ).loc main_arg4)) ⟨t.val, ht⟩ h a b (⟨t.val * 512 + a.val, by omega⟩ : Fin 16384) ⟨14848 + 128 * h.val + b.val, by omega⟩ ⟨14848 + 128 * h.val + (64 * (b.val / 64) + (b.val % 64 + 32) % 64), by omega⟩ rfl rfl rfl).symm
  refine (out14_at _ _ _ _ _ _ _ _ _ _ _ (ix4 z h a b)).trans ?_
  unfold iqBlk
  have hn : (near b).val = 64 * (b.val / 64) + (b.val % 64 + 32) % 64 := (by decide : ∀ b : Fin 128, (near b).val = 64 * (b.val / 64) + (b.val % 64 + 32) % 64) b
  refine congrArg₂ (· + ·) (congrArg₂ (· * ·) ?_ ?_) (congrArg₂ (· * ·) ?_ ?_)
  · exact blk3 m c t a _ _ _ rfl (by show 14848 + 128 * h.val + b.val = 14848 + (128 * h.val + b.val); omega)
  · exact blk7 m c t a b _ rfl
  · exact blk3 m c t a _ _ _ rfl (by show 14848 + 128 * h.val + (64 * (b.val / 64) + (b.val % 64 + 32) % 64) = 14848 + (128 * h.val + (near b).val); omega)
  · exact blk8 m c t a b _ rfl

/-- A grid point's row of the indexer's key is the reference's. -/
theorem key_row (c : Dev nD) (t : Fin cfg0.N) (a : Fin 512) (r : Fin 16384) (hr : r.val = t.val * 512 + a.val) :
    ikRow (iblk m c 4 t) (iblk m c 7 t) (iblk m c 8 t) (iblk m c 9 t) (iblk m c 10 t) a
      = Cert.Reference8Ideal.Att.key (m ((c : Thread nD τ).loc main_arg0)) (m ((c : Thread nD τ).loc main_arg3)) (m ((c : Thread nD τ).loc main_arg4)) (m ((c : Thread nD τ).loc main_arg5)) (m ((c : Thread nD τ).loc main_arg6)) r := by
  unfold ikRow Cert.Reference8Ideal.Att.key
  have h0 : (fun k : Fin 64 => (iblk m c 4 t (ix2 a (⟨k.val, by omega⟩ : Fin 128)) : EReal)) = fun k => (m ((c : Thread nD τ).loc main_arg0)) (ix2 r (⟨15360 + k.val, by omega⟩ : Fin 16384)) :=
    funext fun k => blk4 m c t a _ r _ hr rfl
  have h1 : (fun k : Fin 64 => (iblk m c 9 t (ix2 (0 : Fin 1) (⟨k.val, by omega⟩ : Fin 128)) : EReal)) = fun k => (m ((c : Thread nD τ).loc main_arg5)) (ix1 k) := funext fun k => blk9 m c t k
  have h2 : (fun k : Fin 64 => (iblk m c 10 t (ix2 (0 : Fin 1) (⟨k.val, by omega⟩ : Fin 128)) : EReal)) = fun k => (m ((c : Thread nD τ).loc main_arg6)) (ix1 k) := funext fun k => blk10 m c t k
  have h3 : (fun k : Fin 64 => (iblk m c 7 t (ix2 a (⟨k.val, by omega⟩ : Fin 128)) : EReal)) = fun k => (m ((c : Thread nD τ).loc main_arg3)) (ix2 r (⟨k.val, by omega⟩ : Fin 128)) :=
    funext fun k => blk7 m c t a _ r hr
  have h4 : (fun k : Fin 64 => (iblk m c 8 t (ix2 a (⟨k.val, by omega⟩ : Fin 128)) : EReal)) = fun k => (m ((c : Thread nD τ).loc main_arg4)) (ix2 r (⟨k.val, by omega⟩ : Fin 128)) :=
    funext fun k => blk8 m c t a _ r hr
  exact (congrArg (fun f => turned f _ _ _ _) h0).trans ((congrArg₂ (fun g h => turned _ g h _ _) h1 h2).trans (congrArg₂ (fun g h => turned _ _ _ g h) h3 h4))

theorem final15 (c : Dev nD) : (dats m 0 c).arrAt 15 cfg0.N = val_main_v88 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (dats m 0 c).arrAt_eq_of_covers 15 _ (by decide +kernel) fun t hf y => ?_
  have e := (by decide +kernel : ∀ t : Fin grid0.N, win0_15.index t = ![t.val, 0]) t
  obtain ⟨a, b, rfl⟩ : ∃ (a : Fin 512) (b : Fin 128), y = ix2 a b := ⟨y 0, y 1, eq_ix2 y⟩
  have ht : t.val < 32 := t.isLt
  blk_simp
  rw [after0_15]
  obtain ⟨r, hr, h0⟩ : ∃ r : Fin 16384, ((View.whole main_v5_4).slice (win0_15.rect t)).emb (ix2 a b) = ix2 r b ∧ r.val = t.val * 512 + a.val :=
    ⟨((View.whole main_v5_4).slice (win0_15.rect t)).emb (ix2 a b) 0, (eq_ix2 _).trans (congrArg (ix2 _) (Fin.ext (by blk_simp [e]))), by blk_simp [e]⟩
  rw [hr]
  refine Eq.trans ?_ (Cert.Reference8Ideal.Att.v88_at (m ((c : Thread nD τ).loc main_arg0)) (m ((c : Thread nD τ).loc main_arg3)) (m ((c : Thread nD τ).loc main_arg4)) (m ((c : Thread nD τ).loc main_arg5)) (m ((c : Thread nD τ).loc main_arg6)) r b).symm
  refine (out15_at _ _ _ _ _ _ _ _ _ _ _ a b).trans ?_
  exact congrArg (fun f : Fin 64 → EReal => if h : b.val < 64 then f ⟨b.val, h⟩ else 0) (key_row m c t a r h0)

theorem final16 (c : Dev nD) : (dats m 0 c).arrAt 16 cfg0.N = val_main_v90 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (dats m 0 c).arrAt_eq_of_covers 16 _ (by decide +kernel) fun t hf y => ?_
  have e := (by decide +kernel : ∀ t : Fin grid0.N, win0_16.index t = ![t.val, 0]) t
  obtain ⟨a, b, rfl⟩ : ∃ (a : Fin 512) (b : Fin 128), y = ix2 a b := ⟨y 0, y 1, eq_ix2 y⟩
  have ht : t.val < 32 := t.isLt
  blk_simp
  rw [after0_16]
  obtain ⟨r, hr, h0⟩ : ∃ r : Fin 16384, ((View.whole main_v5_5).slice (win0_16.rect t)).emb (ix2 a b) = ix2 r b ∧ r.val = t.val * 512 + a.val :=
    ⟨((View.whole main_v5_5).slice (win0_16.rect t)).emb (ix2 a b) 0, (eq_ix2 _).trans (congrArg (ix2 _) (Fin.ext (by blk_simp [e]))), by blk_simp [e]⟩
  rw [hr]
  refine Eq.trans ?_ (Cert.Reference8Ideal.Att.v90_at (m ((c : Thread nD τ).loc main_arg0)) (m ((c : Thread nD τ).loc main_arg3)) (m ((c : Thread nD τ).loc main_arg4)) (m ((c : Thread nD τ).loc main_arg5)) (m ((c : Thread nD τ).loc main_arg6)) r b).symm
  refine (out16_at _ _ _ _ _ _ _ _ _ _ _ a b).trans ?_
  exact congrArg (fun f : Fin 64 → EReal => if h : b.val < 64 then 0 else f ⟨b.val - 64, by omega⟩) (key_row m c t a r h0)

theorem final17 (c : Dev nD) : (dats m 0 c).arrAt 17 cfg0.N = val_main_v94 (F := Ideal) (m ((c : Thread nD τ).loc main_arg0)) := by
  refine (dats m 0 c).arrAt_eq_of_covers 17 _ (by decide +kernel) fun t hf y => ?_
  have e := (by decide +kernel : ∀ t : Fin grid0.N, win0_17.index t = ![t.val, 0]) t
  obtain ⟨a, b, rfl⟩ : ∃ (a : Fin 512) (b : Fin 128), y = ix2 a b := ⟨y 0, y 1, eq_ix2 y⟩
  have ht : t.val < 32 := t.isLt
  blk_simp
  rw [after0_17]
  obtain ⟨r, hr, h0⟩ : ∃ r : Fin 16384, ((View.whole main_v5_6).slice (win0_17.rect t)).emb (ix2 a b) = ix2 r b ∧ r.val = t.val * 512 + a.val :=
    ⟨((View.whole main_v5_6).slice (win0_17.rect t)).emb (ix2 a b) 0, (eq_ix2 _).trans (congrArg (ix2 _) (Fin.ext (by blk_simp [e]))), by blk_simp [e]⟩
  rw [hr]
  refine Eq.trans ?_ (Cert.Reference8Ideal.Att.v94_at (m ((c : Thread nD τ).loc main_arg0)) r b ⟨15360 + b.val, by omega⟩ rfl).symm
  refine (out17_at _ _ _ _ _ _ _ _ _ _ _ a b).trans ?_
  exact congrArg (fun v : EReal => v * Ideal.ofBits FTy.f32 0x3EB504F3#32 * Ideal.ofBits FTy.f32 0x3E000000#32) (blk4 m c t a b r _ h0 rfl)
-- ==== Proof.lean ====
/- The claim of the certificate, put together: the generated frames, and for each call the equation of the kernel's result
   and the reference's, from that call's own modules. -/
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Pre_is_expert
public import proofs.«01_k».proof.Proof.Gen.Reference5Ideal.Run
public import proofs.«01_k».proof.Proof.Gen.Reference5Ideal.Read
public import proofs.«01_k».proof.Proof.Gather
public import proofs.«01_k».proof.Proof.CombPre
public import proofs.«01_k».proof.Proof.CombBitsFrame
public import proofs.«01_k».proof.Proof.CombValue
public import proofs.«01_k».proof.Proof.PosValue
public import proofs.«01_k».proof.Proof.TrigValue
public import proofs.«01_k».proof.Proof.AttValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7⟩ := hagree c
  rw [(h c).1, Cert.KernelIdeal.Gdn.final m c, Cert.ReferenceIdeal.Trips.result_eq m' c]
  unfold Cert.ReferenceIdeal.Trips.result Cert.ReferenceIdeal.Trips.first Cert.KernelIdeal.Gdn.result
  rw [a0, a1, a2, a3, a4, a5, a6, a7]
  funext i
  obtain ⟨r, k, rfl⟩ : ∃ (r : Fin 16384) (k : Fin 2048), i = ix2 r k := ⟨i 0, i 1, eq_ix2 i⟩
  exact Cert.ReferenceIdeal.Trips.result_at _ _ _ _ _ _ _ _ r k

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨a0, a1⟩ := hagree c
  rw [(h c).1, Cert.Kernel2Ideal.RefValue.final m c, a0, a1]
  rfl

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨a0, a1, a2, a3, a4⟩ := hagree c
  rw [(h c).1, Cert.Kernel3Ideal.RefValue.final m c, a0, a1, a2, a3, a4]
  rfl

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨a0, a1, a2⟩ := hagree c
  rw [(h c).1, Cert.Kernel4Ideal.RefValue.final m c, a0, a1, a2]
  rfl

theorem frame_Kernel5 : quiescent_Kernel5 := fun m ρ h =>
  Cert.Kernel5.Gen.frame_quiescent m ρ fun c => Cert.Pre_in_range.below _ _ _ _ _ _ _ _ (h c)

theorem frame_Kernel5Ideal : quiescent_Kernel5Ideal := fun m ρ h =>
  Cert.Kernel5Ideal.Gen.frame_quiescent m ρ fun c => Cert.Pre_in_range.below _ _ _ _ _ _ _ _ (h c)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' hpre hagree
  have hin : ∀ c, Cert.Kernel5Ideal.Gen.InRange m c := fun c => Cert.Pre_in_range.below _ _ _ _ _ _ _ _ (hpre c)
  refine ⟨_, (θ_run Cert.Kernel5Ideal.defs _ _).mono (fun _ h => h.1) (Cert.Kernel5Ideal.Gen.run_blocks (F := Ideal) m ρ hin), ?_⟩
  refine (θ_run Cert.Reference5Ideal.defs _ _).mono (fun _ h c => ⟨?_, (h c).2⟩) (Cert.Reference5Ideal.Value.run (F := Ideal) m' ρ')
  obtain ⟨a0, a1, a2, a3, a4, a5, a6, a7⟩ := hagree c
  rw [(h c).1, Cert.Kernel5Ideal.Gen.final m c (hin c), Cert.Reference5Ideal.Read.val_main_v49_eq, a0, a1, a2, a3, a4, a5, a6, a7]

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal_pre_is_expert := by
  intro m ρ m' ρ' hpre hagree
  refine ⟨_, (θ_run Cert.Kernel6Ideal.defs _ _).mono (fun _ h c => ⟨(h.1 c).1 2, h.2 c⟩)
    (θ_run_and (Cert.Kernel6Ideal.Gen.run_main (F := Ideal) m ρ trivial) (Cert.Kernel6Ideal.Gen.unchanged (F := Ideal) m ρ trivial)), ?_⟩
  refine (θ_run Cert.Reference6Ideal.defs _ _).mono (fun _ h c => ⟨?_, (h c).2⟩) (Cert.Reference6Ideal.Value.run (F := Ideal) m' ρ')
  obtain ⟨a0, a1, a2⟩ := hagree c
  refine ((h c).1.trans ?_).trans (Cert.Kernel6Ideal.RefValue.final m trivial c (Cert.Pre_is_expert.below (F := Ideal) _ _ _ (hpre c))).symm
  rw [Cert.Reference6Ideal.Read.val_main_v7_eq, a0, a1, a2]

theorem quiescent_Reference7Ideal : quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2.2.2.2.2.2, sem_eq_zero_of_no_sems (by decide) r.2⟩)
    (Cert.Reference8Ideal.Value.run (F := Ideal) m ρ)

theorem algebraic_Kernel7Ideal_Reference7Ideal : algebraic_Kernel7Ideal_Reference7Ideal := by
  intro m ρ m' ρ' _ hagree
  refine ⟨_, _, _, _, Cert.Kernel7Ideal.Value.run_blocks (F := Ideal) m ρ, ?_⟩
  refine (θ_run Cert.Reference7Ideal.defs _ _).mono (fun _ h c => ⟨?_, ?_, ?_, ?_, (h c).2.2.2.2⟩) (Cert.Reference7Ideal.Value.run (F := Ideal) m' ρ')
  · refine ((h c).1.trans ?_).trans (Cert.Kernel7Ideal.RefValue.final5 m c).symm
    rw [hagree c]
    rfl
  · refine ((h c).2.1.trans ?_).trans (Cert.Kernel7Ideal.RefValue.final6 m c).symm
    rw [hagree c]
    rfl
  · refine ((h c).2.2.1.trans ?_).trans (Cert.Kernel7Ideal.RefValue.final7 m c).symm
    rw [hagree c]
    rfl
  · refine ((h c).2.2.2.1.trans ?_).trans (Cert.Kernel7Ideal.RefValue.final8 m c).symm
    rw [hagree c]
    rfl

theorem algebraic_Kernel8Ideal_Reference8Ideal : algebraic_Kernel8Ideal_Reference8Ideal := by
  intro m ρ m' ρ' _ hagree
  refine ⟨_, _, _, _, _, _, _, Cert.Kernel8Ideal.Value.run_blocks (F := Ideal) m ρ, ?_⟩
  refine (θ_run Cert.Reference8Ideal.defs _ _).mono (fun _ h c => ⟨?_, ?_, ?_, ?_, ?_, ?_, ?_, (h c).2.2.2.2.2.2.2⟩) (Cert.Reference8Ideal.Value.run (F := Ideal) m' ρ')
  · refine ((h c).1.trans ?_).trans (Cert.Kernel8Ideal.RefValue.final11 m c).symm
    obtain ⟨e0, e1, e2, e3, e4, e5, e6⟩ := hagree c
    rw [e0, e1, e2]
    rfl
  · refine ((h c).2.1.trans ?_).trans (Cert.Kernel8Ideal.RefValue.final12 m c).symm
    obtain ⟨e0, e1, e2, e3, e4, e5, e6⟩ := hagree c
    rw [e0, e1, e2]
    rfl
  · refine ((h c).2.2.1.trans ?_).trans (Cert.Kernel8Ideal.RefValue.final13 m c).symm
    obtain ⟨e0, e1, e2, e3, e4, e5, e6⟩ := hagree c
    rw [e0]
    rfl
  · refine ((h c).2.2.2.1.trans ?_).trans (Cert.Kernel8Ideal.RefValue.final14 m c).symm
    obtain ⟨e0, e1, e2, e3, e4, e5, e6⟩ := hagree c
    rw [e0, e3, e4]
    rfl
  · refine ((h c).2.2.2.2.1.trans ?_).trans (Cert.Kernel8Ideal.RefValue.final15 m c).symm
    obtain ⟨e0, e1, e2, e3, e4, e5, e6⟩ := hagree c
    refine (Cert.Reference8Ideal.Read.val_main_v88_eq (F := Ideal) m' c).trans ?_
    rw [e0, e3, e4, e5, e6]
  · refine ((h c).2.2.2.2.2.1.trans ?_).trans (Cert.Kernel8Ideal.RefValue.final16 m c).symm
    obtain ⟨e0, e1, e2, e3, e4, e5, e6⟩ := hagree c
    refine (Cert.Reference8Ideal.Read.val_main_v90_eq (F := Ideal) m' c).trans ?_
    rw [e0, e3, e4, e5, e6]
  · refine ((h c).2.2.2.2.2.2.1.trans ?_).trans (Cert.Kernel8Ideal.RefValue.final17 m c).symm
    obtain ⟨e0, e1, e2, e3, e4, e5, e6⟩ := hagree c
    rw [e0]
    rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_in_range.Gen.facts, Cert.Pre_is_expert.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  frame_Kernel5, frame_Kernel5Ideal, quiescent_Reference5Ideal, fun m ρ _ => quiescent_Reference5Ideal m ρ trivial,
  fun m ρ _ => Cert.Kernel6.Gen.frame m ρ trivial, fun m ρ _ => Cert.Kernel6Ideal.Gen.frame m ρ trivial, fun m ρ _ => Cert.Kernel6Ideal.Gen.frame m ρ trivial,
  quiescent_Reference6Ideal, fun m ρ _ => quiescent_Reference6Ideal m ρ trivial,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal⟩

end Cert.Proof

end
